-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7)
      ∧ r.2.mem ((c.tc : Thread Cert.Kernel8.nD Cert.Kernel8.τ).loc Cert.Kernel8.main_arg8) = m ((c.tc : Thread Cert.Kernel8.nD Cert.Kernel8.τ).loc Cert.Kernel8.main_arg8)
      ∧ r.2.mem ((c.tc : Thread Cert.Kernel8.nD Cert.Kernel8.τ).loc Cert.Kernel8.main_arg9) = m ((c.tc : Thread Cert.Kernel8.nD Cert.Kernel8.τ).loc Cert.Kernel8.main_arg9))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
      ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8)
      ∧ r.2.mem ((c.tc : Thread Cert.Kernel8Ideal.nD Cert.Kernel8Ideal.τ).loc Cert.Kernel8Ideal.main_arg9) = m ((c.tc : Thread Cert.Kernel8Ideal.nD Cert.Kernel8Ideal.τ).loc Cert.Kernel8Ideal.main_arg9))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7)
      ∧ r.2.mem ((c.tc : Thread Cert.Reference8Ideal.nD Cert.Reference8Ideal.τ).loc Cert.Reference8Ideal.main_arg8) = m ((c.tc : Thread Cert.Reference8Ideal.nD Cert.Reference8Ideal.τ).loc Cert.Reference8Ideal.main_arg8)
      ∧ r.2.mem ((c.tc : Thread Cert.Reference8Ideal.nD Cert.Reference8Ideal.τ).loc Cert.Reference8Ideal.main_arg9) = m ((c.tc : Thread Cert.Reference8Ideal.nD Cert.Reference8Ideal.τ).loc Cert.Reference8Ideal.main_arg9))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v4_0)) (v1 : (c : Dev Cert.Kernel2Ideal.nD) → Buf (Elt Ideal) ((c.tc : Thread Cert.Kernel2Ideal.nD Cert.Kernel2Ideal.τ).loc Cert.Kernel2Ideal.main_v4_1)) (v2 : (c : Dev Cert.Kernel2Ideal.nD) → Buf (Elt Ideal) ((c.tc : Thread Cert.Kernel2Ideal.nD Cert.Kernel2Ideal.τ).loc Cert.Kernel2Ideal.main_v4_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4_0) = v0 c
          ∧ r.2.mem ((c.tc : Thread Cert.Kernel2Ideal.nD Cert.Kernel2Ideal.τ).loc Cert.Kernel2Ideal.main_v4_1) = v1 c
          ∧ r.2.mem ((c.tc : Thread Cert.Kernel2Ideal.nD Cert.Kernel2Ideal.τ).loc Cert.Kernel2Ideal.main_v4_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v32) = v0 c
          ∧ r.2.mem ((c.tc : Thread Cert.Reference2Ideal.nD Cert.Reference2Ideal.τ).loc Cert.Reference2Ideal.main_v35) = v1 c
          ∧ r.2.mem ((c.tc : Thread Cert.Reference2Ideal.nD Cert.Reference2Ideal.τ).loc Cert.Reference2Ideal.main_v38) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v7)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v7) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v26) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v4_0)) (v1 : (c : Dev Cert.Kernel4Ideal.nD) → Buf (Elt Ideal) ((c.tc : Thread Cert.Kernel4Ideal.nD Cert.Kernel4Ideal.τ).loc Cert.Kernel4Ideal.main_v4_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4_0) = v0 c
          ∧ r.2.mem ((c.tc : Thread Cert.Kernel4Ideal.nD Cert.Kernel4Ideal.τ).loc Cert.Kernel4Ideal.main_v4_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v27) = v0 c
          ∧ r.2.mem ((c.tc : Thread Cert.Reference4Ideal.nD Cert.Reference4Ideal.τ).loc Cert.Reference4Ideal.main_v29) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v13) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v13) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v4)) (v1 : (c : Dev Cert.Kernel7Ideal.nD) → Buf (Elt Ideal) ((c.tc : Thread Cert.Kernel7Ideal.nD Cert.Kernel7Ideal.τ).loc Cert.Kernel7Ideal.main_v5)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v4) = v0 c
          ∧ r.2.mem ((c.tc : Thread Cert.Kernel7Ideal.nD Cert.Kernel7Ideal.τ).loc Cert.Kernel7Ideal.main_v5) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v5) = v0 c
          ∧ r.2.mem ((c.tc : Thread Cert.Reference7Ideal.nD Cert.Reference7Ideal.τ).loc Cert.Reference7Ideal.main_v11) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)
      ∧ m' ((c.tc : Thread Cert.Reference8Ideal.nD Cert.Reference8Ideal.τ).loc Cert.Reference8Ideal.main_arg7) = m ((c.tc : Thread Cert.Kernel8Ideal.nD Cert.Kernel8Ideal.τ).loc Cert.Kernel8Ideal.main_arg7)
      ∧ m' ((c.tc : Thread Cert.Reference8Ideal.nD Cert.Reference8Ideal.τ).loc Cert.Reference8Ideal.main_arg8) = m ((c.tc : Thread Cert.Kernel8Ideal.nD Cert.Kernel8Ideal.τ).loc Cert.Kernel8Ideal.main_arg8)
      ∧ m' ((c.tc : Thread Cert.Reference8Ideal.nD Cert.Reference8Ideal.τ).loc Cert.Reference8Ideal.main_arg9) = m ((c.tc : Thread Cert.Kernel8Ideal.nD Cert.Kernel8Ideal.τ).loc Cert.Kernel8Ideal.main_arg9)) →
    ∃ (v0 : (c : Dev Cert.Kernel8Ideal.nD) → Buf (Elt Ideal) ((c.tc : Thread Cert.Kernel8Ideal.nD Cert.Kernel8Ideal.τ).loc Cert.Kernel8Ideal.main_v6)) (v1 : (c : Dev Cert.Kernel8Ideal.nD) → Buf (Elt Ideal) ((c.tc : Thread Cert.Kernel8Ideal.nD Cert.Kernel8Ideal.τ).loc Cert.Kernel8Ideal.main_v15)) (v2 : (c : Dev Cert.Kernel8Ideal.nD) → Buf (Elt Ideal) ((c.tc : Thread Cert.Kernel8Ideal.nD Cert.Kernel8Ideal.τ).loc Cert.Kernel8Ideal.main_v20)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v6) = v0 c
          ∧ r.2.mem ((c.tc : Thread Cert.Kernel8Ideal.nD Cert.Kernel8Ideal.τ).loc Cert.Kernel8Ideal.main_v15) = v1 c
          ∧ r.2.mem ((c.tc : Thread Cert.Kernel8Ideal.nD Cert.Kernel8Ideal.τ).loc Cert.Kernel8Ideal.main_v20) = v2 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
          ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
          ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8)
          ∧ r.2.mem ((c.tc : Thread Cert.Kernel8Ideal.nD Cert.Kernel8Ideal.τ).loc Cert.Kernel8Ideal.main_arg9) = m ((c.tc : Thread Cert.Kernel8Ideal.nD Cert.Kernel8Ideal.τ).loc Cert.Kernel8Ideal.main_arg9))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v32) = v0 c
          ∧ r.2.mem ((c.tc : Thread Cert.Reference8Ideal.nD Cert.Reference8Ideal.τ).loc Cert.Reference8Ideal.main_v37) = v1 c
          ∧ r.2.mem ((c.tc : Thread Cert.Reference8Ideal.nD Cert.Reference8Ideal.τ).loc Cert.Reference8Ideal.main_v42) = v2 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6)
          ∧ r.2.mem ((c.tc : Thread Cert.Reference8Ideal.nD Cert.Reference8Ideal.τ).loc Cert.Reference8Ideal.main_arg7) = m' ((c.tc : Thread Cert.Reference8Ideal.nD Cert.Reference8Ideal.τ).loc Cert.Reference8Ideal.main_arg7)
          ∧ r.2.mem ((c.tc : Thread Cert.Reference8Ideal.nD Cert.Reference8Ideal.τ).loc Cert.Reference8Ideal.main_arg8) = m' ((c.tc : Thread Cert.Reference8Ideal.nD Cert.Reference8Ideal.τ).loc Cert.Reference8Ideal.main_arg8)
          ∧ r.2.mem ((c.tc : Thread Cert.Reference8Ideal.nD Cert.Reference8Ideal.τ).loc Cert.Reference8Ideal.main_arg9) = m' ((c.tc : Thread Cert.Reference8Ideal.nD Cert.Reference8Ideal.τ).loc Cert.Reference8Ideal.main_arg9))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
-- ==== Kernel.lean ====
abbrev S4x2048x9216 : Shape := ⟨3, ![4, 2048, 9216]⟩
abbrev S16 : Shape := ⟨1, ![16]⟩
abbrev S4x2048x2048 : Shape := ⟨3, ![4, 2048, 2048]⟩
abbrev S1x2048x512 : Shape := ⟨3, ![1, 2048, 512]⟩
abbrev S2048x512 : Shape := ⟨2, ![2048, 512]⟩
abbrev S1 : Shape := ⟨1, ![1]⟩
abbrev S256x384 : Shape := ⟨2, ![256, 384]⟩
abbrev S256x256 : Shape := ⟨2, ![256, 256]⟩
abbrev S256x128 : Shape := ⟨2, ![256, 128]⟩
abbrev S1x256x128 : Shape := ⟨3, ![1, 256, 128]⟩

abbrev nBuf : Space → Nat
  | .hbm => 3
  | .vmem => 11
  | .smem => 1
  | _ => 0

abbrev bufTy : (tb : Table) → Fin (tcTables nBuf tb) → BufTy
  | .hbm, ⟨0, _⟩ => ⟨S4x2048x9216, .f32⟩
  | .hbm, ⟨1, _⟩ => ⟨S16, .f32⟩
  | .hbm, ⟨2, _⟩ => ⟨S4x2048x2048, .f32⟩
  | .local _ .vmem, ⟨0, _⟩ => ⟨S1x2048x512, .f32⟩
  | .local _ .vmem, ⟨1, _⟩ => ⟨S1x2048x512, .f32⟩
  | .local _ .vmem, ⟨2, _⟩ => ⟨S1x2048x512, .f32⟩
  | .local _ .vmem, ⟨3, _⟩ => ⟨S1x2048x512, .f32⟩
  | .local _ .vmem, ⟨4, _⟩ => ⟨S1x2048x512, .f32⟩
  | .local _ .vmem, ⟨5, _⟩ => ⟨S1x2048x512, .f32⟩
  | .local _ .vmem, ⟨6, _⟩ => ⟨S1x2048x512, .f32⟩
  | .local _ .vmem, ⟨7, _⟩ => ⟨S1x2048x512, .f32⟩
  | .local _ .vmem, ⟨8, _⟩ => ⟨S2048x512, .bf16⟩
  | .local _ .vmem, ⟨9, _⟩ => ⟨S2048x512, .bf16⟩
  | .local _ .vmem, ⟨10, _⟩ => ⟨S2048x512, .bf16⟩
  | .local _ .smem, ⟨0, _⟩ => ⟨S16, .f32⟩
  | _, _ => ⟨S4x2048x9216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 4], ![false, false]⟩

def k0_off1 (i : grid0.Coords) (c0_i32 : BitVec 32) : Fin 1 → Nat :=
  let arg1 : BitVec 32 := BitVec.ofNat 32 (i 1).val
  let c4_i32 : BitVec 32 := 4#32
  let v0 : BitVec 32 := Scalar.muli arg1 c4_i32
  let v1 : BitVec 32 := Scalar.addi v0 c0_i32
  let v2 : Index := Scalar.indexCast v1
  ![v2.toNat]
@[reducible] def k0_t1_loop : Scf.Loop 32 :=
  let c0_i32_20 : BitVec 32 := 0#32
  let c8_i32 : BitVec 32 := 8#32
  let v50 : BitVec 32 := Scalar.addi c0_i32_20 c8_i32
  let c1_i32_21 : BitVec 32 := 1#32
  ⟨c0_i32_20, v50, c1_i32_21⟩
def k0_mult1 (k0_t1 : Fin k0_t1_loop.trips) : BitVec 32 :=
  let c0_i32_20 : BitVec 32 := 0#32
  let c1_i32_21 : BitVec 32 := 1#32
  let arg10 : BitVec 32 := Scf.iv c0_i32_20 c1_i32_21 k0_t1
  let c256_i32_23 : BitVec 32 := 256#32
  let v51 : BitVec 32 := Scalar.muli arg10 c256_i32_23
  v51
def k0_off2 (k0_t1 : Fin k0_t1_loop.trips) : Fin 2 → Nat :=
  let c0_i32_20 : BitVec 32 := 0#32
  let c1_i32_21 : BitVec 32 := 1#32
  let arg10 : BitVec 32 := Scf.iv c0_i32_20 c1_i32_21 k0_t1
  let c256_i32_23 : BitVec 32 := 256#32
  let v51 : BitVec 32 := Scalar.muli arg10 c256_i32_23
  let v52 : BitVec 32 := v51
  let v55 : Index := Scalar.indexCast v52
  let c0_26 : Index := 0#32
  ![v55.toNat, 0]
def k0_off3 (k0_t1 : Fin k0_t1_loop.trips) : Fin 2 → Nat :=
  let c0_i32_20 : BitVec 32 := 0#32
  let c1_i32_21 : BitVec 32 := 1#32
  let arg10 : BitVec 32 := Scf.iv c0_i32_20 c1_i32_21 k0_t1
  let c256_i32_23 : BitVec 32 := 256#32
  let v51 : BitVec 32 := Scalar.muli arg10 c256_i32_23
  let v52 : BitVec 32 := v51
  let v93 : Index := Scalar.indexCast v52
  let c128 : Index := 128#32
  ![v93.toNat, 128]
def k0_off4 (k0_t1 : Fin k0_t1_loop.trips) : Fin 2 → Nat :=
  let c0_i32_20 : BitVec 32 := 0#32
  let c1_i32_21 : BitVec 32 := 1#32
  let arg10 : BitVec 32 := Scf.iv c0_i32_20 c1_i32_21 k0_t1
  let c256_i32_23 : BitVec 32 := 256#32
  let v51 : BitVec 32 := Scalar.muli arg10 c256_i32_23
  let v52 : BitVec 32 := v51
  let v131 : Index := Scalar.indexCast v52
  let c256 : Index := 256#32
  ![v131.toNat, 256]
def k0_off5 (k0_t1 : Fin k0_t1_loop.trips) : Fin 2 → Nat :=
  let c0_i32_20 : BitVec 32 := 0#32
  let c1_i32_21 : BitVec 32 := 1#32
  let arg10 : BitVec 32 := Scf.iv c0_i32_20 c1_i32_21 k0_t1
  let c256_i32_23 : BitVec 32 := 256#32
  let v51 : BitVec 32 := Scalar.muli arg10 c256_i32_23
  let v52 : BitVec 32 := v51
  let v169 : Index := Scalar.indexCast v52
  let c384 : Index := 384#32
  ![v169.toNat, 384]
@[reducible] def k0_t2_loop (k0_t1 : Fin k0_t1_loop.trips) : Scf.Loop 32 :=
  let c0_i32_71 : BitVec 32 := 0#32
  let c0_i32_20 : BitVec 32 := 0#32
  let c1_i32_21 : BitVec 32 := 1#32
  let arg10 : BitVec 32 := Scf.iv c0_i32_20 c1_i32_21 k0_t1
  let v207 : BitVec 32 := Scalar.subi arg10 c0_i32_71
  let c1_i32_72 : BitVec 32 := 1#32
  let v209 : BitVec 32 := Scalar.divsi v207 c1_i32_72
  let v210 : BitVec 32 := Scalar.muli v209 c1_i32_72
  let v211 : BitVec 32 := Scalar.addi c0_i32_71 v210
  let c1_i32_73 : BitVec 32 := 1#32
  ⟨c0_i32_71, v211, c1_i32_73⟩
def k0_mult2 (k0_t1 : Fin k0_t1_loop.trips) (k0_t2 : Fin (k0_t2_loop k0_t1).trips) : BitVec 32 :=
  let c0_i32_20 : BitVec 32 := 0#32
  let c1_i32_21 : BitVec 32 := 1#32
  let arg10 : BitVec 32 := Scf.iv c0_i32_20 c1_i32_21 k0_t1
  let c1_i32_83 : BitVec 32 := 1#32
  let v230 : BitVec 32 := Scalar.subi arg10 c1_i32_83
  let c0_i32_71 : BitVec 32 := 0#32
  let c1_i32_73 : BitVec 32 := 1#32
  let arg11 : BitVec 32 := Scf.iv c0_i32_71 c1_i32_73 k0_t2
  let v231 : BitVec 32 := Scalar.subi v230 arg11
  let c256_i32_84 : BitVec 32 := 256#32
  let v232 : BitVec 32 := Scalar.muli v231 c256_i32_84
  v232
def k0_off6 (k0_t1 : Fin k0_t1_loop.trips) : Fin 2 → Nat :=
  let c0_i32_20 : BitVec 32 := 0#32
  let c1_i32_21 : BitVec 32 := 1#32
  let arg10 : BitVec 32 := Scf.iv c0_i32_20 c1_i32_21 k0_t1
  let c256_i32_23 : BitVec 32 := 256#32
  let v51 : BitVec 32 := Scalar.muli arg10 c256_i32_23
  let v52 : BitVec 32 := v51
  let v234 : Index := Scalar.indexCast v52
  let c0_85 : Index := 0#32
  ![v234.toNat, 0]
def k0_off7 (k0_t1 : Fin k0_t1_loop.trips) (k0_t2 : Fin (k0_t2_loop k0_t1).trips) : Fin 2 → Nat :=
  let c0_i32_20 : BitVec 32 := 0#32
  let c1_i32_21 : BitVec 32 := 1#32
  let arg10 : BitVec 32 := Scf.iv c0_i32_20 c1_i32_21 k0_t1
  let c1_i32_83 : BitVec 32 := 1#32
  let v230 : BitVec 32 := Scalar.subi arg10 c1_i32_83
  let c0_i32_71 : BitVec 32 := 0#32
  let c1_i32_73 : BitVec 32 := 1#32
  let arg11 : BitVec 32 := Scf.iv c0_i32_71 c1_i32_73 k0_t2
  let v231 : BitVec 32 := Scalar.subi v230 arg11
  let c256_i32_84 : BitVec 32 := 256#32
  let v232 : BitVec 32 := Scalar.muli v231 c256_i32_84
  let v233 : BitVec 32 := v232
  let v236 : Index := Scalar.indexCast v233
  let c0_86 : Index := 0#32
  ![v236.toNat, 0]
def k0_off8 (k0_t1 : Fin k0_t1_loop.trips) : Fin 2 → Nat :=
  let c0_i32_20 : BitVec 32 := 0#32
  let c1_i32_21 : BitVec 32 := 1#32
  let arg10 : BitVec 32 := Scf.iv c0_i32_20 c1_i32_21 k0_t1
  let c256_i32_23 : BitVec 32 := 256#32
  let v51 : BitVec 32 := Scalar.muli arg10 c256_i32_23
  let v52 : BitVec 32 := v51
  let v268 : Index := Scalar.indexCast v52
  let c128_95 : Index := 128#32
  ![v268.toNat, 128]
def k0_off9 (k0_t1 : Fin k0_t1_loop.trips) (k0_t2 : Fin (k0_t2_loop k0_t1).trips) : Fin 2 → Nat :=
  let c0_i32_20 : BitVec 32 := 0#32
  let c1_i32_21 : BitVec 32 := 1#32
  let arg10 : BitVec 32 := Scf.iv c0_i32_20 c1_i32_21 k0_t1
  let c1_i32_83 : BitVec 32 := 1#32
  let v230 : BitVec 32 := Scalar.subi arg10 c1_i32_83
  let c0_i32_71 : BitVec 32 := 0#32
  let c1_i32_73 : BitVec 32 := 1#32
  let arg11 : BitVec 32 := Scf.iv c0_i32_71 c1_i32_73 k0_t2
  let v231 : BitVec 32 := Scalar.subi v230 arg11
  let c256_i32_84 : BitVec 32 := 256#32
  let v232 : BitVec 32 := Scalar.muli v231 c256_i32_84
  let v233 : BitVec 32 := v232
  let v270 : Index := Scalar.indexCast v233
  let c128_96 : Index := 128#32
  ![v270.toNat, 128]
def k0_off10 (k0_t1 : Fin k0_t1_loop.trips) : Fin 2 → Nat :=
  let c0_i32_20 : BitVec 32 := 0#32
  let c1_i32_21 : BitVec 32 := 1#32
  let arg10 : BitVec 32 := Scf.iv c0_i32_20 c1_i32_21 k0_t1
  let c256_i32_23 : BitVec 32 := 256#32
  let v51 : BitVec 32 := Scalar.muli arg10 c256_i32_23
  let v52 : BitVec 32 := v51
  let v302 : Index := Scalar.indexCast v52
  let c256_105 : Index := 256#32
  ![v302.toNat, 256]
def k0_off11 (k0_t1 : Fin k0_t1_loop.trips) (k0_t2 : Fin (k0_t2_loop k0_t1).trips) : Fin 2 → Nat :=
  let c0_i32_20 : BitVec 32 := 0#32
  let c1_i32_21 : BitVec 32 := 1#32
  let arg10 : BitVec 32 := Scf.iv c0_i32_20 c1_i32_21 k0_t1
  let c1_i32_83 : BitVec 32 := 1#32
  let v230 : BitVec 32 := Scalar.subi arg10 c1_i32_83
  let c0_i32_71 : BitVec 32 := 0#32
  let c1_i32_73 : BitVec 32 := 1#32
  let arg11 : BitVec 32 := Scf.iv c0_i32_71 c1_i32_73 k0_t2
  let v231 : BitVec 32 := Scalar.subi v230 arg11
  let c256_i32_84 : BitVec 32 := 256#32
  let v232 : BitVec 32 := Scalar.muli v231 c256_i32_84
  let v233 : BitVec 32 := v232
  let v304 : Index := Scalar.indexCast v233
  let c256_106 : Index := 256#32
  ![v304.toNat, 256]
def k0_off12 (k0_t1 : Fin k0_t1_loop.trips) : Fin 2 → Nat :=
  let c0_i32_20 : BitVec 32 := 0#32
  let c1_i32_21 : BitVec 32 := 1#32
  let arg10 : BitVec 32 := Scf.iv c0_i32_20 c1_i32_21 k0_t1
  let c256_i32_23 : BitVec 32 := 256#32
  let v51 : BitVec 32 := Scalar.muli arg10 c256_i32_23
  let v52 : BitVec 32 := v51
  let v336 : Index := Scalar.indexCast v52
  let c384_115 : Index := 384#32
  ![v336.toNat, 384]
def k0_off13 (k0_t1 : Fin k0_t1_loop.trips) (k0_t2 : Fin (k0_t2_loop k0_t1).trips) : Fin 2 → Nat :=
  let c0_i32_20 : BitVec 32 := 0#32
  let c1_i32_21 : BitVec 32 := 1#32
  let arg10 : BitVec 32 := Scf.iv c0_i32_20 c1_i32_21 k0_t1
  let c1_i32_83 : BitVec 32 := 1#32
  let v230 : BitVec 32 := Scalar.subi arg10 c1_i32_83
  let c0_i32_71 : BitVec 32 := 0#32
  let c1_i32_73 : BitVec 32 := 1#32
  let arg11 : BitVec 32 := Scf.iv c0_i32_71 c1_i32_73 k0_t2
  let v231 : BitVec 32 := Scalar.subi v230 arg11
  let c256_i32_84 : BitVec 32 := 256#32
  let v232 : BitVec 32 := Scalar.muli v231 c256_i32_84
  let v233 : BitVec 32 := v232
  let v338 : Index := Scalar.indexCast v233
  let c384_116 : Index := 384#32
  ![v338.toNat, 384]
@[reducible] def k0_t3_loop (k0_t1 : Fin k0_t1_loop.trips) : Scf.Loop 32 :=
  let c0_i32_71 : BitVec 32 := 0#32
  let c0_i32_20 : BitVec 32 := 0#32
  let c1_i32_21 : BitVec 32 := 1#32
  let arg10 : BitVec 32 := Scf.iv c0_i32_20 c1_i32_21 k0_t1
  let v207 : BitVec 32 := Scalar.subi arg10 c0_i32_71
  let c1_i32_72 : BitVec 32 := 1#32
  let v209 : BitVec 32 := Scalar.divsi v207 c1_i32_72
  let v210 : BitVec 32 := Scalar.muli v209 c1_i32_72
  let v211 : BitVec 32 := Scalar.addi c0_i32_71 v210
  let v208 : BitVec 32 := Scalar.addi c0_i32_71 v207
  let c1_i32_74 : BitVec 32 := 1#32
  ⟨v211, v208, c1_i32_74⟩
def k0_mult3 (k0_t1 : Fin k0_t1_loop.trips) (k0_t3 : Fin (k0_t3_loop k0_t1).trips) : BitVec 32 :=
  let c0_i32_20 : BitVec 32 := 0#32
  let c1_i32_21 : BitVec 32 := 1#32
  let arg10 : BitVec 32 := Scf.iv c0_i32_20 c1_i32_21 k0_t1
  let c1_i32_83 : BitVec 32 := 1#32
  let v230 : BitVec 32 := Scalar.subi arg10 c1_i32_83
  let c0_i32_71 : BitVec 32 := 0#32
  let v207 : BitVec 32 := Scalar.subi arg10 c0_i32_71
  let c1_i32_72 : BitVec 32 := 1#32
  let v209 : BitVec 32 := Scalar.divsi v207 c1_i32_72
  let v210 : BitVec 32 := Scalar.muli v209 c1_i32_72
  let v211 : BitVec 32 := Scalar.addi c0_i32_71 v210
  let c1_i32_74 : BitVec 32 := 1#32
  let arg11 : BitVec 32 := Scf.iv v211 c1_i32_74 k0_t3
  let v231 : BitVec 32 := Scalar.subi v230 arg11
  let c256_i32_84 : BitVec 32 := 256#32
  let v232 : BitVec 32 := Scalar.muli v231 c256_i32_84
  v232
def k0_off14 (k0_t1 : Fin k0_t1_loop.trips) : Fin 2 → Nat :=
  let c0_i32_20 : BitVec 32 := 0#32
  let c1_i32_21 : BitVec 32 := 1#32
  let arg10 : BitVec 32 := Scf.iv c0_i32_20 c1_i32_21 k0_t1
  let c256_i32_23 : BitVec 32 := 256#32
  let v51 : BitVec 32 := Scalar.muli arg10 c256_i32_23
  let v52 : BitVec 32 := v51
  let v234 : Index := Scalar.indexCast v52
  let c0_85 : Index := 0#32
  ![v234.toNat, 0]
def k0_off15 (k0_t1 : Fin k0_t1_loop.trips) (k0_t3 : Fin (k0_t3_loop k0_t1).trips) : Fin 2 → Nat :=
  let c0_i32_20 : BitVec 32 := 0#32
  let c1_i32_21 : BitVec 32 := 1#32
  let arg10 : BitVec 32 := Scf.iv c0_i32_20 c1_i32_21 k0_t1
  let c1_i32_83 : BitVec 32 := 1#32
  let v230 : BitVec 32 := Scalar.subi arg10 c1_i32_83
  let c0_i32_71 : BitVec 32 := 0#32
  let v207 : BitVec 32 := Scalar.subi arg10 c0_i32_71
  let c1_i32_72 : BitVec 32 := 1#32
  let v209 : BitVec 32 := Scalar.divsi v207 c1_i32_72
  let v210 : BitVec 32 := Scalar.muli v209 c1_i32_72
  let v211 : BitVec 32 := Scalar.addi c0_i32_71 v210
  let c1_i32_74 : BitVec 32 := 1#32
  let arg11 : BitVec 32 := Scf.iv v211 c1_i32_74 k0_t3
  let v231 : BitVec 32 := Scalar.subi v230 arg11
  let c256_i32_84 : BitVec 32 := 256#32
  let v232 : BitVec 32 := Scalar.muli v231 c256_i32_84
  let v233 : BitVec 32 := v232
  let v236 : Index := Scalar.indexCast v233
  let c0_86 : Index := 0#32
  ![v236.toNat, 0]
def k0_off16 (k0_t1 : Fin k0_t1_loop.trips) : Fin 2 → Nat :=
  let c0_i32_20 : BitVec 32 := 0#32
  let c1_i32_21 : BitVec 32 := 1#32
  let arg10 : BitVec 32 := Scf.iv c0_i32_20 c1_i32_21 k0_t1
  let c256_i32_23 : BitVec 32 := 256#32
  let v51 : BitVec 32 := Scalar.muli arg10 c256_i32_23
  let v52 : BitVec 32 := v51
  let v268 : Index := Scalar.indexCast v52
  let c128_95 : Index := 128#32
  ![v268.toNat, 128]
def k0_off17 (k0_t1 : Fin k0_t1_loop.trips) (k0_t3 : Fin (k0_t3_loop k0_t1).trips) : Fin 2 → Nat :=
  let c0_i32_20 : BitVec 32 := 0#32
  let c1_i32_21 : BitVec 32 := 1#32
  let arg10 : BitVec 32 := Scf.iv c0_i32_20 c1_i32_21 k0_t1
  let c1_i32_83 : BitVec 32 := 1#32
  let v230 : BitVec 32 := Scalar.subi arg10 c1_i32_83
  let c0_i32_71 : BitVec 32 := 0#32
  let v207 : BitVec 32 := Scalar.subi arg10 c0_i32_71
  let c1_i32_72 : BitVec 32 := 1#32
  let v209 : BitVec 32 := Scalar.divsi v207 c1_i32_72
  let v210 : BitVec 32 := Scalar.muli v209 c1_i32_72
  let v211 : BitVec 32 := Scalar.addi c0_i32_71 v210
  let c1_i32_74 : BitVec 32 := 1#32
  let arg11 : BitVec 32 := Scf.iv v211 c1_i32_74 k0_t3
  let v231 : BitVec 32 := Scalar.subi v230 arg11
  let c256_i32_84 : BitVec 32 := 256#32
  let v232 : BitVec 32 := Scalar.muli v231 c256_i32_84
  let v233 : BitVec 32 := v232
  let v270 : Index := Scalar.indexCast v233
  let c128_96 : Index := 128#32
  ![v270.toNat, 128]
def k0_off18 (k0_t1 : Fin k0_t1_loop.trips) : Fin 2 → Nat :=
  let c0_i32_20 : BitVec 32 := 0#32
  let c1_i32_21 : BitVec 32 := 1#32
  let arg10 : BitVec 32 := Scf.iv c0_i32_20 c1_i32_21 k0_t1
  let c256_i32_23 : BitVec 32 := 256#32
  let v51 : BitVec 32 := Scalar.muli arg10 c256_i32_23
  let v52 : BitVec 32 := v51
  let v302 : Index := Scalar.indexCast v52
  let c256_105 : Index := 256#32
  ![v302.toNat, 256]
def k0_off19 (k0_t1 : Fin k0_t1_loop.trips) (k0_t3 : Fin (k0_t3_loop k0_t1).trips) : Fin 2 → Nat :=
  let c0_i32_20 : BitVec 32 := 0#32
  let c1_i32_21 : BitVec 32 := 1#32
  let arg10 : BitVec 32 := Scf.iv c0_i32_20 c1_i32_21 k0_t1
  let c1_i32_83 : BitVec 32 := 1#32
  let v230 : BitVec 32 := Scalar.subi arg10 c1_i32_83
  let c0_i32_71 : BitVec 32 := 0#32
  let v207 : BitVec 32 := Scalar.subi arg10 c0_i32_71
  let c1_i32_72 : BitVec 32 := 1#32
  let v209 : BitVec 32 := Scalar.divsi v207 c1_i32_72
  let v210 : BitVec 32 := Scalar.muli v209 c1_i32_72
  let v211 : BitVec 32 := Scalar.addi c0_i32_71 v210
  let c1_i32_74 : BitVec 32 := 1#32
  let arg11 : BitVec 32 := Scf.iv v211 c1_i32_74 k0_t3
  let v231 : BitVec 32 := Scalar.subi v230 arg11
  let c256_i32_84 : BitVec 32 := 256#32
  let v232 : BitVec 32 := Scalar.muli v231 c256_i32_84
  let v233 : BitVec 32 := v232
  let v304 : Index := Scalar.indexCast v233
  let c256_106 : Index := 256#32
  ![v304.toNat, 256]
def k0_off20 (k0_t1 : Fin k0_t1_loop.trips) : Fin 2 → Nat :=
  let c0_i32_20 : BitVec 32 := 0#32
  let c1_i32_21 : BitVec 32 := 1#32
  let arg10 : BitVec 32 := Scf.iv c0_i32_20 c1_i32_21 k0_t1
  let c256_i32_23 : BitVec 32 := 256#32
  let v51 : BitVec 32 := Scalar.muli arg10 c256_i32_23
  let v52 : BitVec 32 := v51
  let v336 : Index := Scalar.indexCast v52
  let c384_115 : Index := 384#32
  ![v336.toNat, 384]
def k0_off21 (k0_t1 : Fin k0_t1_loop.trips) (k0_t3 : Fin (k0_t3_loop k0_t1).trips) : Fin 2 → Nat :=
  let c0_i32_20 : BitVec 32 := 0#32
  let c1_i32_21 : BitVec 32 := 1#32
  let arg10 : BitVec 32 := Scf.iv c0_i32_20 c1_i32_21 k0_t1
  let c1_i32_83 : BitVec 32 := 1#32
  let v230 : BitVec 32 := Scalar.subi arg10 c1_i32_83
  let c0_i32_71 : BitVec 32 := 0#32
  let v207 : BitVec 32 := Scalar.subi arg10 c0_i32_71
  let c1_i32_72 : BitVec 32 := 1#32
  let v209 : BitVec 32 := Scalar.divsi v207 c1_i32_72
  let v210 : BitVec 32 := Scalar.muli v209 c1_i32_72
  let v211 : BitVec 32 := Scalar.addi c0_i32_71 v210
  let c1_i32_74 : BitVec 32 := 1#32
  let arg11 : BitVec 32 := Scf.iv v211 c1_i32_74 k0_t3
  let v231 : BitVec 32 := Scalar.subi v230 arg11
  let c256_i32_84 : BitVec 32 := 256#32
  let v232 : BitVec 32 := Scalar.muli v231 c256_i32_84
  let v233 : BitVec 32 := v232
  let v338 : Index := Scalar.indexCast v233
  let c384_116 : Index := 384#32
  ![v338.toNat, 384]
def k0_off22 (k0_t1 : Fin k0_t1_loop.trips) : Fin 3 → Nat :=
  let c0_75 : Index := 0#32
  let c0_i32_20 : BitVec 32 := 0#32
  let c1_i32_21 : BitVec 32 := 1#32
  let arg10 : BitVec 32 := Scf.iv c0_i32_20 c1_i32_21 k0_t1
  let c256_i32_23 : BitVec 32 := 256#32
  let v51 : BitVec 32 := Scalar.muli arg10 c256_i32_23
  let v52 : BitVec 32 := v51
  let v214 : Index := Scalar.indexCast v52
  let c0_76 : Index := 0#32
  ![0, v214.toNat, 0]
def k0_off23 (k0_t1 : Fin k0_t1_loop.trips) : Fin 3 → Nat :=
  let c0_77 : Index := 0#32
  let c0_i32_20 : BitVec 32 := 0#32
  let c1_i32_21 : BitVec 32 := 1#32
  let arg10 : BitVec 32 := Scf.iv c0_i32_20 c1_i32_21 k0_t1
  let c256_i32_23 : BitVec 32 := 256#32
  let v51 : BitVec 32 := Scalar.muli arg10 c256_i32_23
  let v52 : BitVec 32 := v51
  let v218 : Index := Scalar.indexCast v52
  let c128_78 : Index := 128#32
  ![0, v218.toNat, 128]
def k0_off24 (k0_t1 : Fin k0_t1_loop.trips) : Fin 3 → Nat :=
  let c0_79 : Index := 0#32
  let c0_i32_20 : BitVec 32 := 0#32
  let c1_i32_21 : BitVec 32 := 1#32
  let arg10 : BitVec 32 := Scf.iv c0_i32_20 c1_i32_21 k0_t1
  let c256_i32_23 : BitVec 32 := 256#32
  let v51 : BitVec 32 := Scalar.muli arg10 c256_i32_23
  let v52 : BitVec 32 := v51
  let v222 : Index := Scalar.indexCast v52
  let c256_80 : Index := 256#32
  ![0, v222.toNat, 256]
def k0_off25 (k0_t1 : Fin k0_t1_loop.trips) : Fin 3 → Nat :=
  let c0_81 : Index := 0#32
  let c0_i32_20 : BitVec 32 := 0#32
  let c1_i32_21 : BitVec 32 := 1#32
  let arg10 : BitVec 32 := Scf.iv c0_i32_20 c1_i32_21 k0_t1
  let c256_i32_23 : BitVec 32 := 256#32
  let v51 : BitVec 32 := Scalar.muli arg10 c256_i32_23
  let v52 : BitVec 32 := v51
  let v226 : Index := Scalar.indexCast v52
  let c384_82 : Index := 384#32
  ![0, v226.toNat, 384]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let c10_i32 : BitVec 32 := 10#32
  let v0 : BitVec 32 := Scalar.addi c10_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c14_i32 : BitVec 32 := 14#32
  let v0 : BitVec 32 := Scalar.addi c14_i32 arg1
  let c0_i32 : BitVec 32 := 0#32
  let c0_i32_0 : BitVec 32 := 0#32
  ![arg0.toNat, c0_i32.toNat, v0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S4x2048x9216 : Shape := ⟨3, ![4, 2048, 9216]⟩
abbrev S16 : Shape := ⟨1, ![16]⟩
abbrev S4x2048x1024 : Shape := ⟨3, ![4, 2048, 1024]⟩
abbrev S4x2048x2048 : Shape := ⟨3, ![4, 2048, 2048]⟩
abbrev S4x2048x16x128 : Shape := ⟨4, ![4, 2048, 16, 128]⟩
abbrev S2048 : Shape := ⟨1, ![2048]⟩
abbrev S4x16x2048x2048 : Shape := ⟨4, ![4, 16, 2048, 2048]⟩
abbrev S_ : Shape := ⟨0, ![]⟩
abbrev S1x16x1x1 : Shape := ⟨4, ![1, 16, 1, 1]⟩
abbrev S1x2048 : Shape := ⟨2, ![1, 2048]⟩
abbrev S2048x1 : Shape := ⟨2, ![2048, 1]⟩
abbrev S2048x2048 : Shape := ⟨2, ![2048, 2048]⟩
abbrev S4x16x128x2048 : Shape := ⟨4, ![4, 16, 128, 2048]⟩

abbrev nBuf : Space → Nat
  | .hbm => 76
  | .vmem => 0
  | .smem => 0
  | _ => 0

abbrev bufTy : (tb : Table) → Fin (tcTables nBuf tb) → BufTy
  | .hbm, ⟨0, _⟩ => ⟨S4x2048x9216, .f32⟩
  | .hbm, ⟨1, _⟩ => ⟨S16, .f32⟩
  | .hbm, ⟨2, _⟩ => ⟨S4x2048x1024, .f32⟩
  | .hbm, ⟨3, _⟩ => ⟨S4x2048x2048, .f32⟩
  | .hbm, ⟨4, _⟩ => ⟨S4x2048x2048, .f32⟩
  | .hbm, ⟨5, _⟩ => ⟨S4x2048x2048, .f32⟩
  | .hbm, ⟨6, _⟩ => ⟨S4x2048x2048, .f32⟩
  | .hbm, ⟨7, _⟩ => ⟨S4x2048x16x128, .f32⟩
  | .hbm, ⟨8, _⟩ => ⟨S4x2048x16x128, .f32⟩
  | .hbm, ⟨9, _⟩ => ⟨S4x2048x16x128, .f32⟩
  | .hbm, ⟨10, _⟩ => ⟨S2048, .i32⟩
  | .hbm, ⟨11, _⟩ => ⟨S2048, .i32⟩
  | .hbm, ⟨12, _⟩ => ⟨S4x16x2048x2048, .f32⟩
  | .hbm, ⟨13, _⟩ => ⟨S_, .f32⟩
  | .hbm, ⟨14, _⟩ => ⟨S4x16x2048x2048, .f32⟩
  | .hbm, ⟨15, _⟩ => ⟨S4x16x2048x2048, .f32⟩
  | .hbm, ⟨16, _⟩ => ⟨S1x16x1x1, .f32⟩
  | .hbm, ⟨17, _⟩ => ⟨S4x16x2048x2048, .f32⟩
  | .hbm, ⟨18, _⟩ => ⟨S4x16x2048x2048, .f32⟩
  | .hbm, ⟨19, _⟩ => ⟨S1x2048, .i32⟩
  | .hbm, ⟨20, _⟩ => ⟨S2048x1, .i32⟩
  | .hbm, ⟨21, _⟩ => ⟨S2048x2048, .i32⟩
  | .hbm, ⟨22, _⟩ => ⟨S2048x2048, .i32⟩
  | .hbm, ⟨23, _⟩ => ⟨S2048x2048, .i1⟩
  | .hbm, ⟨24, _⟩ => ⟨S4x16x2048x2048, .f32⟩
  | .hbm, ⟨25, _⟩ => ⟨S4x16x2048x2048, .f32⟩
  | .hbm, ⟨26, _⟩ => ⟨S_, .f32⟩
  | .hbm, ⟨27, _⟩ => ⟨S4x16x2048x2048, .f32⟩
  | .hbm, ⟨28, _⟩ => ⟨S4x16x2048x2048, .f32⟩
  | .hbm, ⟨29, _⟩ => ⟨S4x16x2048x2048, .f32⟩
  | .hbm, ⟨30, _⟩ => ⟨S4x16x2048x2048, .f32⟩
  | .hbm, ⟨31, _⟩ => ⟨S4x16x2048x2048, .i1⟩
  | .hbm, ⟨32, _⟩ => ⟨S4x16x2048x2048, .f32⟩
  | .hbm, ⟨33, _⟩ => ⟨S4x16x2048x2048, .f32⟩
  | .hbm, ⟨34, _⟩ => ⟨S4x16x2048x2048, .f32⟩
  | .hbm, ⟨35, _⟩ => ⟨S4x16x2048x2048, .f32⟩
  | .hbm, ⟨36, _⟩ => ⟨S4x16x2048x2048, .f32⟩
  | .hbm, ⟨37, _⟩ => ⟨S4x16x2048x2048, .f32⟩
  | .hbm, ⟨38, _⟩ => ⟨S4x16x2048x2048, .f32⟩
  | .hbm, ⟨39, _⟩ => ⟨S4x16x2048x2048, .f32⟩
  | .hbm, ⟨40, _⟩ => ⟨S4x16x2048x2048, .f32⟩
  | .hbm, ⟨41, _⟩ => ⟨S_, .f32⟩
  | .hbm, ⟨42, _⟩ => ⟨S_, .f32⟩
  | .hbm, ⟨43, _⟩ => ⟨S4x16x2048x2048, .i1⟩
  | .hbm, ⟨44, _⟩ => ⟨S4x16x2048x2048, .f32⟩
  | .hbm, ⟨45, _⟩ => ⟨S4x16x2048x2048, .f32⟩
  | .hbm, ⟨46, _⟩ => ⟨S_, .f32⟩
  | .hbm, ⟨47, _⟩ => ⟨S_, .f32⟩
  | .hbm, ⟨48, _⟩ => ⟨S4x16x2048x2048, .f32⟩
  | .hbm, ⟨49, _⟩ => ⟨S4x16x2048x2048, .f32⟩
  | .hbm, ⟨50, _⟩ => ⟨S4x16x2048x2048, .f32⟩
  | .hbm, ⟨51, _⟩ => ⟨S_, .f32⟩
  | .hbm, ⟨52, _⟩ => ⟨S4x16x2048x2048, .f32⟩
  | .hbm, ⟨53, _⟩ => ⟨S4x16x2048x2048, .f32⟩
  | .hbm, ⟨54, _⟩ => ⟨S4x16x2048x2048, .f32⟩
  | .hbm, ⟨55, _⟩ => ⟨S4x16x2048x2048, .f32⟩
  | .hbm, ⟨56, _⟩ => ⟨S4x16x2048x2048, .i1⟩
  | .hbm, ⟨57, _⟩ => ⟨S4x16x2048x2048, .f32⟩
  | .hbm, ⟨58, _⟩ => ⟨S4x16x2048x2048, .f32⟩
  | .hbm, ⟨59, _⟩ => ⟨S4x16x2048x2048, .f32⟩
  | .hbm, ⟨60, _⟩ => ⟨S4x16x2048x2048, .f32⟩
  | .hbm, ⟨61, _⟩ => ⟨S4x16x2048x2048, .f32⟩
  | .hbm, ⟨62, _⟩ => ⟨S4x16x2048x2048, .f32⟩
  | .hbm, ⟨63, _⟩ => ⟨S4x16x2048x2048, .f32⟩
  | .hbm, ⟨64, _⟩ => ⟨S4x16x2048x2048, .f32⟩
  | .hbm, ⟨65, _⟩ => ⟨S4x16x2048x2048, .f32⟩
  | .hbm, ⟨66, _⟩ => ⟨S4x16x2048x2048, .f32⟩
  | .hbm, ⟨67, _⟩ => ⟨S4x16x2048x2048, .f32⟩
  | .hbm, ⟨68, _⟩ => ⟨S_, .f32⟩
  | .hbm, ⟨69, _⟩ => ⟨S_, .f32⟩
  | .hbm, ⟨70, _⟩ => ⟨S4x16x2048x2048, .i1⟩
  | .hbm, ⟨71, _⟩ => ⟨S4x16x2048x2048, .f32⟩
  | .hbm, ⟨72, _⟩ => ⟨S4x16x2048x2048, .f32⟩
  | .hbm, ⟨73, _⟩ => ⟨S4x16x128x2048, .f32⟩
  | .hbm, ⟨74, _⟩ => ⟨S4x2048x16x128, .f32⟩
  | .hbm, ⟨75, _⟩ => ⟨S4x2048x2048, .f32⟩
  | _, _ => ⟨S4x2048x9216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_call0_v0 : Ref sig .tc := ⟨.hbm, 25, rfl⟩
abbrev main_call0_call0_cst : Ref sig .tc := ⟨.hbm, 26, rfl⟩
abbrev main_call0_call0_v0 : Ref sig .tc := ⟨.hbm, 27, rfl⟩
abbrev main_call0_call0_v1 : Ref sig .tc := ⟨.hbm, 28, rfl⟩
abbrev main_call0_call0_v2 : Ref sig .tc := ⟨.hbm, 29, rfl⟩
abbrev main_call0_call0_v3 : Ref sig .tc := ⟨.hbm, 30, rfl⟩
abbrev main_call0_call0_v4 : Ref sig .tc := ⟨.hbm, 31, rfl⟩
abbrev main_call0_call0_v5 : Ref sig .tc := ⟨.hbm, 32, rfl⟩
abbrev main_call0_call0_v6 : Ref sig .tc := ⟨.hbm, 33, rfl⟩
abbrev main_call0_call0_v7 : Ref sig .tc := ⟨.hbm, 34, rfl⟩
abbrev main_call0_call0_v8 : Ref sig .tc := ⟨.hbm, 35, rfl⟩
abbrev main_call0_call0_v9 : Ref sig .tc := ⟨.hbm, 36, rfl⟩
abbrev main_call0_call0_v10 : Ref sig .tc := ⟨.hbm, 37, rfl⟩
abbrev main_call0_call0_v11 : Ref sig .tc := ⟨.hbm, 38, rfl⟩
abbrev main_call0_v1 : Ref sig .tc := ⟨.hbm, 39, rfl⟩
abbrev main_v22 : Ref sig .tc := ⟨.hbm, 40, rfl⟩
abbrev main_cst_0 : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_v23 : Ref sig .tc := ⟨.hbm, 45, rfl⟩
abbrev main_call2_cst : Ref sig .tc := ⟨.hbm, 46, rfl⟩
abbrev main_call2_v0 : Ref sig .tc := ⟨.hbm, 47, rfl⟩
abbrev main_v24 : Ref sig .tc := ⟨.hbm, 48, rfl⟩
abbrev main_v25 : Ref sig .tc := ⟨.hbm, 49, rfl⟩
abbrev main_call3_v0 : Ref sig .tc := ⟨.hbm, 50, rfl⟩
abbrev main_call3_call0_cst : Ref sig .tc := ⟨.hbm, 51, rfl⟩
abbrev main_call3_call0_v0 : Ref sig .tc := ⟨.hbm, 52, rfl⟩
abbrev main_call3_call0_v1 : Ref sig .tc := ⟨.hbm, 53, rfl⟩
abbrev main_call3_call0_v2 : Ref sig .tc := ⟨.hbm, 54, rfl⟩
abbrev main_call3_call0_v3 : Ref sig .tc := ⟨.hbm, 55, rfl⟩
abbrev main_call3_call0_v4 : Ref sig .tc := ⟨.hbm, 56, rfl⟩
abbrev main_call3_call0_v5 : Ref sig .tc := ⟨.hbm, 57, rfl⟩
abbrev main_call3_call0_v6 : Ref sig .tc := ⟨.hbm, 58, rfl⟩
abbrev main_call3_call0_v7 : Ref sig .tc := ⟨.hbm, 59, rfl⟩
abbrev main_call3_call0_v8 : Ref sig .tc := ⟨.hbm, 60, rfl⟩
abbrev main_call3_call0_v9 : Ref sig .tc := ⟨.hbm, 61, rfl⟩
abbrev main_call3_call0_v10 : Ref sig .tc := ⟨.hbm, 62, rfl⟩
abbrev main_call3_call0_v11 : Ref sig .tc := ⟨.hbm, 63, rfl⟩
abbrev main_call3_v1 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩
abbrev main_cst_1 : Ref sig .tc := ⟨.hbm, 68, rfl⟩
abbrev main_call4_v0 : Ref sig .tc := ⟨.hbm, 69, rfl⟩
abbrev main_call4_v1 : Ref sig .tc := ⟨.hbm, 70, rfl⟩
abbrev main_call4_v2 : Ref sig .tc := ⟨.hbm, 71, rfl⟩
abbrev main_v29 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩

abbrev nD : Nat := 1
abbrev τ : Topo := Topo.v7x

variable {F : FTy → Type} [FloatOps F]
-- ==== Kernel2.lean ====
abbrev S4x2048x4096 : Shape := ⟨3, ![4, 2048, 4096]⟩
abbrev S4096 : Shape := ⟨1, ![4096]⟩
abbrev S4x24576 : Shape := ⟨2, ![4, 24576]⟩
abbrev S4096x9216 : Shape := ⟨2, ![4096, 9216]⟩
abbrev S4x4x2048x2048 : Shape := ⟨4, ![4, 4, 2048, 2048]⟩
abbrev S8192x4096 : Shape := ⟨2, ![8192, 4096]⟩
abbrev S4x1x24576 : Shape := ⟨3, ![4, 1, 24576]⟩
abbrev S1x4096 : Shape := ⟨2, ![1, 4096]⟩
abbrev S8192x9216 : Shape := ⟨2, ![8192, 9216]⟩
abbrev S512x4096 : Shape := ⟨2, ![512, 4096]⟩
abbrev S1x1x4096 : Shape := ⟨3, ![1, 1, 4096]⟩
abbrev S4096x512 : Shape := ⟨2, ![4096, 512]⟩
abbrev S512x512 : Shape := ⟨2, ![512, 512]⟩
abbrev S1x1x512x512 : Shape := ⟨4, ![1, 1, 512, 512]⟩
abbrev S512 : Shape := ⟨1, ![512]⟩
abbrev S512x1 : Shape := ⟨2, ![512, 1]⟩

abbrev nBuf : Space → Nat
  | .hbm => 13
  | .vmem => 16
  | .smem => 0
  | _ => 0

abbrev bufTy : (tb : Table) → Fin (tcTables nBuf tb) → BufTy
  | .hbm, ⟨0, _⟩ => ⟨S4x2048x4096, .f32⟩
  | .hbm, ⟨1, _⟩ => ⟨S4096, .f32⟩
  | .hbm, ⟨2, _⟩ => ⟨S4x24576, .f32⟩
  | .hbm, ⟨3, _⟩ => ⟨S4096x9216, .f32⟩
  | .hbm, ⟨4, _⟩ => ⟨S4x4x2048x2048, .f32⟩
  | .hbm, ⟨5, _⟩ => ⟨S4x4x2048x2048, .f32⟩
  | .hbm, ⟨6, _⟩ => ⟨S8192x4096, .f32⟩
  | .hbm, ⟨7, _⟩ => ⟨S4096x9216, .bf16⟩
  | .hbm, ⟨8, _⟩ => ⟨S4x1x24576, .f32⟩
  | .hbm, ⟨9, _⟩ => ⟨S1x4096, .f32⟩
  | .hbm, ⟨10, _⟩ => ⟨S8192x9216, .f32⟩
  | .hbm, ⟨11, _⟩ => ⟨S4x4x2048x2048, .f32⟩
  | .hbm, ⟨12, _⟩ => ⟨S4x4x2048x2048, .f32⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S1x1x4096, .f32⟩
  | .local _ .vmem, ⟨4, _⟩ => ⟨S1x1x4096, .f32⟩
  | .local _ .vmem, ⟨5, _⟩ => ⟨S1x1x4096, .f32⟩
  | .local _ .vmem, ⟨6, _⟩ => ⟨S1x1x4096, .f32⟩
  | .local _ .vmem, ⟨7, _⟩ => ⟨S4096x512, .bf16⟩
  | .local _ .vmem, ⟨8, _⟩ => ⟨S4096x512, .bf16⟩
  | .local _ .vmem, ⟨9, _⟩ => ⟨S512x512, .f32⟩
  | .local _ .vmem, ⟨10, _⟩ => ⟨S512x512, .f32⟩
  | .local _ .vmem, ⟨11, _⟩ => ⟨S1x1x512x512, .f32⟩
  | .local _ .vmem, ⟨12, _⟩ => ⟨S1x1x512x512, .f32⟩
  | .local _ .vmem, ⟨13, _⟩ => ⟨S1x1x512x512, .f32⟩
  | .local _ .vmem, ⟨14, _⟩ => ⟨S1x1x512x512, .f32⟩
  | .local _ .vmem, ⟨15, _⟩ => ⟨S512x4096, .bf16⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![16, 18], ![false, false]⟩

def k0_cond2 (i : grid0.Coords) : BitVec 1 :=
  let arg1 : BitVec 32 := BitVec.ofNat 32 (i 1).val
  let c10_i32 : BitVec 32 := 10#32
  let v8 : BitVec 1 := Scalar.cmpi .sge arg1 c10_i32
  let c14_i32 : BitVec 32 := 14#32
  let v9 : BitVec 1 := Scalar.cmpi .slt arg1 c14_i32
  let v10 : BitVec 1 := Scalar.andi v8 v9
  let v11 : BitVec 32 := Scalar.extui v10
  let c0_i32_6 : BitVec 32 := 0#32
  let v12 : BitVec 1 := Scalar.cmpi .ne v11 c0_i32_6
  v12

def k0_cond3 (i : grid0.Coords) : BitVec 1 :=
  let arg1 : BitVec 32 := BitVec.ofNat 32 (i 1).val
  let c14_i32_7 : BitVec 32 := 14#32
  let v13 : BitVec 1 := Scalar.cmpi .sge arg1 c14_i32_7
  let c18_i32 : BitVec 32 := 18#32
  let v14 : BitVec 1 := Scalar.cmpi .slt arg1 c18_i32
  let v15 : BitVec 1 := Scalar.andi v13 v14
  let v16 : BitVec 32 := Scalar.extui v15
  let c0_i32_8 : BitVec 32 := 0#32
  let v17 : BitVec 1 := Scalar.cmpi .ne v16 c0_i32_8
  v17

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c1_i32_5 : BitVec 32 := 1#32
  let c0_i32_6 : BitVec 32 := 0#32
  ![v16.toNat, c0_i32_4.toNat, c1_i32_5.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c10_i32 : BitVec 32 := 10#32
  let v27 : BitVec 32 := Scalar.subi arg1 c10_i32
  let c0_i32_10 : BitVec 32 := 0#32
  let c3_i32 : BitVec 32 := 3#32
  let v28 : BitVec 32 := Scalar.maxsi c0_i32_10 v27
  let v29 : BitVec 32 := Scalar.minsi c3_i32 v28
  let c3_i32_11 : BitVec 32 := 3#32
  let c0_i32_12 : BitVec 32 := 0#32
  ![v16.toNat, c3_i32_11.toNat, v26.toNat, v29.toNat]

def cc0_transform_9 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c14_i32 : BitVec 32 := 14#32
  let v27 : BitVec 32 := Scalar.subi arg1 c14_i32
  let c0_i32_10 : BitVec 32 := 0#32
  let c3_i32 : BitVec 32 := 3#32
  let v28 : BitVec 32 := Scalar.maxsi c0_i32_10 v27
  let v29 : BitVec 32 := Scalar.minsi c3_i32 v28
  let c3_i32_11 : BitVec 32 := 3#32
  let c0_i32_12 : BitVec 32 := 0#32
  ![v16.toNat, c3_i32_11.toNat, v26.toNat, v29.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S4096x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference2Ideal.lean ====
abbrev S4x2048x4096 : Shape := ⟨3, ![4, 2048, 4096]⟩
abbrev S4096 : Shape := ⟨1, ![4096]⟩
abbrev S4x24576 : Shape := ⟨2, ![4, 24576]⟩
abbrev S4096x9216 : Shape := ⟨2, ![4096, 9216]⟩
abbrev S4x4x2048x2048 : Shape := ⟨4, ![4, 4, 2048, 2048]⟩
abbrev S4x1x24576 : Shape := ⟨3, ![4, 1, 24576]⟩
abbrev S4x1x4096 : Shape := ⟨3, ![4, 1, 4096]⟩
abbrev S_ : Shape := ⟨0, ![]⟩
abbrev S4x2048 : Shape := ⟨2, ![4, 2048]⟩
abbrev S4x2048x1 : Shape := ⟨3, ![4, 2048, 1]⟩
abbrev S1x1x4096 : Shape := ⟨3, ![1, 1, 4096]⟩
abbrev S4x2048x9216 : Shape := ⟨3, ![4, 2048, 9216]⟩
abbrev S4x2048x1024 : Shape := ⟨3, ![4, 2048, 1024]⟩
abbrev S4x2048x2048 : Shape := ⟨3, ![4, 2048, 2048]⟩
abbrev S8192x9216 : Shape := ⟨2, ![8192, 9216]⟩
abbrev S4x3x2048x2048 : Shape := ⟨4, ![4, 3, 2048, 2048]⟩
abbrev S4x1x2048x2048 : Shape := ⟨4, ![4, 1, 2048, 2048]⟩

abbrev nBuf : Space → Nat
  | .hbm => 49
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096, .f32⟩
  | .hbm, ⟨2, _⟩ => ⟨S4x24576, .f32⟩
  | .hbm, ⟨3, _⟩ => ⟨S4096x9216, .f32⟩
  | .hbm, ⟨4, _⟩ => ⟨S4x4x2048x2048, .f32⟩
  | .hbm, ⟨5, _⟩ => ⟨S4x4x2048x2048, .f32⟩
  | .hbm, ⟨6, _⟩ => ⟨S4x1x24576, .f32⟩
  | .hbm, ⟨7, _⟩ => ⟨S4x1x4096, .f32⟩
  | .hbm, ⟨8, _⟩ => ⟨S4x1x4096, .f32⟩
  | .hbm, ⟨9, _⟩ => ⟨S4x1x4096, .f32⟩
  | .hbm, ⟨10, _⟩ => ⟨S4x1x4096, .f32⟩
  | .hbm, ⟨11, _⟩ => ⟨S4x1x4096, .f32⟩
  | .hbm, ⟨12, _⟩ => ⟨S4x1x4096, .f32⟩
  | .hbm, ⟨13, _⟩ => ⟨S4x2048x4096, .f32⟩
  | .hbm, ⟨14, _⟩ => ⟨S_, .f32⟩
  | .hbm, ⟨15, _⟩ => ⟨S4x2048, .f32⟩
  | .hbm, ⟨16, _⟩ => ⟨S4x2048x1, .f32⟩
  | .hbm, ⟨17, _⟩ => ⟨S_, .f32⟩
  | .hbm, ⟨18, _⟩ => ⟨S4x2048x1, .f32⟩
  | .hbm, ⟨19, _⟩ => ⟨S4x2048x1, .f32⟩
  | .hbm, ⟨20, _⟩ => ⟨S_, .f32⟩
  | .hbm, ⟨21, _⟩ => ⟨S4x2048x1, .f32⟩
  | .hbm, ⟨22, _⟩ => ⟨S4x2048x1, .f32⟩
  | .hbm, ⟨23, _⟩ => ⟨S4x2048x1, .f32⟩
  | .hbm, ⟨24, _⟩ => ⟨S4x2048x4096, .f32⟩
  | .hbm, ⟨25, _⟩ => ⟨S4x2048x4096, .f32⟩
  | .hbm, ⟨26, _⟩ => ⟨S1x1x4096, .f32⟩
  | .hbm, ⟨27, _⟩ => ⟨S4x2048x4096, .f32⟩
  | .hbm, ⟨28, _⟩ => ⟨S4x2048x4096, .f32⟩
  | .hbm, ⟨29, _⟩ => ⟨S_, .f32⟩
  | .hbm, ⟨30, _⟩ => ⟨S4x1x4096, .f32⟩
  | .hbm, ⟨31, _⟩ => ⟨S4x1x4096, .f32⟩
  | .hbm, ⟨32, _⟩ => ⟨S4x2048x4096, .f32⟩
  | .hbm, ⟨33, _⟩ => ⟨S4x2048x4096, .f32⟩
  | .hbm, ⟨34, _⟩ => ⟨S4x2048x4096, .f32⟩
  | .hbm, ⟨35, _⟩ => ⟨S4x2048x4096, .f32⟩
  | .hbm, ⟨36, _⟩ => ⟨S4x2048x9216, .f32⟩
  | .hbm, ⟨37, _⟩ => ⟨S4x2048x1024, .f32⟩
  | .hbm, ⟨38, _⟩ => ⟨S4x2048x2048, .f32⟩
  | .hbm, ⟨39, _⟩ => ⟨S4x2048x2048, .f32⟩
  | .hbm, ⟨40, _⟩ => ⟨S4x2048x2048, .f32⟩
  | .hbm, ⟨41, _⟩ => ⟨S4x2048x2048, .f32⟩
  | .hbm, ⟨42, _⟩ => ⟨S8192x9216, .f32⟩
  | .hbm, ⟨43, _⟩ => ⟨S4x3x2048x2048, .f32⟩
  | .hbm, ⟨44, _⟩ => ⟨S4x1x2048x2048, .f32⟩
  | .hbm, ⟨45, _⟩ => ⟨S4x4x2048x2048, .f32⟩
  | .hbm, ⟨46, _⟩ => ⟨S4x3x2048x2048, .f32⟩
  | .hbm, ⟨47, _⟩ => ⟨S4x1x2048x2048, .f32⟩
  | .hbm, ⟨48, _⟩ => ⟨S4x4x2048x2048, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩

abbrev nD : Nat := 1
abbrev τ : Topo := Topo.v7x

variable {F : FTy → Type} [FloatOps F]
-- ==== Kernel3.lean ====
abbrev S4x2048x1024 : Shape := ⟨3, ![4, 2048, 1024]⟩
abbrev S4x2048x2048 : Shape := ⟨3, ![4, 2048, 2048]⟩
abbrev S4096 : Shape := ⟨1, ![4096]⟩
abbrev S4x24576 : Shape := ⟨2, ![4, 24576]⟩
abbrev S4096x4096 : Shape := ⟨2, ![4096, 4096]⟩
abbrev S4x2048x4096 : Shape := ⟨3, ![4, 2048, 4096]⟩
abbrev S4x1x24576 : Shape := ⟨3, ![4, 1, 24576]⟩
abbrev S8192x1024 : Shape := ⟨2, ![8192, 1024]⟩
abbrev S8192x2048 : Shape := ⟨2, ![8192, 2048]⟩
abbrev S8192x4096 : Shape := ⟨2, ![8192, 4096]⟩
abbrev S1x4096 : Shape := ⟨2, ![1, 4096]⟩
abbrev S512x1024 : Shape := ⟨2, ![512, 1024]⟩
abbrev S512x2048 : Shape := ⟨2, ![512, 2048]⟩
abbrev S4096x512 : Shape := ⟨2, ![4096, 512]⟩
abbrev S512x512 : Shape := ⟨2, ![512, 512]⟩
abbrev S1x1x512 : Shape := ⟨3, ![1, 1, 512]⟩
abbrev S512x4096 : Shape := ⟨2, ![512, 4096]⟩
abbrev S1x2048 : Shape := ⟨2, ![1, 2048]⟩
abbrev S512 : Shape := ⟨1, ![512]⟩
abbrev S512x1 : Shape := ⟨2, ![512, 1]⟩
abbrev S1x512 : Shape := ⟨2, ![1, 512]⟩

abbrev nBuf : Space → Nat
  | .hbm => 15
  | .vmem => 16
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x2048x2048, .f32⟩
  | .hbm, ⟨3, _⟩ => ⟨S4096, .f32⟩
  | .hbm, ⟨4, _⟩ => ⟨S4x24576, .f32⟩
  | .hbm, ⟨5, _⟩ => ⟨S4096x4096, .f32⟩
  | .hbm, ⟨6, _⟩ => ⟨S4x2048x4096, .f32⟩
  | .hbm, ⟨7, _⟩ => ⟨S4x1x24576, .f32⟩
  | .hbm, ⟨8, _⟩ => ⟨S8192x1024, .f32⟩
  | .hbm, ⟨9, _⟩ => ⟨S8192x1024, .f32⟩
  | .hbm, ⟨10, _⟩ => ⟨S8192x2048, .f32⟩
  | .hbm, ⟨11, _⟩ => ⟨S4096x4096, .bf16⟩
  | .hbm, ⟨12, _⟩ => ⟨S8192x4096, .f32⟩
  | .hbm, ⟨13, _⟩ => ⟨S1x4096, .f32⟩
  | .hbm, ⟨14, _⟩ => ⟨S8192x4096, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x2048, .f32⟩
  | .local _ .vmem, ⟨5, _⟩ => ⟨S512x2048, .f32⟩
  | .local _ .vmem, ⟨6, _⟩ => ⟨S1x4096, .f32⟩
  | .local _ .vmem, ⟨7, _⟩ => ⟨S4096x512, .bf16⟩
  | .local _ .vmem, ⟨8, _⟩ => ⟨S4096x512, .bf16⟩
  | .local _ .vmem, ⟨9, _⟩ => ⟨S512x512, .f32⟩
  | .local _ .vmem, ⟨10, _⟩ => ⟨S512x512, .f32⟩
  | .local _ .vmem, ⟨11, _⟩ => ⟨S1x1x512, .f32⟩
  | .local _ .vmem, ⟨12, _⟩ => ⟨S1x1x512, .f32⟩
  | .local _ .vmem, ⟨13, _⟩ => ⟨S512x512, .f32⟩
  | .local _ .vmem, ⟨14, _⟩ => ⟨S512x512, .f32⟩
  | .local _ .vmem, ⟨15, _⟩ => ⟨S512x4096, .bf16⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32 : BitVec 32 := 16#32
  let v17 : BitVec 32 := Scalar.addi c16_i32 arg1
  let c0_i32_4 : BitVec 32 := 0#32
  let c0_i32_5 : BitVec 32 := 0#32
  ![v16.toNat, c0_i32_4.toNat, v17.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S4096x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference3Ideal.lean ====
abbrev S4x2048x1024 : Shape := ⟨3, ![4, 2048, 1024]⟩
abbrev S4x2048x2048 : Shape := ⟨3, ![4, 2048, 2048]⟩
abbrev S4096 : Shape := ⟨1, ![4096]⟩
abbrev S4x24576 : Shape := ⟨2, ![4, 24576]⟩
abbrev S4096x4096 : Shape := ⟨2, ![4096, 4096]⟩
abbrev S4x2048x4096 : Shape := ⟨3, ![4, 2048, 4096]⟩
abbrev S4x1x24576 : Shape := ⟨3, ![4, 1, 24576]⟩
abbrev S4x1x4096 : Shape := ⟨3, ![4, 1, 4096]⟩
abbrev S2048 : Shape := ⟨1, ![2048]⟩
abbrev S_ : Shape := ⟨0, ![]⟩
abbrev S4x2048 : Shape := ⟨2, ![4, 2048]⟩
abbrev S4x2048x1 : Shape := ⟨3, ![4, 2048, 1]⟩
abbrev S1x1x2048 : Shape := ⟨3, ![1, 1, 2048]⟩
abbrev S8192x4096 : Shape := ⟨2, ![8192, 4096]⟩

abbrev nBuf : Space → Nat
  | .hbm => 37
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x2048x2048, .f32⟩
  | .hbm, ⟨3, _⟩ => ⟨S4096, .f32⟩
  | .hbm, ⟨4, _⟩ => ⟨S4x24576, .f32⟩
  | .hbm, ⟨5, _⟩ => ⟨S4096x4096, .f32⟩
  | .hbm, ⟨6, _⟩ => ⟨S4x2048x4096, .f32⟩
  | .hbm, ⟨7, _⟩ => ⟨S4x1x24576, .f32⟩
  | .hbm, ⟨8, _⟩ => ⟨S4x1x4096, .f32⟩
  | .hbm, ⟨9, _⟩ => ⟨S4x1x4096, .f32⟩
  | .hbm, ⟨10, _⟩ => ⟨S4x1x4096, .f32⟩
  | .hbm, ⟨11, _⟩ => ⟨S4x1x4096, .f32⟩
  | .hbm, ⟨12, _⟩ => ⟨S4x1x4096, .f32⟩
  | .hbm, ⟨13, _⟩ => ⟨S4x1x4096, .f32⟩
  | .hbm, ⟨14, _⟩ => ⟨S2048, .f32⟩
  | .hbm, ⟨15, _⟩ => ⟨S4x2048x2048, .f32⟩
  | .hbm, ⟨16, _⟩ => ⟨S_, .f32⟩
  | .hbm, ⟨17, _⟩ => ⟨S4x2048, .f32⟩
  | .hbm, ⟨18, _⟩ => ⟨S4x2048x1, .f32⟩
  | .hbm, ⟨19, _⟩ => ⟨S_, .f32⟩
  | .hbm, ⟨20, _⟩ => ⟨S4x2048x1, .f32⟩
  | .hbm, ⟨21, _⟩ => ⟨S4x2048x1, .f32⟩
  | .hbm, ⟨22, _⟩ => ⟨S_, .f32⟩
  | .hbm, ⟨23, _⟩ => ⟨S4x2048x1, .f32⟩
  | .hbm, ⟨24, _⟩ => ⟨S4x2048x1, .f32⟩
  | .hbm, ⟨25, _⟩ => ⟨S4x2048x1, .f32⟩
  | .hbm, ⟨26, _⟩ => ⟨S4x2048x2048, .f32⟩
  | .hbm, ⟨27, _⟩ => ⟨S4x2048x2048, .f32⟩
  | .hbm, ⟨28, _⟩ => ⟨S1x1x2048, .f32⟩
  | .hbm, ⟨29, _⟩ => ⟨S4x2048x2048, .f32⟩
  | .hbm, ⟨30, _⟩ => ⟨S4x2048x2048, .f32⟩
  | .hbm, ⟨31, _⟩ => ⟨S4x2048x4096, .f32⟩
  | .hbm, ⟨32, _⟩ => ⟨S4x2048x4096, .f32⟩
  | .hbm, ⟨33, _⟩ => ⟨S4x2048x4096, .f32⟩
  | .hbm, ⟨34, _⟩ => ⟨S4x2048x4096, .f32⟩
  | .hbm, ⟨35, _⟩ => ⟨S4x2048x4096, .f32⟩
  | .hbm, ⟨36, _⟩ => ⟨S8192x4096, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩

abbrev nD : Nat := 1
abbrev τ : Topo := Topo.v7x

variable {F : FTy → Type} [FloatOps F]
-- ==== Kernel4.lean ====
abbrev S4x2048x4096 : Shape := ⟨3, ![4, 2048, 4096]⟩
abbrev S4096 : Shape := ⟨1, ![4096]⟩
abbrev S4x24576 : Shape := ⟨2, ![4, 24576]⟩
abbrev S4096x2048 : Shape := ⟨2, ![4096, 2048]⟩
abbrev S4x1x24576 : Shape := ⟨3, ![4, 1, 24576]⟩
abbrev S8192x4096 : Shape := ⟨2, ![8192, 4096]⟩
abbrev S1x4096 : Shape := ⟨2, ![1, 4096]⟩
abbrev S8192x2048 : Shape := ⟨2, ![8192, 2048]⟩
abbrev S512x4096 : Shape := ⟨2, ![512, 4096]⟩
abbrev S1x1x4096 : Shape := ⟨3, ![1, 1, 4096]⟩
abbrev S4096x512 : Shape := ⟨2, ![4096, 512]⟩
abbrev S512x512 : Shape := ⟨2, ![512, 512]⟩
abbrev S512 : Shape := ⟨1, ![512]⟩
abbrev S512x1 : Shape := ⟨2, ![512, 1]⟩

abbrev nBuf : Space → Nat
  | .hbm => 10
  | .vmem => 13
  | .smem => 0
  | _ => 0

abbrev bufTy : (tb : Table) → Fin (tcTables nBuf tb) → BufTy
  | .hbm, ⟨0, _⟩ => ⟨S4x2048x4096, .f32⟩
  | .hbm, ⟨1, _⟩ => ⟨S4096, .f32⟩
  | .hbm, ⟨2, _⟩ => ⟨S4x24576, .f32⟩
  | .hbm, ⟨3, _⟩ => ⟨S4096x2048, .f32⟩
  | .hbm, ⟨4, _⟩ => ⟨S4x1x24576, .f32⟩
  | .hbm, ⟨5, _⟩ => ⟨S8192x4096, .f32⟩
  | .hbm, ⟨6, _⟩ => ⟨S4096x2048, .bf16⟩
  | .hbm, ⟨7, _⟩ => ⟨S1x4096, .f32⟩
  | .hbm, ⟨8, _⟩ => ⟨S8192x2048, .f32⟩
  | .hbm, ⟨9, _⟩ => ⟨S8192x4096, .bf16⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S1x1x4096, .f32⟩
  | .local _ .vmem, ⟨4, _⟩ => ⟨S1x1x4096, .f32⟩
  | .local _ .vmem, ⟨5, _⟩ => ⟨S1x1x4096, .f32⟩
  | .local _ .vmem, ⟨6, _⟩ => ⟨S1x1x4096, .f32⟩
  | .local _ .vmem, ⟨7, _⟩ => ⟨S4096x512, .bf16⟩
  | .local _ .vmem, ⟨8, _⟩ => ⟨S4096x512, .bf16⟩
  | .local _ .vmem, ⟨9, _⟩ => ⟨S512x512, .f32⟩
  | .local _ .vmem, ⟨10, _⟩ => ⟨S512x512, .f32⟩
  | .local _ .vmem, ⟨11, _⟩ => ⟨S512x4096, .bf16⟩
  | .local _ .vmem, ⟨12, _⟩ => ⟨S512x4096, .bf16⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![16, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c4_i32_5 : BitVec 32 := 4#32
  let c0_i32_6 : BitVec 32 := 0#32
  ![v16.toNat, c0_i32_4.toNat, c4_i32_5.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c3_i32 : BitVec 32 := 3#32
  let c0_i32_5 : BitVec 32 := 0#32
  ![v16.toNat, c0_i32_4.toNat, c3_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S4096x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference4Ideal.lean ====
abbrev S4x2048x4096 : Shape := ⟨3, ![4, 2048, 4096]⟩
abbrev S4096 : Shape := ⟨1, ![4096]⟩
abbrev S4x24576 : Shape := ⟨2, ![4, 24576]⟩
abbrev S4096x2048 : Shape := ⟨2, ![4096, 2048]⟩
abbrev S4x1x24576 : Shape := ⟨3, ![4, 1, 24576]⟩
abbrev S4x1x4096 : Shape := ⟨3, ![4, 1, 4096]⟩
abbrev S_ : Shape := ⟨0, ![]⟩
abbrev S4x2048 : Shape := ⟨2, ![4, 2048]⟩
abbrev S4x2048x1 : Shape := ⟨3, ![4, 2048, 1]⟩
abbrev S1x1x4096 : Shape := ⟨3, ![1, 1, 4096]⟩
abbrev S4x2048x2048 : Shape := ⟨3, ![4, 2048, 2048]⟩
abbrev S8192x2048 : Shape := ⟨2, ![8192, 2048]⟩
abbrev S8192x4096 : Shape := ⟨2, ![8192, 4096]⟩

abbrev nBuf : Space → Nat
  | .hbm => 38
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096, .f32⟩
  | .hbm, ⟨2, _⟩ => ⟨S4x24576, .f32⟩
  | .hbm, ⟨3, _⟩ => ⟨S4096x2048, .f32⟩
  | .hbm, ⟨4, _⟩ => ⟨S4x1x24576, .f32⟩
  | .hbm, ⟨5, _⟩ => ⟨S4x1x4096, .f32⟩
  | .hbm, ⟨6, _⟩ => ⟨S4x1x4096, .f32⟩
  | .hbm, ⟨7, _⟩ => ⟨S4x1x4096, .f32⟩
  | .hbm, ⟨8, _⟩ => ⟨S4x1x4096, .f32⟩
  | .hbm, ⟨9, _⟩ => ⟨S4x1x4096, .f32⟩
  | .hbm, ⟨10, _⟩ => ⟨S4x1x4096, .f32⟩
  | .hbm, ⟨11, _⟩ => ⟨S4x2048x4096, .f32⟩
  | .hbm, ⟨12, _⟩ => ⟨S_, .f32⟩
  | .hbm, ⟨13, _⟩ => ⟨S4x2048, .f32⟩
  | .hbm, ⟨14, _⟩ => ⟨S4x2048x1, .f32⟩
  | .hbm, ⟨15, _⟩ => ⟨S_, .f32⟩
  | .hbm, ⟨16, _⟩ => ⟨S4x2048x1, .f32⟩
  | .hbm, ⟨17, _⟩ => ⟨S4x2048x1, .f32⟩
  | .hbm, ⟨18, _⟩ => ⟨S_, .f32⟩
  | .hbm, ⟨19, _⟩ => ⟨S4x2048x1, .f32⟩
  | .hbm, ⟨20, _⟩ => ⟨S4x2048x1, .f32⟩
  | .hbm, ⟨21, _⟩ => ⟨S4x2048x1, .f32⟩
  | .hbm, ⟨22, _⟩ => ⟨S4x2048x4096, .f32⟩
  | .hbm, ⟨23, _⟩ => ⟨S4x2048x4096, .f32⟩
  | .hbm, ⟨24, _⟩ => ⟨S1x1x4096, .f32⟩
  | .hbm, ⟨25, _⟩ => ⟨S4x2048x4096, .f32⟩
  | .hbm, ⟨26, _⟩ => ⟨S4x2048x4096, .f32⟩
  | .hbm, ⟨27, _⟩ => ⟨S_, .f32⟩
  | .hbm, ⟨28, _⟩ => ⟨S4x1x4096, .f32⟩
  | .hbm, ⟨29, _⟩ => ⟨S4x1x4096, .f32⟩
  | .hbm, ⟨30, _⟩ => ⟨S4x2048x4096, .f32⟩
  | .hbm, ⟨31, _⟩ => ⟨S4x2048x4096, .f32⟩
  | .hbm, ⟨32, _⟩ => ⟨S4x2048x4096, .f32⟩
  | .hbm, ⟨33, _⟩ => ⟨S4x2048x4096, .f32⟩
  | .hbm, ⟨34, _⟩ => ⟨S4x2048x2048, .f32⟩
  | .hbm, ⟨35, _⟩ => ⟨S8192x2048, .f32⟩
  | .hbm, ⟨36, _⟩ => ⟨S8192x4096, .f32⟩
  | .hbm, ⟨37, _⟩ => ⟨S8192x4096, .bf16⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩

abbrev nD : Nat := 1
abbrev τ : Topo := Topo.v7x

variable {F : FTy → Type} [FloatOps F]
-- ==== Kernel5.lean ====
abbrev S4x2048x4096 : Shape := ⟨3, ![4, 2048, 4096]⟩
abbrev S4096 : Shape := ⟨1, ![4096]⟩
abbrev S8192x4096 : Shape := ⟨2, ![8192, 4096]⟩
abbrev S1x4096 : Shape := ⟨2, ![1, 4096]⟩
abbrev S512x4096 : Shape := ⟨2, ![512, 4096]⟩
abbrev S512 : Shape := ⟨1, ![512]⟩
abbrev S512x1 : Shape := ⟨2, ![512, 1]⟩

abbrev nBuf : Space → Nat
  | .hbm => 5
  | .vmem => 5
  | .smem => 0
  | _ => 0

abbrev bufTy : (tb : Table) → Fin (tcTables nBuf tb) → BufTy
  | .hbm, ⟨0, _⟩ => ⟨S4x2048x4096, .f32⟩
  | .hbm, ⟨1, _⟩ => ⟨S4096, .f32⟩
  | .hbm, ⟨2, _⟩ => ⟨S8192x4096, .f32⟩
  | .hbm, ⟨3, _⟩ => ⟨S1x4096, .f32⟩
  | .hbm, ⟨4, _⟩ => ⟨S8192x4096, .f32⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S512x4096, .f32⟩
  | .local _ .vmem, ⟨4, _⟩ => ⟨S512x4096, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference5Ideal.lean ====
abbrev S4x2048x4096 : Shape := ⟨3, ![4, 2048, 4096]⟩
abbrev S4096 : Shape := ⟨1, ![4096]⟩
abbrev S_ : Shape := ⟨0, ![]⟩
abbrev S4x2048 : Shape := ⟨2, ![4, 2048]⟩
abbrev S4x2048x1 : Shape := ⟨3, ![4, 2048, 1]⟩
abbrev S1x1x4096 : Shape := ⟨3, ![1, 1, 4096]⟩
abbrev S8192x4096 : Shape := ⟨2, ![8192, 4096]⟩

abbrev nBuf : Space → Nat
  | .hbm => 19
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096, .f32⟩
  | .hbm, ⟨2, _⟩ => ⟨S4x2048x4096, .f32⟩
  | .hbm, ⟨3, _⟩ => ⟨S_, .f32⟩
  | .hbm, ⟨4, _⟩ => ⟨S4x2048, .f32⟩
  | .hbm, ⟨5, _⟩ => ⟨S4x2048x1, .f32⟩
  | .hbm, ⟨6, _⟩ => ⟨S_, .f32⟩
  | .hbm, ⟨7, _⟩ => ⟨S4x2048x1, .f32⟩
  | .hbm, ⟨8, _⟩ => ⟨S4x2048x1, .f32⟩
  | .hbm, ⟨9, _⟩ => ⟨S_, .f32⟩
  | .hbm, ⟨10, _⟩ => ⟨S4x2048x1, .f32⟩
  | .hbm, ⟨11, _⟩ => ⟨S4x2048x1, .f32⟩
  | .hbm, ⟨12, _⟩ => ⟨S4x2048x1, .f32⟩
  | .hbm, ⟨13, _⟩ => ⟨S4x2048x4096, .f32⟩
  | .hbm, ⟨14, _⟩ => ⟨S4x2048x4096, .f32⟩
  | .hbm, ⟨15, _⟩ => ⟨S1x1x4096, .f32⟩
  | .hbm, ⟨16, _⟩ => ⟨S4x2048x4096, .f32⟩
  | .hbm, ⟨17, _⟩ => ⟨S4x2048x4096, .f32⟩
  | .hbm, ⟨18, _⟩ => ⟨S8192x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel6.lean ====
abbrev S8x4x4096 : Shape := ⟨3, ![8, 4, 4096]⟩
abbrev S4096 : Shape := ⟨1, ![4096]⟩
abbrev S32x4096 : Shape := ⟨2, ![32, 4096]⟩
abbrev S1x4096 : Shape := ⟨2, ![1, 4096]⟩
abbrev S32 : Shape := ⟨1, ![32]⟩
abbrev S32x1 : Shape := ⟨2, ![32, 1]⟩

abbrev nBuf : Space → Nat
  | .hbm => 5
  | .vmem => 3
  | .smem => 0
  | _ => 0

abbrev bufTy : (tb : Table) → Fin (tcTables nBuf tb) → BufTy
  | .hbm, ⟨0, _⟩ => ⟨S8x4x4096, .f32⟩
  | .hbm, ⟨1, _⟩ => ⟨S4096, .f32⟩
  | .hbm, ⟨2, _⟩ => ⟨S32x4096, .f32⟩
  | .hbm, ⟨3, _⟩ => ⟨S1x4096, .f32⟩
  | .hbm, ⟨4, _⟩ => ⟨S32x4096, .f32⟩
  | .local _ .vmem, ⟨0, _⟩ => ⟨S32x4096, .f32⟩
  | .local _ .vmem, ⟨1, _⟩ => ⟨S1x4096, .f32⟩
  | .local _ .vmem, ⟨2, _⟩ => ⟨S32x4096, .f32⟩
  | _, _ => ⟨S8x4x4096, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== Reference6Ideal.lean ====
abbrev S8x4x4096 : Shape := ⟨3, ![8, 4, 4096]⟩
abbrev S4096 : Shape := ⟨1, ![4096]⟩
abbrev S_ : Shape := ⟨0, ![]⟩
abbrev S8x4 : Shape := ⟨2, ![8, 4]⟩
abbrev S8x4x1 : Shape := ⟨3, ![8, 4, 1]⟩
abbrev S1x1x4096 : Shape := ⟨3, ![1, 1, 4096]⟩
abbrev S32x4096 : Shape := ⟨2, ![32, 4096]⟩

abbrev nBuf : Space → Nat
  | .hbm => 19
  | .vmem => 0
  | .smem => 0
  | _ => 0

abbrev bufTy : (tb : Table) → Fin (tcTables nBuf tb) → BufTy
  | .hbm, ⟨0, _⟩ => ⟨S8x4x4096, .f32⟩
  | .hbm, ⟨1, _⟩ => ⟨S4096, .f32⟩
  | .hbm, ⟨2, _⟩ => ⟨S8x4x4096, .f32⟩
  | .hbm, ⟨3, _⟩ => ⟨S_, .f32⟩
  | .hbm, ⟨4, _⟩ => ⟨S8x4, .f32⟩
  | .hbm, ⟨5, _⟩ => ⟨S8x4x1, .f32⟩
  | .hbm, ⟨6, _⟩ => ⟨S_, .f32⟩
  | .hbm, ⟨7, _⟩ => ⟨S8x4x1, .f32⟩
  | .hbm, ⟨8, _⟩ => ⟨S8x4x1, .f32⟩
  | .hbm, ⟨9, _⟩ => ⟨S_, .f32⟩
  | .hbm, ⟨10, _⟩ => ⟨S8x4x1, .f32⟩
  | .hbm, ⟨11, _⟩ => ⟨S8x4x1, .f32⟩
  | .hbm, ⟨12, _⟩ => ⟨S8x4x1, .f32⟩
  | .hbm, ⟨13, _⟩ => ⟨S8x4x4096, .f32⟩
  | .hbm, ⟨14, _⟩ => ⟨S8x4x4096, .f32⟩
  | .hbm, ⟨15, _⟩ => ⟨S1x1x4096, .f32⟩
  | .hbm, ⟨16, _⟩ => ⟨S8x4x4096, .f32⟩
  | .hbm, ⟨17, _⟩ => ⟨S8x4x4096, .f32⟩
  | .hbm, ⟨18, _⟩ => ⟨S32x4096, .f32⟩
  | _, _ => ⟨S8x4x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel7.lean ====
abbrev S4x4096 : Shape := ⟨2, ![4, 4096]⟩
abbrev S8x4096 : Shape := ⟨2, ![8, 4096]⟩
abbrev S4x4096x24576 : Shape := ⟨3, ![4, 4096, 24576]⟩
abbrev S4x24576 : Shape := ⟨2, ![4, 24576]⟩
abbrev S12x4096 : Shape := ⟨2, ![12, 4096]⟩
abbrev S_ : Shape := ⟨0, ![]⟩
abbrev S16x4096 : Shape := ⟨2, ![16, 4096]⟩
abbrev S4x1x24576 : Shape := ⟨3, ![4, 1, 24576]⟩
abbrev S4x16x24576 : Shape := ⟨3, ![4, 16, 24576]⟩
abbrev S1x4096x512 : Shape := ⟨3, ![1, 4096, 512]⟩
abbrev S1x1x512 : Shape := ⟨3, ![1, 1, 512]⟩
abbrev S1x16x512 : Shape := ⟨3, ![1, 16, 512]⟩
abbrev S4096x512 : Shape := ⟨2, ![4096, 512]⟩
abbrev S16x512 : Shape := ⟨2, ![16, 512]⟩
abbrev S1x512 : Shape := ⟨2, ![1, 512]⟩
abbrev S4x4x24576 : Shape := ⟨3, ![4, 4, 24576]⟩
abbrev S4x8x24576 : Shape := ⟨3, ![4, 8, 24576]⟩

abbrev nBuf : Space → Nat
  | .hbm => 12
  | .vmem => 7
  | .smem => 0
  | _ => 0

abbrev bufTy : (tb : Table) → Fin (tcTables nBuf tb) → BufTy
  | .hbm, ⟨0, _⟩ => ⟨S4x4096, .f32⟩
  | .hbm, ⟨1, _⟩ => ⟨S8x4096, .f32⟩
  | .hbm, ⟨2, _⟩ => ⟨S4x4096x24576, .f32⟩
  | .hbm, ⟨3, _⟩ => ⟨S4x24576, .f32⟩
  | .hbm, ⟨4, _⟩ => ⟨S12x4096, .f32⟩
  | .hbm, ⟨5, _⟩ => ⟨S_, .i32⟩
  | .hbm, ⟨6, _⟩ => ⟨S_, .f32⟩
  | .hbm, ⟨7, _⟩ => ⟨S16x4096, .f32⟩
  | .hbm, ⟨8, _⟩ => ⟨S4x1x24576, .f32⟩
  | .hbm, ⟨9, _⟩ => ⟨S4x16x24576, .f32⟩
  | .hbm, ⟨10, _⟩ => ⟨S4x4x24576, .f32⟩
  | .hbm, ⟨11, _⟩ => ⟨S4x8x24576, .f32⟩
  | .local _ .vmem, ⟨0, _⟩ => ⟨S16x4096, .f32⟩
  | .local _ .vmem, ⟨1, _⟩ => ⟨S1x4096x512, .f32⟩
  | .local _ .vmem, ⟨2, _⟩ => ⟨S1x4096x512, .f32⟩
  | .local _ .vmem, ⟨3, _⟩ => ⟨S1x1x512, .f32⟩
  | .local _ .vmem, ⟨4, _⟩ => ⟨S1x1x512, .f32⟩
  | .local _ .vmem, ⟨5, _⟩ => ⟨S1x16x512, .f32⟩
  | .local _ .vmem, ⟨6, _⟩ => ⟨S1x16x512, .f32⟩
  | _, _ => ⟨S4x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 48], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S16x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference7Ideal.lean ====
abbrev S4x4096 : Shape := ⟨2, ![4, 4096]⟩
abbrev S8x4096 : Shape := ⟨2, ![8, 4096]⟩
abbrev S4x4096x24576 : Shape := ⟨3, ![4, 4096, 24576]⟩
abbrev S4x24576 : Shape := ⟨2, ![4, 24576]⟩
abbrev S_ : Shape := ⟨0, ![]⟩
abbrev S4x4x24576 : Shape := ⟨3, ![4, 4, 24576]⟩
abbrev S4x1x24576 : Shape := ⟨3, ![4, 1, 24576]⟩
abbrev S8x4x24576 : Shape := ⟨3, ![8, 4, 24576]⟩
abbrev S4x8x24576 : Shape := ⟨3, ![4, 8, 24576]⟩

abbrev nBuf : Space → Nat
  | .hbm => 32
  | .vmem => 0
  | .smem => 0
  | _ => 0

abbrev bufTy : (tb : Table) → Fin (tcTables nBuf tb) → BufTy
  | .hbm, ⟨0, _⟩ => ⟨S4x4096, .f32⟩
  | .hbm, ⟨1, _⟩ => ⟨S8x4096, .f32⟩
  | .hbm, ⟨2, _⟩ => ⟨S4x4096x24576, .f32⟩
  | .hbm, ⟨3, _⟩ => ⟨S4x24576, .f32⟩
  | .hbm, ⟨4, _⟩ => ⟨S4x4096, .f32⟩
  | .hbm, ⟨5, _⟩ => ⟨S4x4096, .f32⟩
  | .hbm, ⟨6, _⟩ => ⟨S_, .f32⟩
  | .hbm, ⟨7, _⟩ => ⟨S4x4096, .f32⟩
  | .hbm, ⟨8, _⟩ => ⟨S4x4096, .f32⟩
  | .hbm, ⟨9, _⟩ => ⟨S_, .f32⟩
  | .hbm, ⟨10, _⟩ => ⟨S4x4096, .f32⟩
  | .hbm, ⟨11, _⟩ => ⟨S4x4096, .f32⟩
  | .hbm, ⟨12, _⟩ => ⟨S4x4096, .f32⟩
  | .hbm, ⟨13, _⟩ => ⟨S4x4x24576, .f32⟩
  | .hbm, ⟨14, _⟩ => ⟨S4x4x24576, .f32⟩
  | .hbm, ⟨15, _⟩ => ⟨S4x1x24576, .f32⟩
  | .hbm, ⟨16, _⟩ => ⟨S4x4x24576, .f32⟩
  | .hbm, ⟨17, _⟩ => ⟨S4x4x24576, .f32⟩
  | .hbm, ⟨18, _⟩ => ⟨S8x4096, .f32⟩
  | .hbm, ⟨19, _⟩ => ⟨S8x4096, .f32⟩
  | .hbm, ⟨20, _⟩ => ⟨S_, .f32⟩
  | .hbm, ⟨21, _⟩ => ⟨S8x4096, .f32⟩
  | .hbm, ⟨22, _⟩ => ⟨S8x4096, .f32⟩
  | .hbm, ⟨23, _⟩ => ⟨S_, .f32⟩
  | .hbm, ⟨24, _⟩ => ⟨S8x4096, .f32⟩
  | .hbm, ⟨25, _⟩ => ⟨S8x4096, .f32⟩
  | .hbm, ⟨26, _⟩ => ⟨S8x4096, .f32⟩
  | .hbm, ⟨27, _⟩ => ⟨S8x4x24576, .f32⟩
  | .hbm, ⟨28, _⟩ => ⟨S4x8x24576, .f32⟩
  | .hbm, ⟨29, _⟩ => ⟨S4x1x24576, .f32⟩
  | .hbm, ⟨30, _⟩ => ⟨S4x8x24576, .f32⟩
  | .hbm, ⟨31, _⟩ => ⟨S4x8x24576, .f32⟩
  | _, _ => ⟨S4x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_call1_v0 : Ref sig .tc := ⟨.hbm, 18, rfl⟩
abbrev main_call1_v1 : Ref sig .tc := ⟨.hbm, 19, rfl⟩
abbrev main_call1_cst : Ref sig .tc := ⟨.hbm, 20, rfl⟩
abbrev main_call1_v2 : Ref sig .tc := ⟨.hbm, 21, rfl⟩
abbrev main_call1_v3 : Ref sig .tc := ⟨.hbm, 22, rfl⟩
abbrev main_call1_cst_0 : Ref sig .tc := ⟨.hbm, 23, rfl⟩
abbrev main_call1_v4 : Ref sig .tc := ⟨.hbm, 24, rfl⟩
abbrev main_call1_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩

abbrev nD : Nat := 1
abbrev τ : Topo := Topo.v7x

variable {F : FTy → Type} [FloatOps F]
-- ==== Kernel8.lean ====
abbrev S8x4x4096 : Shape := ⟨3, ![8, 4, 4096]⟩
abbrev S4096 : Shape := ⟨1, ![4096]⟩
abbrev S8x24576 : Shape := ⟨2, ![8, 24576]⟩
abbrev S4096x9216 : Shape := ⟨2, ![4096, 9216]⟩
abbrev S8x4x2048 : Shape := ⟨3, ![8, 4, 2048]⟩
abbrev S32x4096 : Shape := ⟨2, ![32, 4096]⟩
abbrev S8x4x24576 : Shape := ⟨3, ![8, 4, 24576]⟩
abbrev S32x24576 : Shape := ⟨2, ![32, 24576]⟩
abbrev S1x32x24576 : Shape := ⟨3, ![1, 32, 24576]⟩
abbrev S1x4096 : Shape := ⟨2, ![1, 4096]⟩
abbrev S32x9216 : Shape := ⟨2, ![32, 9216]⟩
abbrev S1x32x4096 : Shape := ⟨3, ![1, 32, 4096]⟩
abbrev S4096x512 : Shape := ⟨2, ![4096, 512]⟩
abbrev S32x512 : Shape := ⟨2, ![32, 512]⟩
abbrev S32 : Shape := ⟨1, ![32]⟩
abbrev S32x1 : Shape := ⟨2, ![32, 1]⟩
abbrev S32x2048 : Shape := ⟨2, ![32, 2048]⟩
abbrev S8x1x4x2048 : Shape := ⟨4, ![8, 1, 4, 2048]⟩
abbrev S8x4x4x2048 : Shape := ⟨4, ![8, 4, 4, 2048]⟩

abbrev nBuf : Space → Nat
  | .hbm => 31
  | .vmem => 9
  | .smem => 0
  | _ => 0

abbrev bufTy : (tb : Table) → Fin (tcTables nBuf tb) → BufTy
  | .hbm, ⟨0, _⟩ => ⟨S8x4x4096, .f32⟩
  | .hbm, ⟨1, _⟩ => ⟨S4096, .f32⟩
  | .hbm, ⟨2, _⟩ => ⟨S8x24576, .f32⟩
  | .hbm, ⟨3, _⟩ => ⟨S4096x9216, .f32⟩
  | .hbm, ⟨4, _⟩ => ⟨S8x4x2048, .f32⟩
  | .hbm, ⟨5, _⟩ => ⟨S8x4x2048, .f32⟩
  | .hbm, ⟨6, _⟩ => ⟨S8x4x2048, .f32⟩
  | .hbm, ⟨7, _⟩ => ⟨S8x4x2048, .f32⟩
  | .hbm, ⟨8, _⟩ => ⟨S8x4x2048, .f32⟩
  | .hbm, ⟨9, _⟩ => ⟨S8x4x2048, .f32⟩
  | .hbm, ⟨10, _⟩ => ⟨S32x4096, .f32⟩
  | .hbm, ⟨11, _⟩ => ⟨S8x4x24576, .f32⟩
  | .hbm, ⟨12, _⟩ => ⟨S32x24576, .f32⟩
  | .hbm, ⟨13, _⟩ => ⟨S1x32x24576, .f32⟩
  | .hbm, ⟨14, _⟩ => ⟨S4096x9216, .bf16⟩
  | .hbm, ⟨15, _⟩ => ⟨S1x4096, .f32⟩
  | .hbm, ⟨16, _⟩ => ⟨S32x9216, .f32⟩
  | .hbm, ⟨17, _⟩ => ⟨S32x2048, .f32⟩
  | .hbm, ⟨18, _⟩ => ⟨S8x4x2048, .f32⟩
  | .hbm, ⟨19, _⟩ => ⟨S32x2048, .f32⟩
  | .hbm, ⟨20, _⟩ => ⟨S8x4x2048, .f32⟩
  | .hbm, ⟨21, _⟩ => ⟨S8x1x4x2048, .f32⟩
  | .hbm, ⟨22, _⟩ => ⟨S8x1x4x2048, .f32⟩
  | .hbm, ⟨23, _⟩ => ⟨S8x1x4x2048, .f32⟩
  | .hbm, ⟨24, _⟩ => ⟨S8x1x4x2048, .f32⟩
  | .hbm, ⟨25, _⟩ => ⟨S8x4x4x2048, .f32⟩
  | .hbm, ⟨26, _⟩ => ⟨S8x1x4x2048, .f32⟩
  | .hbm, ⟨27, _⟩ => ⟨S8x1x4x2048, .f32⟩
  | .hbm, ⟨28, _⟩ => ⟨S8x1x4x2048, .f32⟩
  | .hbm, ⟨29, _⟩ => ⟨S8x1x4x2048, .f32⟩
  | .hbm, ⟨30, _⟩ => ⟨S8x4x4x2048, .f32⟩
  | .local _ .vmem, ⟨0, _⟩ => ⟨S32x4096, .f32⟩
  | .local _ .vmem, ⟨1, _⟩ => ⟨S1x4096, .f32⟩
  | .local _ .vmem, ⟨2, _⟩ => ⟨S1x32x4096, .f32⟩
  | .local _ .vmem, ⟨3, _⟩ => ⟨S1x32x4096, .f32⟩
  | .local _ .vmem, ⟨4, _⟩ => ⟨S4096x512, .bf16⟩
  | .local _ .vmem, ⟨5, _⟩ => ⟨S4096x512, .bf16⟩
  | .local _ .vmem, ⟨6, _⟩ => ⟨S32x512, .f32⟩
  | .local _ .vmem, ⟨7, _⟩ => ⟨S32x512, .f32⟩
  | .local _ .vmem, ⟨8, _⟩ => ⟨S32x4096, .bf16⟩
  | _, _ => ⟨S8x4x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![1, 18], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c1_i32_6 : BitVec 32 := 1#32
  let c0_i32_7 : BitVec 32 := 0#32
  ![v16.toNat, c0_i32_5.toNat, c1_i32_6.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![v16.toNat, c0_i32_5.toNat, c0_i32_6.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S32x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x32x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1x32x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 2 → Memref sig .tc .vmem S4096x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S32x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference8Ideal.lean ====
abbrev S8x4x4096 : Shape := ⟨3, ![8, 4, 4096]⟩
abbrev S4096 : Shape := ⟨1, ![4096]⟩
abbrev S8x24576 : Shape := ⟨2, ![8, 24576]⟩
abbrev S4096x9216 : Shape := ⟨2, ![4096, 9216]⟩
abbrev S8x4x2048 : Shape := ⟨3, ![8, 4, 2048]⟩
abbrev S8x1x24576 : Shape := ⟨3, ![8, 1, 24576]⟩
abbrev S8x1x4096 : Shape := ⟨3, ![8, 1, 4096]⟩
abbrev S_ : Shape := ⟨0, ![]⟩
abbrev S8x4 : Shape := ⟨2, ![8, 4]⟩
abbrev S8x4x1 : Shape := ⟨3, ![8, 4, 1]⟩
abbrev S1x1x4096 : Shape := ⟨3, ![1, 1, 4096]⟩
abbrev S8x4x9216 : Shape := ⟨3, ![8, 4, 9216]⟩
abbrev S8x4x1024 : Shape := ⟨3, ![8, 4, 1024]⟩
abbrev S32x9216 : Shape := ⟨2, ![32, 9216]⟩
abbrev S8x1x4x2048 : Shape := ⟨4, ![8, 1, 4, 2048]⟩
abbrev S8x4x4x2048 : Shape := ⟨4, ![8, 4, 4, 2048]⟩

abbrev nBuf : Space → Nat
  | .hbm => 57
  | .vmem => 0
  | .smem => 0
  | _ => 0

abbrev bufTy : (tb : Table) → Fin (tcTables nBuf tb) → BufTy
  | .hbm, ⟨0, _⟩ => ⟨S8x4x4096, .f32⟩
  | .hbm, ⟨1, _⟩ => ⟨S4096, .f32⟩
  | .hbm, ⟨2, _⟩ => ⟨S8x24576, .f32⟩
  | .hbm, ⟨3, _⟩ => ⟨S4096x9216, .f32⟩
  | .hbm, ⟨4, _⟩ => ⟨S8x4x2048, .f32⟩
  | .hbm, ⟨5, _⟩ => ⟨S8x4x2048, .f32⟩
  | .hbm, ⟨6, _⟩ => ⟨S8x4x2048, .f32⟩
  | .hbm, ⟨7, _⟩ => ⟨S8x4x2048, .f32⟩
  | .hbm, ⟨8, _⟩ => ⟨S8x4x2048, .f32⟩
  | .hbm, ⟨9, _⟩ => ⟨S8x4x2048, .f32⟩
  | .hbm, ⟨10, _⟩ => ⟨S8x1x24576, .f32⟩
  | .hbm, ⟨11, _⟩ => ⟨S8x1x4096, .f32⟩
  | .hbm, ⟨12, _⟩ => ⟨S8x1x4096, .f32⟩
  | .hbm, ⟨13, _⟩ => ⟨S8x1x4096, .f32⟩
  | .hbm, ⟨14, _⟩ => ⟨S8x1x4096, .f32⟩
  | .hbm, ⟨15, _⟩ => ⟨S8x1x4096, .f32⟩
  | .hbm, ⟨16, _⟩ => ⟨S8x1x4096, .f32⟩
  | .hbm, ⟨17, _⟩ => ⟨S8x4x4096, .f32⟩
  | .hbm, ⟨18, _⟩ => ⟨S_, .f32⟩
  | .hbm, ⟨19, _⟩ => ⟨S8x4, .f32⟩
  | .hbm, ⟨20, _⟩ => ⟨S8x4x1, .f32⟩
  | .hbm, ⟨21, _⟩ => ⟨S_, .f32⟩
  | .hbm, ⟨22, _⟩ => ⟨S8x4x1, .f32⟩
  | .hbm, ⟨23, _⟩ => ⟨S8x4x1, .f32⟩
  | .hbm, ⟨24, _⟩ => ⟨S_, .f32⟩
  | .hbm, ⟨25, _⟩ => ⟨S8x4x1, .f32⟩
  | .hbm, ⟨26, _⟩ => ⟨S8x4x1, .f32⟩
  | .hbm, ⟨27, _⟩ => ⟨S8x4x1, .f32⟩
  | .hbm, ⟨28, _⟩ => ⟨S8x4x4096, .f32⟩
  | .hbm, ⟨29, _⟩ => ⟨S8x4x4096, .f32⟩
  | .hbm, ⟨30, _⟩ => ⟨S1x1x4096, .f32⟩
  | .hbm, ⟨31, _⟩ => ⟨S8x4x4096, .f32⟩
  | .hbm, ⟨32, _⟩ => ⟨S8x4x4096, .f32⟩
  | .hbm, ⟨33, _⟩ => ⟨S_, .f32⟩
  | .hbm, ⟨34, _⟩ => ⟨S8x1x4096, .f32⟩
  | .hbm, ⟨35, _⟩ => ⟨S8x1x4096, .f32⟩
  | .hbm, ⟨36, _⟩ => ⟨S8x4x4096, .f32⟩
  | .hbm, ⟨37, _⟩ => ⟨S8x4x4096, .f32⟩
  | .hbm, ⟨38, _⟩ => ⟨S8x4x4096, .f32⟩
  | .hbm, ⟨39, _⟩ => ⟨S8x4x4096, .f32⟩
  | .hbm, ⟨40, _⟩ => ⟨S8x4x9216, .f32⟩
  | .hbm, ⟨41, _⟩ => ⟨S8x4x1024, .f32⟩
  | .hbm, ⟨42, _⟩ => ⟨S8x4x2048, .f32⟩
  | .hbm, ⟨43, _⟩ => ⟨S8x4x2048, .f32⟩
  | .hbm, ⟨44, _⟩ => ⟨S8x4x2048, .f32⟩
  | .hbm, ⟨45, _⟩ => ⟨S8x4x2048, .f32⟩
  | .hbm, ⟨46, _⟩ => ⟨S32x9216, .f32⟩
  | .hbm, ⟨47, _⟩ => ⟨S8x1x4x2048, .f32⟩
  | .hbm, ⟨48, _⟩ => ⟨S8x1x4x2048, .f32⟩
  | .hbm, ⟨49, _⟩ => ⟨S8x1x4x2048, .f32⟩
  | .hbm, ⟨50, _⟩ => ⟨S8x1x4x2048, .f32⟩
  | .hbm, ⟨51, _⟩ => ⟨S8x4x4x2048, .f32⟩
  | .hbm, ⟨52, _⟩ => ⟨S8x1x4x2048, .f32⟩
  | .hbm, ⟨53, _⟩ => ⟨S8x1x4x2048, .f32⟩
  | .hbm, ⟨54, _⟩ => ⟨S8x1x4x2048, .f32⟩
  | .hbm, ⟨55, _⟩ => ⟨S8x1x4x2048, .f32⟩
  | .hbm, ⟨56, _⟩ => ⟨S8x4x4x2048, .f32⟩
  | _, _ => ⟨S8x4x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_v9 : Ref sig .tc := ⟨.hbm, 20, rfl⟩
abbrev main_cst_0 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_2 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩

abbrev nD : Nat := 1
abbrev τ : Topo := Topo.v7x

variable {F : FTy → Type} [FloatOps F]
-- ==== Proof.Block.lean ====
/-
  What one trip of the outer loop stores, as a function of the three blocks alone: per head, the sum over the diagonal
  key block and then, block by block backwards, over the earlier ones.
-/
module

public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import Idealize.ShloMosaic.Adequacy
public import Idealize.ShloMosaic.Init
public import Idealize.ShloMosaic.Lib.ValueIdxCore

@[expose] public section

set_option maxRecDepth 16384
set_option maxHeartbeats 4000000

noncomputable section

namespace Cert.Proof.Attn

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (c : Dev nD) (i : grid0.Coords) (arg2 : Memref sig .tc .smem S16 .f32) (harg2 : arg2.IsWhole)
  (arg3 : Memref sig .tc .vmem S1x2048x512 .f32) (harg3 : arg3.IsWhole) (arg4 : Memref sig .tc .vmem S1x2048x512 .f32) (harg4 : arg4.IsWhole)
  (arg5 : Memref sig .tc .vmem S1x2048x512 .f32) (harg5 : arg5.IsWhole) (arg6 : Memref sig .tc .vmem S1x2048x512 .f32) (harg6 : arg6.IsWhole)
  (arg7 : Memref sig .tc .vmem S2048x512 .bf16) (harg7 : arg7.IsWhole) (arg8 : Memref sig .tc .vmem S2048x512 .bf16) (harg8 : arg8.IsWhole)
  (arg9 : Memref sig .tc .vmem S2048x512 .bf16) (harg9 : arg9.IsWhole) (v3 v7 v11 v15 : Elt F .f32)
  (X7 : BufTy.Contents (Elt F) arg7.view.ty) (X8 : BufTy.Contents (Elt F) arg8.view.ty) (X9 : BufTy.Contents (Elt F) arg9.view.ty)

/-- Column `r` of rows `256 j ..`, `128 h ..` of a `2048 × 512` block. -/
def cell (h : Fin 4) (j : ℕ) (x : S256x128.Idx) : S2048x512.Idx :=
  ValueIdx.ix2 ⟨(256 * j + (x 0).val) % 2048, Nat.mod_lt _ (by decide)⟩ ⟨128 * h.val + (x 1).val, by
    have h1 : (x 1).val < 128 := (x 1).isLt
    have h2 := h.isLt
    omega⟩

/-- Rows `256 j ..`, head `h` of a `2048 × 512` block. -/
def tile (X : S2048x512.Idx → Elt F .bf16) (h : Fin 4) (j : ℕ) : Vec F S256x128 .bf16 := fun x => X (cell h j x)

theorem ld_tile (X : S2048x512.Idx → Elt F .bf16) (h : Fin 4) (j : ℕ) (hj : j < 8) (off : Fin 2 → ℕ)
    (inb : ∀ a, off a + S256x128.size a ≤ S2048x512.size a) (he : off = ![256 * j, 128 * h.val]) :
    (View.ld X (Rect.unit (s := S2048x512) off S256x128.size inb) : S256x128.Idx → Elt F .bf16) = tile X h j := by
  subst he
  funext x
  have h0 : (x 0).val < 256 := (x 0).isLt
  refine congrArg X (funext fun a => Fin.ext ?_)
  fin_cases a
  · show 256 * j + 1 * (x 0).val = (256 * j + (x 0).val) % 2048
    rw [Nat.mod_eq_of_lt (by omega)]; omega
  · show 128 * h.val + 1 * (x 1).val = 128 * h.val + (x 1).val
    omega

/-- One head's running pair (the sum so far, the logarithms' sum so far) after the diagonal block and `s` earlier ones. -/
def head (b : Elt F .f32) (Q K V : S2048x512.Idx → Elt F .bf16) (h : Fin 4) (k : ℕ) : ℕ → FVec F S256x128 .f32 × FVec F S256x128 .f32
  | 0 => (k0_pay57 b (k0_pay2 (F := F)) k0_pay3 (tile Q h k) (tile K h k) (tile V h k),
          k0_pay56 b (k0_pay2 (F := F)) k0_pay3 (tile Q h k) (tile K h k))
  | s + 1 =>
    (k0_pay9 b (k0_pay2 (F := F)) (head b Q K V h k s).1 (head b Q K V h k s).2 (tile Q h k) (tile K h (k - 1 - s)) (tile V h (k - 1 - s)),
     k0_pay8 b (k0_pay2 (F := F)) (head b Q K V h k s).2 (tile Q h k) (tile K h (k - 1 - s)))

theorem t1_trips : k0_t1_loop.trips = 8 := by decide +kernel
theorem t2_trips : ∀ k : Fin k0_t1_loop.trips, (k0_t2_loop k).trips = k.val := by decide +kernel
theorem t3_trips : ∀ k : Fin k0_t1_loop.trips, (k0_t3_loop k).trips = 0 := by decide +kernel
theorem off7_eq : ∀ (k : Fin k0_t1_loop.trips) (s : Fin (k0_t2_loop k).trips), k0_off7 k s = ![256 * (k.val - 1 - s.val), 0] := by decide +kernel
theorem off9_eq : ∀ (k : Fin k0_t1_loop.trips) (s : Fin (k0_t2_loop k).trips), k0_off9 k s = ![256 * (k.val - 1 - s.val), 128] := by decide +kernel
theorem off11_eq : ∀ (k : Fin k0_t1_loop.trips) (s : Fin (k0_t2_loop k).trips), k0_off11 k s = ![256 * (k.val - 1 - s.val), 256] := by decide +kernel
theorem off13_eq : ∀ (k : Fin k0_t1_loop.trips) (s : Fin (k0_t2_loop k).trips), k0_off13 k s = ![256 * (k.val - 1 - s.val), 384] := by decide +kernel

/-- The four heads' pairs, as the inner loop carries them. -/
abbrev heads (v3 v7 v11 v15 : Elt F .f32) (Q K V : S2048x512.Idx → Elt F .bf16) (k s : ℕ) :
    FVec F S256x128 .f32 × FVec F S256x128 .f32 × FVec F S256x128 .f32 × FVec F S256x128 .f32 × FVec F S256x128 .f32 × FVec F S256x128 .f32 × FVec F S256x128 .f32 × FVec F S256x128 .f32 :=
  ((head v3 Q K V 0 k s).1, (head v3 Q K V 0 k s).2, (head v7 Q K V 1 k s).1, (head v7 Q K V 1 k s).2,
   (head v11 Q K V 2 k s).1, (head v11 Q K V 2 k s).2, (head v15 Q K V 3 k s).1, (head v15 Q K V 3 k s).2)

section
variable (v49 : IVec S256x256 1) (k : Fin k0_t1_loop.trips) (arg10 v52 : BitVec 32) (v53 v54 v87 v92 v125 v130 v163 v168 : FVec F S256x128 .f32)

theorem tripR_eq (v175 v177 v184) (s : Fin (k0_t2_loop k).trips) (acc) :
    tripR_k0_t2 (F := F) Variants.none c none i arg2 harg2 arg3 harg3 arg4 harg4 arg5 harg5 arg6 harg6 arg7 harg7 arg8 harg8 arg9 harg9 v3 v7 v11 v15 k0_pay2 v49 k arg10 v52 v53 v54 v87 v92 v125 v130 v163 v168 v175 v177 v184 X7 X8 X9 s acc
      = (k0_pay9 v3 k0_pay2 acc.1 acc.2.1 (View.ld (arg7.view.read _ X7) (Rect.unit (s := S2048x512) (k0_off6 k) S256x128.size (k0_off6_inb k)))
           (View.ld (arg8.view.read _ X8) (Rect.unit (s := S2048x512) (k0_off7 k s) S256x128.size (k0_off7_inb k s)))
           (View.ld (arg9.view.read _ X9) (Rect.unit (s := S2048x512) (k0_off7 k s) S256x128.size (k0_off7_inb k s))),
         k0_pay8 v3 k0_pay2 acc.2.1 (View.ld (arg7.view.read _ X7) (Rect.unit (s := S2048x512) (k0_off6 k) S256x128.size (k0_off6_inb k)))
           (View.ld (arg8.view.read _ X8) (Rect.unit (s := S2048x512) (k0_off7 k s) S256x128.size (k0_off7_inb k s))),
         k0_pay9 v7 k0_pay2 acc.2.2.1 acc.2.2.2.1 (View.ld (arg7.view.read _ X7) (Rect.unit (s := S2048x512) (k0_off8 k) S256x128.size (k0_off8_inb k)))
           (View.ld (arg8.view.read _ X8) (Rect.unit (s := S2048x512) (k0_off9 k s) S256x128.size (k0_off9_inb k s)))
           (View.ld (arg9.view.read _ X9) (Rect.unit (s := S2048x512) (k0_off9 k s) S256x128.size (k0_off9_inb k s))),
         k0_pay8 v7 k0_pay2 acc.2.2.2.1 (View.ld (arg7.view.read _ X7) (Rect.unit (s := S2048x512) (k0_off8 k) S256x128.size (k0_off8_inb k)))
           (View.ld (arg8.view.read _ X8) (Rect.unit (s := S2048x512) (k0_off9 k s) S256x128.size (k0_off9_inb k s))),
         k0_pay9 v11 k0_pay2 acc.2.2.2.2.1 acc.2.2.2.2.2.1 (View.ld (arg7.view.read _ X7) (Rect.unit (s := S2048x512) (k0_off10 k) S256x128.size (k0_off10_inb k)))
           (View.ld (arg8.view.read _ X8) (Rect.unit (s := S2048x512) (k0_off11 k s) S256x128.size (k0_off11_inb k s)))
           (View.ld (arg9.view.read _ X9) (Rect.unit (s := S2048x512) (k0_off11 k s) S256x128.size (k0_off11_inb k s))),
         k0_pay8 v11 k0_pay2 acc.2.2.2.2.2.1 (View.ld (arg7.view.read _ X7) (Rect.unit (s := S2048x512) (k0_off10 k) S256x128.size (k0_off10_inb k)))
           (View.ld (arg8.view.read _ X8) (Rect.unit (s := S2048x512) (k0_off11 k s) S256x128.size (k0_off11_inb k s))),
         k0_pay9 v15 k0_pay2 acc.2.2.2.2.2.2.1 acc.2.2.2.2.2.2.2 (View.ld (arg7.view.read _ X7) (Rect.unit (s := S2048x512) (k0_off12 k) S256x128.size (k0_off12_inb k)))
           (View.ld (arg8.view.read _ X8) (Rect.unit (s := S2048x512) (k0_off13 k s) S256x128.size (k0_off13_inb k s)))
           (View.ld (arg9.view.read _ X9) (Rect.unit (s := S2048x512) (k0_off13 k s) S256x128.size (k0_off13_inb k s))),
         k0_pay8 v15 k0_pay2 acc.2.2.2.2.2.2.2 (View.ld (arg7.view.read _ X7) (Rect.unit (s := S2048x512) (k0_off12 k) S256x128.size (k0_off12_inb k)))
           (View.ld (arg8.view.read _ X8) (Rect.unit (s := S2048x512) (k0_off13 k s) S256x128.size (k0_off13_inb k s)))) := by
  unfold tripR_k0_t2 trip_k0_t2
  rfl

theorem st2_eq (v175 v177 v184) (s : ℕ) (hs : s ≤ k.val) :
    st_k0_t2 (F := F) Variants.none c none i arg2 harg2 arg3 harg3 arg4 harg4 arg5 harg5 arg6 harg6 arg7 harg7 arg8 harg8 arg9 harg9 v3 v7 v11 v15 k0_pay2 v49 k arg10 v52 v53 v54 v87 v92 v125 v130 v163 v168 v175 v177 v184 X7 X8 X9
        (heads v3 v7 v11 v15 (arg7.view.read _ X7) (arg8.view.read _ X8) (arg9.view.read _ X9) k.val 0) s
      = heads v3 v7 v11 v15 (arg7.view.read _ X7) (arg8.view.read _ X8) (arg9.view.read _ X9) k.val s := by
  have hk : k.val < 8 := t1_trips ▸ k.isLt
  induction s with
  | zero => rfl
  | succ s ih =>
    have hlt : s < (k0_t2_loop k).trips := by rw [t2_trips]; omega
    have hsucc := st_k0_t2_succ (F := F) Variants.none c none i arg2 harg2 arg3 harg3 arg4 harg4 arg5 harg5 arg6 harg6 arg7 harg7 arg8 harg8 arg9 harg9 v3 v7 v11 v15 k0_pay2 v49 k arg10 v52 v53 v54 v87 v92 v125 v130 v163 v168 v175 v177 v184 X7 X8 X9
        (heads v3 v7 v11 v15 (arg7.view.read _ X7) (arg8.view.read _ X8) (arg9.view.read _ X9) k.val 0) ⟨s, hlt⟩
    refine hsucc.trans ?_
    rw [ih (by omega), tripR_eq]
    rw [ld_tile _ 0 k.val hk _ _ (k0_off6_eq k), ld_tile _ 1 k.val hk _ _ (k0_off8_eq k), ld_tile _ 2 k.val hk _ _ (k0_off10_eq k),
      ld_tile _ 3 k.val hk _ _ (k0_off12_eq k),
      ld_tile _ 0 (k.val - 1 - s) (by omega) _ _ (off7_eq k ⟨s, hlt⟩), ld_tile _ 1 (k.val - 1 - s) (by omega) _ _ (off9_eq k ⟨s, hlt⟩),
      ld_tile _ 2 (k.val - 1 - s) (by omega) _ _ (off11_eq k ⟨s, hlt⟩), ld_tile _ 3 (k.val - 1 - s) (by omega) _ _ (off13_eq k ⟨s, hlt⟩),
      ld_tile _ 0 (k.val - 1 - s) (by omega) _ _ (off7_eq k ⟨s, hlt⟩), ld_tile _ 1 (k.val - 1 - s) (by omega) _ _ (off9_eq k ⟨s, hlt⟩),
      ld_tile _ 2 (k.val - 1 - s) (by omega) _ _ (off11_eq k ⟨s, hlt⟩), ld_tile _ 3 (k.val - 1 - s) (by omega) _ _ (off13_eq k ⟨s, hlt⟩)]
    rfl
end

end Cert.Proof.Attn

end
-- ==== Proof.Trip.lean ====
/-
  The attention kernel's outer loop, over the query blocks: one trip run once at a symbolic query block, the pieces it
  stores into the output block found by the run, and the loop's invariant over them. The inner loop over the earlier key
  blocks is gone through by its generated invariant (the state it carries, by recursion on the trip).
-/
module

public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import Idealize.ShloMosaic.Adequacy
public import Idealize.ShloMosaic.Init
public import Idealize.ShloMosaic.Lib.Pipeline.ValueKit
public import Idealize.ShloMosaic.Lib.ValueIdx
public import Idealize.ShloMosaic.Lib.ValueLayout
public import proofs.«01_k».proof.Proof.Block

@[expose] public section

set_option maxRecDepth 16384
set_option maxHeartbeats 4000000

noncomputable section

namespace Cert.Proof.Attn

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (c : Dev nD) (i : grid0.Coords) (arg2 : Memref sig .tc .smem S16 .f32) (harg2 : arg2.IsWhole)
  (arg3 : Memref sig .tc .vmem S1x2048x512 .f32) (harg3 : arg3.IsWhole) (arg4 : Memref sig .tc .vmem S1x2048x512 .f32) (harg4 : arg4.IsWhole)
  (arg5 : Memref sig .tc .vmem S1x2048x512 .f32) (harg5 : arg5.IsWhole) (arg6 : Memref sig .tc .vmem S1x2048x512 .f32) (harg6 : arg6.IsWhole)
  (arg7 : Memref sig .tc .vmem S2048x512 .bf16) (harg7 : arg7.IsWhole) (arg8 : Memref sig .tc .vmem S2048x512 .bf16) (harg8 : arg8.IsWhole)
  (arg9 : Memref sig .tc .vmem S2048x512 .bf16) (harg9 : arg9.IsWhole) (v3 v7 v11 v15 : Elt F .f32)
  (X7 : BufTy.Contents (Elt F) arg7.view.ty) (X8 : BufTy.Contents (Elt F) arg8.view.ty) (X9 : BufTy.Contents (Elt F) arg9.view.ty)

/-- What one trip holds: the output block at `f6`, and the three scratch blocks (queries, keys, values) at their contents. -/
abbrev Trip (f6 : BufTy.Contents (Elt F) arg6.view.ty) : sProp 𝕄 :=
  iprop((arg6.view.loc (c : Thread nD τ) ↦[arg6.view.set]{fullShare} f6)
    ∗ (arg7.view.loc (c : Thread nD τ) ↦[arg7.view.set]{fullShare} X7)
    ∗ (arg8.view.loc (c : Thread nD τ) ↦[arg8.view.set]{fullShare} X8)
    ∗ (arg9.view.loc (c : Thread nD τ) ↦[arg9.view.set]{fullShare} X9))

/-- One trip at a symbolic query block `k`: the pieces it writes (one per head) are the run's own find. -/
@[irreducible] def trip (k : Fin k0_t1_loop.trips) :
    { L : List (View.Piece (Elt F) S1x2048x512 .f32) // ∀ (E : Set ℕ) (f6 : BufTy.Contents (Elt F) arg6.view.ty) (u : Unit),
      Trip (F := F) c arg6 arg7 arg8 arg9 X7 X8 X9 f6
      ⊢ wp frame (wpE (defs₀ (F := F)) Variants.none (c : Thread nD τ) none) E
          (k0_t1_body (F := F) i arg2 harg2 arg3 harg3 arg4 harg4 arg5 harg5 arg6 harg6 arg7 harg7 arg8 harg8 arg9 harg9 v3 v7 v11 v15 k u)
          (fun _ => Trip (F := F) c arg6 arg7 arg8 arg9 X7 X8 X9 (arg6.view.writes (Elt F) f6 L)) } := by
  refine ⟨?_, fun E f6 u => ?run⟩
  case run =>
    unfold k0_t1_body
    iintro ⟨H6, H7, H8, H9⟩
    sl_exec
    sl_step
    sl_close

/-- The trip's pieces (a plain projection, for the recursion below to cite). -/
abbrev tripPieces (k : Fin k0_t1_loop.trips) : List (View.Piece (Elt F) S1x2048x512 .f32) :=
  (trip (F := F) c i arg2 harg2 arg3 harg3 arg4 harg4 arg5 harg5 arg6 harg6 arg7 harg7 arg8 harg8 arg9 harg9 v3 v7 v11 v15 X7 X8 X9 k).1

/-- One trip's pieces: each head's sum over all its key blocks, at the head's columns of the query block's rows. -/
theorem tripPieces_eq (k : Fin k0_t1_loop.trips) :
    tripPieces (F := F) c i arg2 harg2 arg3 harg3 arg4 harg4 arg5 harg5 arg6 harg6 arg7 harg7 arg8 harg8 arg9 harg9 v3 v7 v11 v15 X7 X8 X9 k
      = [⟨Rect.unit (s := S1x2048x512) (k0_off25 k) S1x256x128.size (k0_off25_inb k), k0_pay4 (head v15 (arg7.view.read _ X7) (arg8.view.read _ X8) (arg9.view.read _ X9) 3 k.val k.val).1⟩,
         ⟨Rect.unit (s := S1x2048x512) (k0_off24 k) S1x256x128.size (k0_off24_inb k), k0_pay4 (head v11 (arg7.view.read _ X7) (arg8.view.read _ X8) (arg9.view.read _ X9) 2 k.val k.val).1⟩,
         ⟨Rect.unit (s := S1x2048x512) (k0_off23 k) S1x256x128.size (k0_off23_inb k), k0_pay4 (head v7 (arg7.view.read _ X7) (arg8.view.read _ X8) (arg9.view.read _ X9) 1 k.val k.val).1⟩,
         ⟨Rect.unit (s := S1x2048x512) (k0_off22 k) S1x256x128.size (k0_off22_inb k), k0_pay4 (head v3 (arg7.view.read _ X7) (arg8.view.read _ X8) (arg9.view.read _ X9) 0 k.val k.val).1⟩] := by
  have hk : k.val < 8 := t1_trips ▸ k.isLt
  have h2 : Scf.trips (0#32) (Scalar.addi (0#32) (Scalar.muli (Scalar.divsi (Scalar.subi (Scf.iv 0#32 1#32 k.val) 0#32) 1#32) 1#32)) 1#32 = k.val := t2_trips k
  have h3 : Scf.trips (Scalar.addi (0#32) (Scalar.muli (Scalar.divsi (Scalar.subi (Scf.iv 0#32 1#32 k.val) 0#32) 1#32) 1#32))
      (Scalar.addi (0#32) (Scalar.subi (Scf.iv 0#32 1#32 k.val) 0#32)) 1#32 = 0 := t3_trips k
  have hinit : (trip.sl.r_1 (F := F) arg7 arg8 arg9 v3 X7 X8 X9 k, trip.sl.r (F := F) arg7 arg8 v3 X7 X8 k,
      trip.sl.r_3 (F := F) arg7 arg8 arg9 v7 X7 X8 X9 k, trip.sl.r_2 (F := F) arg7 arg8 v7 X7 X8 k,
      trip.sl.r_6 (F := F) arg7 arg8 arg9 v11 X7 X8 X9 k, trip.sl.r_5 (F := F) arg7 arg8 v11 X7 X8 k,
      k0_pay75 (F := F) k0_pay2 k0_pay3 k0_pay51 k0_pay52 (trip.sl.r_7 (F := F) arg7 arg8 v15 X7 X8 k)
        (trip.sl.r_8 (F := F) arg7 arg8 v15 X7 X8 k) (trip.sl.r_9 (F := F) arg7 arg8 v15 X7 X8 k)
        (View.readAt (Elt F) arg9.view (Rect.unit (s := S2048x512) (k0_off5 k) ![256, 128] (k0_off5_inb k)).toLoadRect X9),
      k0_pay74 (F := F) k0_pay2 k0_pay3 k0_pay52 (trip.sl.r_8 (F := F) arg7 arg8 v15 X7 X8 k) (trip.sl.r_9 (F := F) arg7 arg8 v15 X7 X8 k))
      = heads (F := F) v3 v7 v11 v15 (arg7.view.read _ X7) (arg8.view.read _ X8) (arg9.view.read _ X9) k.val 0 := by
    refine Eq.trans (b :=
      (k0_pay57 v3 k0_pay2 k0_pay3 (View.ld (arg7.view.read _ X7) (Rect.unit (s := S2048x512) (k0_off2 k) S256x128.size (k0_off2_inb k)))
          (View.ld (arg8.view.read _ X8) (Rect.unit (s := S2048x512) (k0_off2 k) S256x128.size (k0_off2_inb k)))
          (View.ld (arg9.view.read _ X9) (Rect.unit (s := S2048x512) (k0_off2 k) S256x128.size (k0_off2_inb k))),
       k0_pay56 v3 k0_pay2 k0_pay3 (View.ld (arg7.view.read _ X7) (Rect.unit (s := S2048x512) (k0_off2 k) S256x128.size (k0_off2_inb k)))
          (View.ld (arg8.view.read _ X8) (Rect.unit (s := S2048x512) (k0_off2 k) S256x128.size (k0_off2_inb k))),
       k0_pay57 v7 k0_pay2 k0_pay3 (View.ld (arg7.view.read _ X7) (Rect.unit (s := S2048x512) (k0_off3 k) S256x128.size (k0_off3_inb k)))
          (View.ld (arg8.view.read _ X8) (Rect.unit (s := S2048x512) (k0_off3 k) S256x128.size (k0_off3_inb k)))
          (View.ld (arg9.view.read _ X9) (Rect.unit (s := S2048x512) (k0_off3 k) S256x128.size (k0_off3_inb k))),
       k0_pay56 v7 k0_pay2 k0_pay3 (View.ld (arg7.view.read _ X7) (Rect.unit (s := S2048x512) (k0_off3 k) S256x128.size (k0_off3_inb k)))
          (View.ld (arg8.view.read _ X8) (Rect.unit (s := S2048x512) (k0_off3 k) S256x128.size (k0_off3_inb k))),
       k0_pay57 v11 k0_pay2 k0_pay3 (View.ld (arg7.view.read _ X7) (Rect.unit (s := S2048x512) (k0_off4 k) S256x128.size (k0_off4_inb k)))
          (View.ld (arg8.view.read _ X8) (Rect.unit (s := S2048x512) (k0_off4 k) S256x128.size (k0_off4_inb k)))
          (View.ld (arg9.view.read _ X9) (Rect.unit (s := S2048x512) (k0_off4 k) S256x128.size (k0_off4_inb k))),
       k0_pay56 v11 k0_pay2 k0_pay3 (View.ld (arg7.view.read _ X7) (Rect.unit (s := S2048x512) (k0_off4 k) S256x128.size (k0_off4_inb k)))
          (View.ld (arg8.view.read _ X8) (Rect.unit (s := S2048x512) (k0_off4 k) S256x128.size (k0_off4_inb k))),
       k0_pay57 v15 k0_pay2 k0_pay3 (View.ld (arg7.view.read _ X7) (Rect.unit (s := S2048x512) (k0_off5 k) S256x128.size (k0_off5_inb k)))
          (View.ld (arg8.view.read _ X8) (Rect.unit (s := S2048x512) (k0_off5 k) S256x128.size (k0_off5_inb k)))
          (View.ld (arg9.view.read _ X9) (Rect.unit (s := S2048x512) (k0_off5 k) S256x128.size (k0_off5_inb k))),
       k0_pay56 v15 k0_pay2 k0_pay3 (View.ld (arg7.view.read _ X7) (Rect.unit (s := S2048x512) (k0_off5 k) S256x128.size (k0_off5_inb k)))
          (View.ld (arg8.view.read _ X8) (Rect.unit (s := S2048x512) (k0_off5 k) S256x128.size (k0_off5_inb k))))) rfl ?_
    simp only [ld_tile _ 0 k.val hk _ _ (k0_off2_eq k), ld_tile _ 1 k.val hk _ _ (k0_off3_eq k), ld_tile _ 2 k.val hk _ _ (k0_off4_eq k),
      ld_tile _ 3 k.val hk _ _ (k0_off5_eq k)]
    rfl
  unfold tripPieces trip
  dsimp only
  unfold trip.sl.r_10
  simp only [h2, h3, st_k0_t3_zero]
  rw [hinit, st2_eq (hs := le_refl _)]
  rfl

/-- One more trip's pieces on top of those of the trips before it (past the last trip, nothing). -/
@[irreducible] def piecesStep (k : ℕ) (prev : List (View.Piece (Elt F) S1x2048x512 .f32)) : List (View.Piece (Elt F) S1x2048x512 .f32) :=
  if h : k < k0_t1_loop.trips then
    tripPieces (F := F) c i arg2 harg2 arg3 harg3 arg4 harg4 arg5 harg5 arg6 harg6 arg7 harg7 arg8 harg8 arg9 harg9 v3 v7 v11 v15 X7 X8 X9 ⟨k, h⟩ ++ prev
  else prev

/-- The pieces written before trip `k`, the last first. -/
def pieces : ℕ → List (View.Piece (Elt F) S1x2048x512 .f32)
  | 0 => []
  | k + 1 => piecesStep (F := F) c i arg2 harg2 arg3 harg3 arg4 harg4 arg5 harg5 arg6 harg6 arg7 harg7 arg8 harg8 arg9 harg9 v3 v7 v11 v15 X7 X8 X9 k
      (pieces k)

theorem pieces_succ (k : Fin k0_t1_loop.trips) :
    pieces (F := F) c i arg2 harg2 arg3 harg3 arg4 harg4 arg5 harg5 arg6 harg6 arg7 harg7 arg8 harg8 arg9 harg9 v3 v7 v11 v15 X7 X8 X9 (k.val + 1)
      = tripPieces (F := F) c i arg2 harg2 arg3 harg3 arg4 harg4 arg5 harg5 arg6 harg6 arg7 harg7 arg8 harg8 arg9 harg9 v3 v7 v11 v15 X7 X8 X9 k
        ++ pieces (F := F) c i arg2 harg2 arg3 harg3 arg4 harg4 arg5 harg5 arg6 harg6 arg7 harg7 arg8 harg8 arg9 harg9 v3 v7 v11 v15 X7 X8 X9 k.val := by
  rw [pieces.eq_2]; unfold piecesStep; exact dif_pos k.isLt

/-- Before trip `k`: the output block at the pieces of the trips before it, over what it held at the loop's start; the
    scratch blocks as they were. -/
abbrev inv (f6 : BufTy.Contents (Elt F) arg6.view.ty) (k : ℕ) (_ : Unit) : sProp 𝕄 :=
  iprop((∃ f, ⌜f = arg6.view.writes (Elt F) f6
        (pieces (F := F) c i arg2 harg2 arg3 harg3 arg4 harg4 arg5 harg5 arg6 harg6 arg7 harg7 arg8 harg8 arg9 harg9 v3 v7 v11 v15 X7 X8 X9 k)⌝
      ∗ (arg6.view.loc (c : Thread nD τ) ↦[arg6.view.set]{fullShare} f))
    ∗ (arg7.view.loc (c : Thread nD τ) ↦[arg7.view.set]{fullShare} X7)
    ∗ (arg8.view.loc (c : Thread nD τ) ↦[arg8.view.set]{fullShare} X8)
    ∗ (arg9.view.loc (c : Thread nD τ) ↦[arg9.view.set]{fullShare} X9))

set_option warn.classDefReducibility false in
/-- The outer loop by its invariant. -/
@[sl_loop] def loopInv (E : Set ℕ) (f6 : BufTy.Contents (Elt F) arg6.view.ty) :
    LoopInvTy_k0_t1 (F := F) Unit ℕ (UR sig nD τ) ℕ Variants.none c none E i arg2 harg2 arg3 harg3 arg4 harg4 arg5 harg5 arg6 harg6 arg7 harg7 arg8 harg8 arg9 harg9 v3 v7 v11 v15 where
  inv := inv (F := F) c i arg2 harg2 arg3 harg3 arg4 harg4 arg5 harg5 arg6 harg6 arg7 harg7 arg8 harg8 arg9 harg9 v3 v7 v11 v15 X7 X8 X9 f6
  step k acc := by
    iintro ⟨⟨%f, %hf, H6⟩, H7, H8, H9⟩
    subst hf
    iapply (wp_wand_r Idealize.ShloMosaic.frame (wpE (defs₀ (F := F)) Variants.none (c : Thread nD τ) none) E)
    isplitl [H6 H7 H8 H9]
    · iapply ((trip (F := F) c i arg2 harg2 arg3 harg3 arg4 harg4 arg5 harg5 arg6 harg6 arg7 harg7 arg8 harg8 arg9 harg9 v3 v7 v11 v15 X7 X8 X9 k).2 E _ acc)
      isplitl [H6]; · iexact H6
      isplitl [H7]; · iexact H7
      isplitl [H8]; · iexact H8
      iexact H9
    · iintro %_ ⟨H6, H7, H8, H9⟩
      isplitl [H6]
      · iexists _
        isplitr
        swap; · iexact H6
        ipureintro
        rw [pieces_succ, View.writes_append]
      isplitl [H7]; · iexact H7
      isplitl [H8]; · iexact H8
      iexact H9

/-! ## The output block, as a function of the blocks read -/

/-- The output block at `y`: its head's sum for its query. -/
def outAt (b : Fin 4 → Elt F .f32) (Q K V : S2048x512.Idx → Elt F .bf16) : S1x2048x512.Idx → Elt F .f32 := fun y =>
  (head (b ⟨(y 2).val / 128, Nat.div_lt_of_lt_mul (y 2).isLt⟩) Q K V ⟨(y 2).val / 128, Nat.div_lt_of_lt_mul (y 2).isLt⟩
      ((y 1).val / 256) ((y 1).val / 256)).1
    (ValueIdx.ix2 ⟨(y 1).val % 256, Nat.mod_lt _ (by decide)⟩ ⟨(y 2).val % 128, Nat.mod_lt _ (by decide)⟩)

theorem piece_at (b : Fin 4 → Elt F .f32) (Q K V : S2048x512.Idx → Elt F .bf16) (h : Fin 4) (k : ℕ) (off : Fin 3 → ℕ)
    (inb : ∀ a, off a + S1x256x128.size a ≤ S1x2048x512.size a) (he : off = ![0, 256 * k, 128 * h.val])
    (x : (Rect.unit (s := S1x2048x512) off S1x256x128.size inb).shape.Idx) :
    k0_pay4 (head (b h) Q K V h k k).1 x = outAt b Q K V ((Rect.unit (s := S1x2048x512) off S1x256x128.size inb).emb x) := by
  subst he
  have h1 : (x 1).val < 256 := (x 1).isLt
  have h2 : (x 2).val < 128 := (x 2).isLt
  have e1 : (((Rect.unit (s := S1x2048x512) ![0, 256 * k, 128 * h.val] S1x256x128.size inb).emb x) 1).val = 256 * k + (x 1).val := by
    show 256 * k + 1 * (x 1).val = _; omega
  have e2 : (((Rect.unit (s := S1x2048x512) ![0, 256 * k, 128 * h.val] S1x256x128.size inb).emb x) 2).val = 128 * h.val + (x 2).val := by
    show 128 * h.val + 1 * (x 2).val = _; omega
  have eh : (⟨(((Rect.unit (s := S1x2048x512) ![0, 256 * k, 128 * h.val] S1x256x128.size inb).emb x) 2).val / 128,
      Nat.div_lt_of_lt_mul (Fin.isLt _)⟩ : Fin 4) = h := Fin.ext (by rw [Fin.val_mk, e2]; omega)
  have ek : (((Rect.unit (s := S1x2048x512) ![0, 256 * k, 128 * h.val] S1x256x128.size inb).emb x) 1).val / 256 = k := by rw [e1]; omega
  unfold outAt
  rw [eh, ek]
  unfold k0_pay4
  have hx : x = ValueIdx.ix3 (n0 := 1) (n1 := 256) (n2 := 128) (x 0) (x 1) (x 2) := ValueIdx.eq_ix3 x
  refine Eq.trans (congrArg _ hx) ?_
  refine Eq.trans (ValueIdx.shapeCast_ab_1ab_apply _ _ _ _ _) ?_
  refine congrArg _ (funext fun a => ?_)
  match a with
  | ⟨0, _⟩ => exact Fin.ext (by show (x 1).val = _ % 256; rw [e1]; omega)
  | ⟨1, _⟩ => exact Fin.ext (by show (x 2).val = _ % 128; rw [e2]; omega)

section
variable (b : Fin 4 → Elt F .f32)

/-- The pieces before any trip, at the output block's function. -/
theorem pieces_at (k : ℕ) (hk : k ≤ 8) :
    ∀ p ∈ pieces (F := F) c i arg2 harg2 arg3 harg3 arg4 harg4 arg5 harg5 arg6 harg6 arg7 harg7 arg8 harg8 arg9 harg9 (b 0) (b 1) (b 2) (b 3) X7 X8 X9 k,
      ∀ x : p.1.shape.Idx, p.2 x = outAt b (arg7.view.read _ X7) (arg8.view.read _ X8) (arg9.view.read _ X9) (p.1.emb x) := by
  induction k with
  | zero => intro p hp; exact absurd hp List.not_mem_nil
  | succ k ih =>
    have hlt : k < k0_t1_loop.trips := by rw [t1_trips]; omega
    rw [pieces_succ (k := ⟨k, hlt⟩), tripPieces_eq]
    intro p hp
    rcases List.mem_append.1 hp with hp | hp
    · simp only [List.mem_cons, List.not_mem_nil, or_false] at hp
      rcases hp with rfl | rfl | rfl | rfl
      · exact piece_at b _ _ _ 3 k _ (k0_off25_inb ⟨k, hlt⟩) (k0_off25_eq ⟨k, hlt⟩)
      · exact piece_at b _ _ _ 2 k _ (k0_off24_inb ⟨k, hlt⟩) (k0_off24_eq ⟨k, hlt⟩)
      · exact piece_at b _ _ _ 1 k _ (k0_off23_inb ⟨k, hlt⟩) (k0_off23_eq ⟨k, hlt⟩)
      · exact piece_at b _ _ _ 0 k _ (k0_off22_inb ⟨k, hlt⟩) (k0_off22_eq ⟨k, hlt⟩)
    · exact ih (by omega) p hp

theorem mem_off (y : S1x2048x512.Idx) (h : Fin 4) (k : ℕ) (off : Fin 3 → ℕ)
    (inb : ∀ a, off a + S1x256x128.size a ≤ S1x2048x512.size a) (he : off = ![0, 256 * k, 128 * h.val])
    (h1 : (y 1).val / 256 = k) (h2 : (y 2).val / 128 = h.val) :
    y ∈ (Rect.unit (s := S1x2048x512) off S1x256x128.size inb).set := by
  subst he
  rw [Rect.mem_set_unit]
  have h0 : (y 0).val < 1 := (y 0).isLt
  intro a
  match a with
  | ⟨0, _⟩ => exact ⟨Nat.zero_le _, by show (y 0).val < 0 + 1; omega⟩
  | ⟨1, _⟩ => exact ⟨by show 256 * k ≤ (y 1).val; omega, by show (y 1).val < 256 * k + 256; omega⟩
  | ⟨2, _⟩ => exact ⟨by show 128 * h.val ≤ (y 2).val; omega, by show (y 2).val < 128 * h.val + 128; omega⟩

/-- They cover the rows before the query block. -/
theorem pieces_cover (k : ℕ) (hk : k ≤ 8) (y : S1x2048x512.Idx) (hy : (y 1).val < 256 * k) :
    ∃ p ∈ pieces (F := F) c i arg2 harg2 arg3 harg3 arg4 harg4 arg5 harg5 arg6 harg6 arg7 harg7 arg8 harg8 arg9 harg9 (b 0) (b 1) (b 2) (b 3) X7 X8 X9 k, y ∈ p.1.set := by
  induction k with
  | zero => omega
  | succ k ih =>
    have hlt : k < k0_t1_loop.trips := by rw [t1_trips]; omega
    have h2 : (y 2).val < 512 := (y 2).isLt
    rw [pieces_succ (k := ⟨k, hlt⟩), tripPieces_eq]
    by_cases hy' : (y 1).val < 256 * k
    · obtain ⟨p, hp, hm⟩ := ih (by omega) hy'
      exact ⟨p, List.mem_append_right _ hp, hm⟩
    · have hq : (y 1).val / 256 = k := by omega
      have hh : (y 2).val / 128 = 0 ∨ (y 2).val / 128 = 1 ∨ (y 2).val / 128 = 2 ∨ (y 2).val / 128 = 3 := by omega
      rcases hh with hh | hh | hh | hh
      · exact ⟨_, List.mem_append_left _ (List.mem_cons_of_mem _ (List.mem_cons_of_mem _ (List.mem_cons_of_mem _ List.mem_cons_self))),
          mem_off y 0 k _ (k0_off22_inb ⟨k, hlt⟩) (k0_off22_eq ⟨k, hlt⟩) hq hh⟩
      · exact ⟨_, List.mem_append_left _ (List.mem_cons_of_mem _ (List.mem_cons_of_mem _ List.mem_cons_self)),
          mem_off y 1 k _ (k0_off23_inb ⟨k, hlt⟩) (k0_off23_eq ⟨k, hlt⟩) hq hh⟩
      · exact ⟨_, List.mem_append_left _ (List.mem_cons_of_mem _ List.mem_cons_self),
          mem_off y 2 k _ (k0_off24_inb ⟨k, hlt⟩) (k0_off24_eq ⟨k, hlt⟩) hq hh⟩
      · exact ⟨_, List.mem_append_left _ List.mem_cons_self,
          mem_off y 3 k _ (k0_off25_inb ⟨k, hlt⟩) (k0_off25_eq ⟨k, hlt⟩) hq hh⟩

/-- What the output block holds after the loop, whatever it held before. -/
theorem read_pieces (f6 : BufTy.Contents (Elt F) arg6.view.ty) :
    arg6.view.read (Elt F) (arg6.view.writes (Elt F) f6
      (pieces (F := F) c i arg2 harg2 arg3 harg3 arg4 harg4 arg5 harg5 arg6 harg6 arg7 harg7 arg8 harg8 arg9 harg9 (b 0) (b 1) (b 2) (b 3) X7 X8 X9 k0_t1_loop.trips))
      = outAt b (arg7.view.read _ X7) (arg8.view.read _ X8) (arg9.view.read _ X9) := by
  rw [t1_trips]
  funext y
  exact View.read_writes_apply_of_pieces _ _ _ _
    (pieces_at c i arg2 harg2 arg3 harg3 arg4 harg4 arg5 harg5 arg6 harg6 arg7 harg7 arg8 harg8 arg9 harg9 X7 X8 X9 b 8 (le_refl _)) y
    (pieces_cover c i arg2 harg2 arg3 harg3 arg4 harg4 arg5 harg5 arg6 harg6 arg7 harg7 arg8 harg8 arg9 harg9 X7 X8 X9 b 8 (le_refl _) y (y 1).isLt)
end

/-! ## The body -/

/-- The whole-block rectangles. -/
abbrev rW : Rect S1x2048x512 := Rect.unit (s := S1x2048x512) ![0, 0, 0] S1x2048x512.size inb_S1x2048x512_S1x2048x512_0_0_0
abbrev rS : Rect S2048x512 := Rect.unit (s := S2048x512) ![0, 0] S2048x512.size inb_S2048x512_S2048x512_0_0

/-- Head `h`'s bias at a grid point. -/
def biasOf (i : grid0.Coords) (x0 : Vec F S16 .f32) (h : Fin 4) : Elt F .f32 :=
  View.ld x0 (Rect.unit (s := S16) (k0_off1 i (BitVec.ofNat 32 h.val)) S1.size (k0_off1_inb i h)) (Shape.Idx.first (numel1_S1.symm ▸ Nat.one_pos))

/-- The output block of a grid point, of the four blocks it reads: the biases, the queries, the keys, the values. -/
def attnOut (i : grid0.Coords) (x0 : Vec F S16 .f32) (x1 x2 x3 : Vec F S1x2048x512 .f32) : Vec F S1x2048x512 .f32 :=
  outAt (biasOf i x0) (k0_pay81 x1) (k0_pay82 x2) (k0_pay1 (k0_pay83 x3))

theorem read_writes_whole (v : View sig .tc .vmem S2048x512 .bf16) (p : S2048x512.Idx → Elt F .bf16) :
    v.read (Elt F) (v.writes (Elt F) v.junk [⟨rS, p⟩]) = p := by
  rw [View.read_writes_junk_eq_canon]
  exact View.canon_cons_unit_zero (by funext a; fin_cases a <;> rfl) _ _ _

/-- The body, from any contents of the output block and of the scratch blocks. -/
theorem run (E : Set ℕ) (x0 : Vec F S16 .f32) (x1 x2 x3 : Vec F S1x2048x512 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (attnOut i x0 x1 x2 x3)
            ∗ (∃ d, owns (c : Thread nD τ) arg7 fullShare d) ∗ (∃ d, owns (c : Thread nD τ) arg8 fullShare d) ∗ (∃ d, owns (c : Thread nD τ) arg9 fullShare d)) -∗ K ⟨⟩))
      ⊢ wp frame (wpE (defs₀ (F := F)) Variants.none c none) E (cc0_attn i arg2 harg2 arg3 harg3 arg4 harg4 arg5 harg5 arg6 harg6 arg7 harg7 arg8 harg8 arg9 harg9) K := by
  simp only [cc0_attn_eq_skeleton]; unfold cc0_attn_skel
  unfold owns
  iintro ⟨⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, Hk⟩
  subst hf2 hf3 hf4 hf5
  sl_exec
  sl_step
  iapply Hk
  isplitl [H2]; · iexists _; isplitr; swap; iexact H2; ipureintro; rfl
  isplitl [H3]; · iexists _; isplitr; swap; iexact H3; ipureintro; rfl
  isplitl [H4]; · iexists _; isplitr; swap; iexact H4; ipureintro; rfl
  isplitl [H5]; · iexists _; isplitr; swap; iexact H5; ipureintro; rfl
  isplitl [H6]
  · iexists _
    isplitr
    swap; · iexact H6
    ipureintro
    refine (read_pieces c i arg2 harg2 arg3 harg3 arg4 harg4 arg5 harg5 arg6 harg6 arg7 harg7 arg8 harg8 arg9 harg9 _ _ _
      (biasOf i (arg2.view.read (Elt F) f2)) f6).trans ?_
    unfold attnOut run.sl.H7_1 run.sl.H8_1 run.sl.H9_1
    rw [read_writes_whole, read_writes_whole, read_writes_whole]
    unfold run.sl.r_4
    rw [View.readAt_eq_ld, View.readAt_eq_ld, View.readAt_eq_ld, View.ld_unit_lit _ _ (by decide), View.ld_unit_lit _ _ (by decide), View.ld_unit_lit _ _ (by decide)]
  isplitl [H7]; · iexists _; iexists _; isplitr; swap; iexact H7; ipureintro; rfl
  isplitl [H8]; · iexists _; iexists _; isplitr; swap; iexact H8; ipureintro; rfl
  iexists _; iexists _; isplitr; swap; iexact H9; ipureintro; rfl

end Cert.Proof.Attn

end
-- ==== Proof.Launched.lean ====
/-
  The attention kernel launched: the proof data of the pipeline, the body's obligation at a point, the run of @main and
  the frame.
-/
module

public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import Idealize.ShloMosaic.Adequacy
public import Idealize.ShloMosaic.Init
public import Idealize.ShloMosaic.Lib.Pipeline.KitQuiescent
public import proofs.«01_k».proof.Proof.Trip

@[expose] public section

set_option maxRecDepth 16384
set_option maxHeartbeats 4000000

noncomputable section

namespace Cert.Proof.Attn

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The output block at grid point `t`. -/
def oblk (c : Dev nD) (t : Fin cfg0.N) : Vec F S1x2048x512 .f32 :=
  attnOut (grid0.coords t) (iblk m c 0 t) (iblk m c 1 t) (iblk m c 2 t) (iblk m c 3 t)

/-- The proof data: each input's block left in place, the output's block at the attention of the inputs' blocks. The
    three windows on the one array hold their shares of it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => oblk m c t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = oblk m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d

/-- What the body is called with at a point, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after_0, after_1, after_2, after_3, after_4]
  unfold Pipeline.ΦA
  rw [scopedRest0_eq]
  iintro ⟨⟨⟨⟨%g7, H7⟩, ⟨%g8, H8⟩, ⟨%g9, H9⟩⟩, Hr⟩, Ho, ⟨%d0, H0⟩, ⟨%d1, H1⟩, ⟨%d2, H2⟩, ⟨%d3, H3⟩, ⟨%d4, H4⟩⟩
  iapply (run c (grid0.coords t) _ _ _ _ _ _ _ _ _ _ _ _ _ _ _ _ Set.univ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  isplitl [H7]; · iexists g7; rw [owns_whole]; iexact H7
  isplitl [H8]; · iexists g8; rw [owns_whole]; iexact H8
  isplitl [H9]; · iexists g9; rw [owns_whole]; iexact H9
  iintro ⟨H0, H1, H2, H3, H4, ⟨%e7, H7⟩, ⟨%e8, H8⟩, ⟨%e9, H9⟩⟩
  isplitl [H7 H8 H9 Hr]
  · isplitl [H7 H8 H9]
    · isplitl [H7]; · iexists e7; rw [← owns_whole]; iexact H7
      isplitl [H8]; · iexists e8; rw [← owns_whole]; iexact H8
      iexists e9; rw [← owns_whole]; iexact H9
    · iexact Hr
  isplitl [Ho]; · iexact Ho
  isplitl [H0]; · iexact H0
  isplitl [H1]; · iexact H1
  isplitl [H2]; · iexact H2
  isplitl [H3]; · iexact H3
  iexact H4

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch: every array at what the pipeline computes, every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

/-- The frame: the arguments unchanged, every counter at zero. -/
theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (run_main_quiescent m ρ))

end Cert.Proof.Attn

end
-- ==== Proof.Stick.lean ====
module

public import proofs.«01_k».proof.Proof.Block
public import Idealize.ShloMosaic.Lib.ValueIdx
public import Idealize.ShloMosaic.Lib.ValueLayout
public import Idealize.ShloMosaic.Lib.MatmulPlain
public import Idealize.ShloMosaic.Lib.IdealHost
public import Idealize.ShloMosaic.Lib.WordCmp
public import Idealize.ShloMosaic.Lib.Pipeline.Value

@[expose] public section

noncomputable section

namespace Cert.Proof.Attn

open Cert.KernelIdeal Cert.KernelIdeal.Gen
open Idealize.ShloMosaic Idealize.ShloMosaic.ValueIdx
open scoped BigOperators

/-! ## The stick-breaking weights -/

/-- The softplus in the stable form both programs use. -/
def softplus (z : EReal) : EReal := max z 0 + Ideal.log (1 + Ideal.exp (0 - max z (-z)))

/-- The weight query `Q` gives key `J` when its scores are `z`: the key's own sigmoid, times what the keys after it and
    before the query leave of the stick. -/
def weight (z : ℕ → EReal) (Q J : ℕ) : EReal :=
  Ideal.exp (z J - softplus (z J) + ∑ J' ∈ Finset.Ico (J + 1) Q, -softplus (z J'))

/-- A sum over the 256 columns of a tile that starts at `B`, of the terms inside `[lo, hi)`. -/
theorem sum_tile {M : Type} [AddCommMonoid M] (f : ℕ → M) (B lo hi : ℕ) (hlo : B ≤ lo) (hhi : hi ≤ B + 256) :
    (∑ c : Fin 256, if lo ≤ B + c.val ∧ B + c.val < hi then f (B + c.val) else 0) = ∑ J ∈ Finset.Ico lo hi, f J := by
  rw [Fin.sum_univ_eq_sum_range (fun c => if lo ≤ B + c ∧ B + c < hi then f (B + c) else 0) 256]
  have h := Finset.sum_Ico_eq_sum_range (fun J => if lo ≤ J ∧ J < hi then f J else 0) B (B + 256)
  rw [Nat.add_sub_cancel_left] at h
  rw [← h, ← Finset.sum_filter]
  refine Finset.sum_congr ?_ fun _ _ => rfl
  ext J
  simp only [Finset.mem_filter, Finset.mem_Ico]
  omega

/-! ## The kernel's tile operations at an index -/

theorem pay5_apply (b : Elt Ideal .f32) (q k : Vec Ideal S256x128 .bf16) (r c : Fin 256) :
    k0_pay5 b q k (ix2 r c) = (∑ d : Fin 128, q (ix2 r d) * k (ix2 c d)) + b := by
  unfold k0_pay5
  rw [ValueIdx.addf_apply]
  refine congrArg (· + b) ?_
  refine (Ideal.matmul_transposedRhs_apply (M := 256) (K := 128) (N := 256) none q k _ r c).trans ?_
  rw [ValueIdx.constant_apply, Ideal.ofBits_zero_f32, zero_add]

theorem pay6_apply (b : Elt Ideal .f32) (q k : Vec Ideal S256x128 .bf16) (r c : Fin 256) (z : EReal)
    (hz : k0_pay5 b q k (ix2 r c) = z) : k0_pay6 b q k (ix2 r c) = softplus z := by
  rw [softplus, ← hz, ← Ideal.ofBits_one_f32, ← Ideal.ofBits_zero_f32]
  rfl

theorem pay2_apply (r : Fin 256) (c : Fin 384) :
    k0_pay2 (F := Ideal) (ix2 r c) = if 256 ≤ c.val ∨ c.val < r.val then 1 else 0 := by
  have i0 := iota_single_apply .tc S256x384 32 0 iota_S256x384_d0_w32 (ix2 r c)
  have i1 := iota_single_apply .tc S256x384 32 1 iota_S256x384_d1_w32 (ix2 r c)
  show Scalar.select (IntOp.cmpi .sge (iota .tc S256x384 32 [1] iota_S256x384_d1_w32 (ix2 r c)) (BitVec.ofNat 32 256))
    (Ideal.ofBits .f32 0x3F800000#32)
    (Scalar.select (IntOp.cmpi .sgt (iota .tc S256x384 32 [0] iota_S256x384_d0_w32 (ix2 r c))
        (iota .tc S256x384 32 [1] iota_S256x384_d1_w32 (ix2 r c))) (Ideal.ofBits .f32 0x3F800000#32)
      (Ideal.ofBits .f32 0x00000000#32)) = _
  rw [i0, i1, Ideal.ofBits_one_f32, Ideal.ofBits_zero_f32]
  show Scalar.select (IntOp.cmpi .sge (BitVec.ofNat 32 c.val) (BitVec.ofNat 32 256)) 1
    (Scalar.select (IntOp.cmpi .sgt (BitVec.ofNat 32 r.val) (BitVec.ofNat 32 c.val)) 1 0) = _
  rw [WordCmp.cmpi_sge_ofNat (by omega) (by omega), WordCmp.cmpi_sgt_ofNat (by omega) (by omega)]
  by_cases h1 : 256 ≤ c.val <;> by_cases h2 : c.val < r.val <;> simp [h1, h2, Scalar.select]

theorem pay3_apply (r c : Fin 256) : k0_pay3 (ix2 r c) = BitVec.ofBool (decide (c.val < r.val)) := by
  have i0 := iota_single_apply .tc S256x256 32 0 iota_S256x256_d0_w32 (ix2 r c)
  have i1 := iota_single_apply .tc S256x256 32 1 iota_S256x256_d1_w32 (ix2 r c)
  show IntOp.cmpi .slt (iota .tc S256x256 32 [1] iota_S256x256_d1_w32 (ix2 r c))
    (iota .tc S256x256 32 [0] iota_S256x256_d0_w32 (ix2 r c)) = _
  rw [i0, i1]
  exact WordCmp.cmpi_slt_ofNat (a := c.val) (b := r.val) (by omega) (by omega)

/-- The product with the triangle of ones: column `c < 256` sums what follows it, a column from 256 on sums all. -/
theorem tri_apply (x : FVec Ideal S256x256 .bf16) (r : Fin 256) (l : Fin 256 → EReal) (hx : ∀ c, x (ix2 r c) = l c)
    (c : Fin 384) :
    matmul dot_S256x256_S256x384_S256x384_1_0_0_1_n_n none x k0_pay2 (constant S256x384 .f32 0x00000000#32) (ix2 r c)
      = ∑ c' : Fin 256, if 256 ≤ c.val ∨ c.val < c'.val then l c' else 0 := by
  refine (Ideal.matmul_plain_apply (M := 256) (K := 256) (N := 384) none x _ _ r c).trans ?_
  rw [ValueIdx.constant_apply, Ideal.ofBits_zero_f32, zero_add]
  refine Finset.sum_congr rfl fun c' _ => ?_
  rw [hx, pay2_apply]
  split_ifs <;> simp

theorem pay7_apply (b : Elt Ideal .f32) (q k : Vec Ideal S256x128 .bf16) (r : Fin 256) (z : ℕ → EReal) (B : ℕ)
    (hz : ∀ c, k0_pay5 b q k (ix2 r c) = z (B + c.val)) (c : Fin 384) :
    k0_pay7 b k0_pay2 q k (ix2 r c)
      = (∑ J ∈ Finset.Ico (if 256 ≤ c.val then B else B + c.val + 1) (B + 256), -softplus (z J)) := by
  unfold k0_pay7
  refine (tri_apply _ r (fun c => -softplus (z (B + c.val))) (fun c => ?_) c).trans ?_
  · show Ideal.ofBits .f32 0x00000000#32 - k0_pay6 b q k (ix2 r c) = _
    rw [Ideal.ofBits_zero_f32, pay6_apply b q k r c _ (hz c), zero_sub]
  · rw [← sum_tile (fun J => -softplus (z J)) B _ (B + 256) (by split_ifs <;> omega) le_rfl]
    refine Finset.sum_congr rfl fun c' _ => if_congr ?_ rfl rfl
    have := c'.isLt
    split_ifs <;> omega

theorem pay8_apply (b : Elt Ideal .f32) (run : FVec Ideal S256x128 .f32) (q k : Vec Ideal S256x128 .bf16) (r : Fin 256)
    (z : ℕ → EReal) (B : ℕ) (hz : ∀ c, k0_pay5 b q k (ix2 r c) = z (B + c.val)) (a : Fin 128) :
    k0_pay8 b k0_pay2 run q k (ix2 r a)
      = run (ix2 r a) + (∑ J ∈ Finset.Ico B (B + 256), -softplus (z J)) := by
  unfold k0_pay8
  rw [ValueIdx.addf_apply]
  refine congrArg (run (ix2 r a) + ·) ?_
  refine (ValueIdx.slice2_axis1_apply 256 _ _ r a ⟨256 + a.val, by omega⟩ rfl).trans ?_
  rw [pay7_apply b q k r z B hz, if_pos (show 256 ≤ 256 + a.val by omega)]

/-- Two copies of a matrix side by side, of rows that are constant. -/
theorem concat_const (run : FVec Ideal S256x128 .f32) (r : Fin 256) (R : EReal) (h : ∀ a, run (ix2 r a) = R) (c : Fin 256) :
    concatenate S256x256 1 [⟨S256x128, run⟩, ⟨S256x128, run⟩] concatenates_S256x128_S256x128_S256x256_d1 (ix2 r c) = R := by
  by_cases hc : c.val < 128
  · refine (concatenate_pair_apply_left (t := S256x256) (s₁ := S256x128) (s₂ := S256x128) 1 run run _ (ix2 r c) rfl (ix2 r ⟨c.val, hc⟩)
      (fun b => match b with | ⟨0, _⟩ => rfl | ⟨1, _⟩ => rfl)).trans (h _)
  · refine (concatenate_pair_apply_right (t := S256x256) (s₁ := S256x128) (s₂ := S256x128) 1 run run _ (ix2 r c) rfl rfl
      (ix2 r ⟨c.val - 128, by omega⟩) (fun b => match b with | ⟨0, _⟩ => fun _ => rfl | ⟨1, _⟩ => fun hb => absurd rfl hb)
      (by show c.val - 128 + 128 = c.val; omega)).trans (h _)

theorem pay9_apply (b : Elt Ideal .f32) (acc run : FVec Ideal S256x128 .f32) (q k v : Vec Ideal S256x128 .bf16) (r : Fin 256)
    (z : ℕ → EReal) (B : ℕ) (hz : ∀ c, k0_pay5 b q k (ix2 r c) = z (B + c.val)) (R : EReal)
    (hR : ∀ a, run (ix2 r a) = R) (d : Fin 128) :
    k0_pay9 b k0_pay2 acc run q k v (ix2 r d)
      = acc (ix2 r d) + ∑ c : Fin 256, (Ideal.exp (z (B + c.val) - softplus (z (B + c.val))
          + (∑ J ∈ Finset.Ico (B + c.val + 1) (B + 256), -softplus (z J)) + R)) * v (ix2 c d) := by
  unfold k0_pay9
  rw [ValueIdx.addf_apply]
  refine congrArg (acc (ix2 r d) + ·) ?_
  refine (Ideal.matmul_plain_apply (M := 256) (K := 256) (N := 128) none _ v _ r d).trans ?_
  rw [ValueIdx.constant_apply, Ideal.ofBits_zero_f32, zero_add]
  refine Finset.sum_congr rfl fun c _ => congrArg (· * v (ix2 c d)) ?_
  show Ideal.exp (k0_pay5 b q k (ix2 r c) - k0_pay6 b q k (ix2 r c)
    + extractStridedSlice S256x256 ![0, 0] (k0_pay7 b k0_pay2 q k) slices_S256x384_o0_0_S256x256 (ix2 r c)
    + concatenate S256x256 1 [⟨S256x128, run⟩, ⟨S256x128, run⟩] concatenates_S256x128_S256x128_S256x256_d1 (ix2 r c)) = _
  rw [concat_const run r R hR, pay6_apply b q k r c _ (hz c), hz c,
    ValueIdx.slice2_axis1_apply 0 _ _ r c ⟨c.val, by omega⟩ (by simp), pay7_apply b q k r z B hz,
    if_neg (show ¬ 256 ≤ c.val by omega)]

/-! ## The diagonal tile -/

theorem pay53_eq (b : Elt Ideal .f32) (q k : Vec Ideal S256x128 .bf16) : k0_pay53 b q k = k0_pay5 b q k := rfl
theorem pay54_eq (b : Elt Ideal .f32) (q k : Vec Ideal S256x128 .bf16) : k0_pay54 b q k = k0_pay6 b q k := rfl

theorem select_mask (r c : Fin 256) (x y : EReal) :
    Scalar.select (BitVec.ofBool (decide (c.val < r.val))) x y = if c.val < r.val then x else y := by
  by_cases h : c.val < r.val <;> simp [h, Scalar.select]

theorem pay55_apply (b : Elt Ideal .f32) (q k : Vec Ideal S256x128 .bf16) (r : Fin 256) (z : ℕ → EReal) (B : ℕ)
    (hz : ∀ c, k0_pay5 b q k (ix2 r c) = z (B + c.val)) (c : Fin 384) :
    k0_pay55 b k0_pay2 k0_pay3 q k (ix2 r c)
      = (∑ J ∈ Finset.Ico (if 256 ≤ c.val then B else B + c.val + 1) (B + r.val), -softplus (z J)) := by
  unfold k0_pay55
  refine (tri_apply _ r (fun c => if c.val < r.val then -softplus (z (B + c.val)) else 0) (fun c => ?_) c).trans ?_
  · show Scalar.select (k0_pay3 (ix2 r c)) (Ideal.ofBits .f32 0x00000000#32 - k0_pay54 b q k (ix2 r c))
      (Ideal.ofBits .f32 0x00000000#32) = _
    rw [pay3_apply, select_mask, pay54_eq, Ideal.ofBits_zero_f32, pay6_apply b q k r c _ (hz c), zero_sub]
  · rw [← sum_tile (fun J => -softplus (z J)) B _ (B + r.val) (by split_ifs <;> omega) (by omega)]
    refine Finset.sum_congr rfl fun c' _ => ?_
    rw [← ite_and]
    refine if_congr ?_ rfl rfl
    have := c'.isLt
    split_ifs <;> omega

theorem pay52_apply (r : Fin 256) (a : Fin 128) : k0_pay52 (F := Ideal) (ix2 r a) = 0 := by
  show Ideal.ofBits .f32 0x00000000#32 = _
  rw [Ideal.ofBits_zero_f32]

theorem pay51_apply (r : Fin 256) (a : Fin 128) : k0_pay51 (F := Ideal) (ix2 r a) = 0 := by
  show Ideal.ofBits .f32 0x00000000#32 = _
  rw [Ideal.ofBits_zero_f32]

theorem pay56_apply (b : Elt Ideal .f32) (q k : Vec Ideal S256x128 .bf16) (r : Fin 256)
    (z : ℕ → EReal) (B : ℕ) (hz : ∀ c, k0_pay5 b q k (ix2 r c) = z (B + c.val)) (a : Fin 128) :
    k0_pay56 b k0_pay2 k0_pay3 q k (ix2 r a) = (∑ J ∈ Finset.Ico B (B + r.val), -softplus (z J)) := by
  unfold k0_pay56
  rw [ValueIdx.addf_apply, pay52_apply, zero_add]
  refine (ValueIdx.slice2_axis1_apply 256 _ _ r a ⟨256 + a.val, by omega⟩ rfl).trans ?_
  rw [pay55_apply b q k r z B hz, if_pos (show 256 ≤ 256 + a.val by omega)]

theorem pay57_apply (b : Elt Ideal .f32) (q k v : Vec Ideal S256x128 .bf16) (r : Fin 256)
    (z : ℕ → EReal) (B : ℕ) (hz : ∀ c, k0_pay5 b q k (ix2 r c) = z (B + c.val)) (d : Fin 128) :
    k0_pay57 b k0_pay2 k0_pay3 q k v (ix2 r d)
      = ∑ c : Fin 256, if c.val < r.val then weight z (B + r.val) (B + c.val) * v (ix2 c d) else 0 := by
  unfold k0_pay57
  rw [ValueIdx.addf_apply, pay51_apply, zero_add]
  refine (Ideal.matmul_plain_apply (M := 256) (K := 256) (N := 128) none _ v _ r d).trans ?_
  rw [ValueIdx.constant_apply, Ideal.ofBits_zero_f32, zero_add]
  refine Finset.sum_congr rfl fun c _ => ?_
  have e : Ideal.exp (k0_pay53 b q k (ix2 r c) - k0_pay54 b q k (ix2 r c)
      + extractStridedSlice S256x256 ![0, 0] (k0_pay55 b k0_pay2 k0_pay3 q k) slices_S256x384_o0_0_S256x256 (ix2 r c)
      + concatenate S256x256 1 [⟨S256x128, k0_pay52 (F := Ideal)⟩, ⟨S256x128, k0_pay52 (F := Ideal)⟩]
          concatenates_S256x128_S256x128_S256x256_d1 (ix2 r c)) = weight z (B + r.val) (B + c.val) := by
    rw [concat_const _ r _ (pay52_apply r), pay54_eq, pay53_eq, pay6_apply b q k r c _ (hz c), hz c,
      ValueIdx.slice2_axis1_apply 0 _ _ r c ⟨c.val, by omega⟩ (by simp), pay55_apply b q k r z B hz,
      if_neg (show ¬ 256 ≤ c.val by omega)]
    rw [add_zero]
    rfl
  rw [← e, ← ite_zero_mul, ← select_mask r c _ 0, ← pay3_apply, ← Ideal.ofBits_zero_f32]
  rfl

/-! ## A head of a block of queries -/

theorem tile_apply (X : S2048x512.Idx → Elt Ideal .bf16) (h : Fin 4) (j : ℕ) (hj : j < 8) (r : Fin 256) (d : Fin 128) :
    tile X h j (ix2 r d) = X (ix2 ⟨256 * j + r.val, by omega⟩ ⟨128 * h.val + d.val, by omega⟩) := by
  unfold tile cell
  refine congrArg X ?_
  have e : (256 * j + r.val) % 2048 = 256 * j + r.val := Nat.mod_eq_of_lt (by omega)
  congr 1
  exact Fin.ext e

/-- The result of the kernel's loops for one head: after `s` tiles below the diagonal the running sum is that of the keys
    taken so far, and so is the weighted sum of the values. -/
theorem head_apply (b : Elt Ideal .f32) (Q K V : S2048x512.Idx → Elt Ideal .bf16) (h : Fin 4) (k : ℕ) (hk : k < 8)
    (r : Fin 256) (z : ℕ → EReal) (v : ℕ → Fin 128 → EReal)
    (hz : ∀ J : Fin 2048, (∑ d : Fin 128, Q (ix2 ⟨256 * k + r.val, by omega⟩ ⟨128 * h.val + d.val, by omega⟩)
        * K (ix2 J ⟨128 * h.val + d.val, by omega⟩)) + b = z J.val)
    (hv : ∀ (J : Fin 2048) d, V (ix2 J ⟨128 * h.val + d.val, by omega⟩) = v J.val d) (s : ℕ) (hs : s ≤ k) :
    (∀ a, (head b Q K V h k s).2 (ix2 r a)
        = (∑ J ∈ Finset.Ico (256 * (k - s)) (256 * k + r.val), -softplus (z J)))
      ∧ ∀ d, (head b Q K V h k s).1 (ix2 r d)
        = ∑ J ∈ Finset.Ico (256 * (k - s)) (256 * k + r.val), weight z (256 * k + r.val) J * v J d := by
  have hz' : ∀ j, j < 8 → ∀ c : Fin 256, k0_pay5 b (tile Q h k) (tile K h j) (ix2 r c) = z (256 * j + c.val) := by
    intro j hj c
    rw [pay5_apply, ← hz ⟨256 * j + c.val, by omega⟩]
    refine congrArg (· + b) (Finset.sum_congr rfl fun d _ => ?_)
    rw [tile_apply Q h k hk, tile_apply K h j hj]
  have hv' : ∀ j, j < 8 → ∀ (c : Fin 256) d, tile V h j (ix2 c d) = v (256 * j + c.val) d := by
    intro j hj c d
    rw [tile_apply V h j hj, ← hv ⟨256 * j + c.val, by omega⟩]
  induction s with
  | zero =>
    refine ⟨fun a => pay56_apply b _ _ r z (256 * k) (hz' k hk) a, fun d => ?_⟩
    refine (pay57_apply b _ _ _ r z (256 * k) (hz' k hk) d).trans ?_
    rw [Nat.sub_zero, ← sum_tile (fun J => weight z (256 * k + r.val) J * v J d) (256 * k) _ _ le_rfl (by omega)]
    refine Finset.sum_congr rfl fun c _ => ?_
    rw [hv' k hk]
    refine if_congr ?_ rfl rfl
    omega
  | succ s ih =>
    obtain ⟨ih1, ih2⟩ := ih (by omega)
    have hB : 256 * (k - s) = 256 * (k - 1 - s) + 256 := by omega
    have hB' : k - (s + 1) = k - 1 - s := by omega
    have hj : k - 1 - s < 8 := by omega
    rw [hB] at ih1 ih2
    rw [hB']
    refine ⟨fun a => ?_, fun d => ?_⟩
    · refine (pay8_apply b _ _ _ r z _ (hz' _ hj) a).trans ?_
      rw [ih1 a, add_comm, Finset.sum_Ico_consecutive _ (by omega) (by omega)]
    · refine (pay9_apply b _ _ _ _ _ r z _ (hz' _ hj) _ ih1 d).trans ?_
      rw [ih2 d, add_comm, ← Finset.sum_Ico_consecutive _ (show 256 * (k - 1 - s) ≤ 256 * (k - 1 - s) + 256 by omega)
        (show 256 * (k - 1 - s) + 256 ≤ 256 * k + r.val by omega)]
      refine congrArg (· + _) ?_
      rw [← sum_tile (fun J => weight z (256 * k + r.val) J * v J d) (256 * (k - 1 - s)) _ _ le_rfl le_rfl]
      refine Finset.sum_congr rfl fun c _ => ?_
      rw [if_pos (by omega), hv' _ hj, add_assoc, Finset.sum_Ico_consecutive _ (by omega) (by omega)]
      rfl

end Cert.Proof.Attn
-- ==== Proof.Spec.lean ====
module

public import proofs.«01_k».proof.Proof.Stick

@[expose] public section

noncomputable section

namespace Cert.Proof.Attn

open Idealize.ShloMosaic Idealize.ShloMosaic.ValueIdx
open scoped BigOperators

/-! ## What both programs compute -/

/-- The array that holds queries, keys and values side by side. -/
abbrev Arr : Type := (⟨3, ![4, 2048, 9216]⟩ : Shape).Idx → EReal
/-- One bias for each head. -/
abbrev Bias : Type := (⟨1, ![16]⟩ : Shape).Idx → EReal

/-- The column of coordinate `d` of head `h` in the 2048 columns that start at `o`. -/
def col (o : ℕ) (ho : o ≤ 7168) (h : Fin 16) (d : Fin 128) : Fin 9216 := ⟨o + (128 * h.val + d.val), by omega⟩

def query (u : Arr) (n : Fin 4) (h : Fin 16) (Q : Fin 2048) (d : Fin 128) : EReal := u (ix3 n Q (col 3072 (by omega) h d))
def key (u : Arr) (n : Fin 4) (h : Fin 16) (J : Fin 2048) (d : Fin 128) : EReal := u (ix3 n J (col 5120 (by omega) h d))
def value (u : Arr) (n : Fin 4) (h : Fin 16) (J : Fin 2048) (d : Fin 128) : EReal := u (ix3 n J (col 7168 (by omega) h d))

/-- The factor of the scores, the rounded inverse root of 128. -/
def factor : EReal := Ideal.ofBits .f32 0x3DB504F3#32

theorem factor_eq : ∃ s : ℝ, 0 ≤ s ∧ factor = (s : EReal) := by
  unfold factor
  simp only [Ideal.ofBits, Ideal.ieee]
  norm_num
  refine ⟨_, ?_, rfl⟩
  rw [if_neg (by decide)]
  positivity

/-- A positive real factor goes into a sum, whatever the terms. -/
theorem sum_mul_factor {ι : Type} (t : Finset ι) (f : ι → EReal) : (∑ i ∈ t, f i) * factor = ∑ i ∈ t, f i * factor := by
  classical
  obtain ⟨s, hs, e⟩ := factor_eq
  rw [e]
  induction t using Finset.induction_on with
  | empty => simp
  | insert i t hi ih =>
    rw [Finset.sum_insert hi, Finset.sum_insert hi, ← ih]
    exact EReal.right_distrib_of_nonneg_of_ne_top (EReal.coe_nonneg.2 hs) (EReal.coe_ne_top s) _ _

/-- The score of key `J` for query `Q`. -/
def score (u : Arr) (b : Bias) (n : Fin 4) (h : Fin 16) (Q J : Fin 2048) : EReal :=
  (∑ d : Fin 128, query u n h Q d * key u n h J d) * factor + b (ix1 h)

def scores (u : Arr) (b : Bias) (n : Fin 4) (h : Fin 16) (Q : Fin 2048) (J : ℕ) : EReal :=
  if hJ : J < 2048 then score u b n h Q ⟨J, hJ⟩ else 0

def values (u : Arr) (n : Fin 4) (h : Fin 16) (J : ℕ) (d : Fin 128) : EReal :=
  if hJ : J < 2048 then value u n h ⟨J, hJ⟩ d else 0

/-- The attention's result: the values of the keys before the query, by their weights. -/
def attention (u : Arr) (b : Bias) (n : Fin 4) (Q : Fin 2048) (h : Fin 16) (d : Fin 128) : EReal :=
  ∑ J ∈ Finset.Ico 0 Q.val, weight (scores u b n h Q) Q.val J * values u n h J d

theorem scores_val (u : Arr) (b : Bias) (n : Fin 4) (h : Fin 16) (Q J : Fin 2048) :
    scores u b n h Q J.val = score u b n h Q J := by rw [scores, dif_pos J.isLt]

theorem values_val (u : Arr) (n : Fin 4) (h : Fin 16) (J : Fin 2048) (d : Fin 128) :
    values u n h J.val d = value u n h J d := by rw [values, dif_pos J.isLt]

/-- The kernel scales the query before the product. -/
theorem score_scaled (u : Arr) (b : Bias) (n : Fin 4) (h : Fin 16) (Q J : Fin 2048) :
    (∑ d : Fin 128, query u n h Q d * factor * key u n h J d) + b (ix1 h) = score u b n h Q J := by
  rw [score, sum_mul_factor]
  refine congrArg (· + b (ix1 h)) (Finset.sum_congr rfl fun d _ => ?_)
  rw [mul_assoc, mul_assoc, mul_comm factor]

end Cert.Proof.Attn
-- ==== Proof.Value.lean ====
module

public import proofs.«01_k».proof.Proof.Launched
public import proofs.«01_k».proof.Proof.Spec
public import proofs.«01_k».proof.Proof.Stick
public import Idealize.ShloMosaic.Lib.Pipeline.ValueKit

@[expose] public section

set_option maxHeartbeats 1000000

noncomputable section

namespace Cert.Proof.Attn

open Cert.KernelIdeal Cert.KernelIdeal.Gen
open Idealize.ShloMosaic hiding ix1 ix2 ix3
open Idealize.ShloMosaic.TcCoe Idealize.ShloMosaic.ValueIdx Idealize.SL.Sem
open scoped BigOperators

variable (m : (ℓ : Loc nD τ sig) → Buf (Elt Ideal) ℓ)

/-! ## The blocks of a grid point, read from the arrays -/

/-- The batch element of a grid point. -/
def bat (t : Fin cfg0.N) : Fin 4 := grid0.coords t 0
/-- The group of four heads of a grid point. -/
def grp (t : Fin cfg0.N) : Fin 4 := grid0.coords t 1

theorem idx_0 : ∀ t : Fin cfg0.N, win0_0.index t 0 = 0 := by decide +kernel
theorem idx_1 : ∀ t : Fin cfg0.N, win0_1.index t 0 = (bat t).val ∧ win0_1.index t 1 = 0 ∧ win0_1.index t 2 = 6 + (grp t).val := by decide +kernel
theorem idx_2 : ∀ t : Fin cfg0.N, win0_2.index t 0 = (bat t).val ∧ win0_2.index t 1 = 0 ∧ win0_2.index t 2 = 10 + (grp t).val := by decide +kernel
theorem idx_3 : ∀ t : Fin cfg0.N, win0_3.index t 0 = (bat t).val ∧ win0_3.index t 1 = 0 ∧ win0_3.index t 2 = 14 + (grp t).val := by decide +kernel
theorem idx_4 : ∀ t : Fin cfg0.N, win0_4.index t 0 = (bat t).val ∧ win0_4.index t 1 = 0 ∧ win0_4.index t 2 = (grp t).val := by decide +kernel

theorem iblk_1 (c : Dev nD) (t : Fin cfg0.N) (R : Fin 2048) (C : Fin 512) :
    iblk m c 1 t (ix3 (0 : Fin 1) R C)
      = m ((c.tc : Thread nD τ).loc main_arg0) (ix3 (bat t) R ⟨512 * (6 + (grp t).val) + C.val, by omega⟩) := by
  unfold iblk
  rw [View.read_apply]
  refine congrArg (m ((c.tc : Thread nD τ).loc main_arg0)) (funext fun a => Fin.ext ?_)
  obtain ⟨h0, h1, h2⟩ := idx_1 t
  match a with
  | ⟨0, _⟩ => blk_simp; rw [h0]
  | ⟨1, _⟩ => blk_simp; rw [h1]; exact (Nat.zero_mul 2048).symm ▸ Nat.zero_add _
  | ⟨2, _⟩ => blk_simp; rw [h2]; show (6 + (grp t).val) * 512 + C.val = 512 * (6 + (grp t).val) + C.val; omega

theorem iblk_2 (c : Dev nD) (t : Fin cfg0.N) (R : Fin 2048) (C : Fin 512) :
    iblk m c 2 t (ix3 (0 : Fin 1) R C)
      = m ((c.tc : Thread nD τ).loc main_arg0) (ix3 (bat t) R ⟨512 * (10 + (grp t).val) + C.val, by omega⟩) := by
  unfold iblk
  rw [View.read_apply]
  refine congrArg (m ((c.tc : Thread nD τ).loc main_arg0)) (funext fun a => Fin.ext ?_)
  obtain ⟨h0, h1, h2⟩ := idx_2 t
  match a with
  | ⟨0, _⟩ => blk_simp; rw [h0]
  | ⟨1, _⟩ => blk_simp; rw [h1]; exact (Nat.zero_mul 2048).symm ▸ Nat.zero_add _
  | ⟨2, _⟩ => blk_simp; rw [h2]; show (10 + (grp t).val) * 512 + C.val = 512 * (10 + (grp t).val) + C.val; omega

theorem iblk_3 (c : Dev nD) (t : Fin cfg0.N) (R : Fin 2048) (C : Fin 512) :
    iblk m c 3 t (ix3 (0 : Fin 1) R C)
      = m ((c.tc : Thread nD τ).loc main_arg0) (ix3 (bat t) R ⟨512 * (14 + (grp t).val) + C.val, by omega⟩) := by
  unfold iblk
  rw [View.read_apply]
  refine congrArg (m ((c.tc : Thread nD τ).loc main_arg0)) (funext fun a => Fin.ext ?_)
  obtain ⟨h0, h1, h2⟩ := idx_3 t
  match a with
  | ⟨0, _⟩ => blk_simp; rw [h0]
  | ⟨1, _⟩ => blk_simp; rw [h1]; exact (Nat.zero_mul 2048).symm ▸ Nat.zero_add _
  | ⟨2, _⟩ => blk_simp; rw [h2]; show (14 + (grp t).val) * 512 + C.val = 512 * (14 + (grp t).val) + C.val; omega

theorem iblk_0 (c : Dev nD) (t : Fin cfg0.N) (h : Fin 16) :
    iblk m c 0 t (ix1 h) = m ((c.tc : Thread nD τ).loc main_arg1) (ix1 h) := by
  unfold iblk
  rw [View.read_apply]
  refine congrArg (m ((c.tc : Thread nD τ).loc main_arg1)) (funext fun a => Fin.ext ?_)
  match a with
  | ⟨0, _⟩ => blk_simp; rw [idx_0]; show 0 * 16 + h.val = h.val; omega

theorem biasOf_eq (c : Dev nD) (t : Fin cfg0.N) (h : Fin 4) :
    biasOf (grid0.coords t) (iblk m c 0 t) h = m ((c.tc : Thread nD τ).loc main_arg1) (ix1 ⟨4 * (grp t).val + h.val, by omega⟩) := by
  rw [← iblk_0 m c t]
  unfold biasOf
  refine View.ld_unit_apply_of _ _ _ _ _ _ fun a => ?_
  match a with
  | ⟨0, _⟩ => exact (congrFun (k0_off1_eq (grid0.coords t) h) 0).symm

/-! ## The three operands at an index -/

theorem pay81_apply (x : FVec Ideal S1x2048x512 .f32) (R : Fin 2048) (C : Fin 512) :
    k0_pay81 (F := Ideal) x (ix2 R C) = x (ix3 0 R C) * factor := by
  unfold k0_pay81
  rw [shapeCast_self]
  exact congrArg (· * factor) (shapeCast_1ab_ab_apply x _ R C)

theorem pay82_apply (x : FVec Ideal S1x2048x512 .f32) (R : Fin 2048) (C : Fin 512) :
    k0_pay82 (F := Ideal) x (ix2 R C) = x (ix3 0 R C) := by
  unfold k0_pay82
  rw [shapeCast_self]
  exact shapeCast_1ab_ab_apply x _ R C

theorem pay83_apply (x : FVec Ideal S1x2048x512 .f32) (R : Fin 2048) (C : Fin 512) :
    k0_pay1 (F := Ideal) (k0_pay83 x) (ix2 R C) = x (ix3 0 R C) := by
  unfold k0_pay1 k0_pay83
  rw [shapeCast_self]
  exact shapeCast_1ab_ab_apply x _ R C

/-! ## The array the kernel leaves -/

/-- The input array, and the biases. -/
abbrev arr (c : Dev nD) : Arr := m ((c.tc : Thread nD τ).loc main_arg0)
abbrev biases (c : Dev nD) : Bias := m ((c.tc : Thread nD τ).loc main_arg1)

theorem oblk_apply (c : Dev nD) (t : Fin cfg0.N) (Q : Fin 2048) (h : Fin 4) (d : Fin 128) :
    oblk m c t (ix3 (0 : Fin 1) Q ⟨128 * h.val + d.val, by omega⟩)
      = attention (arr m c) (biases m c) (bat t) Q ⟨4 * (grp t).val + h.val, by omega⟩ d := by
  obtain ⟨k, r, hk, rfl⟩ : ∃ (k : ℕ) (r : Fin 256) (hk : k < 8), Q = ⟨256 * k + r.val, by omega⟩ :=
    ⟨Q.val / 256, ⟨Q.val % 256, by omega⟩, by omega, Fin.ext (by show Q.val = 256 * (Q.val / 256) + Q.val % 256; omega)⟩
  have key := (head_apply (biasOf (grid0.coords t) (iblk m c 0 t) h) (k0_pay81 (iblk m c 1 t)) (k0_pay82 (iblk m c 2 t))
    (k0_pay1 (k0_pay83 (iblk m c 3 t))) h k hk r
    (scores (arr m c) (biases m c) (bat t) ⟨4 * (grp t).val + h.val, by omega⟩ ⟨256 * k + r.val, by omega⟩)
    (values (arr m c) (bat t) ⟨4 * (grp t).val + h.val, by omega⟩)
    (fun J => by
      rw [scores_val, ← score_scaled, biasOf_eq]
      refine congrArg (· + _) (Finset.sum_congr rfl fun d' _ => ?_)
      rw [pay81_apply, pay82_apply, iblk_1, iblk_2]
      refine congrArg₂ (· * factor * ·) (congrArg _ (congrArg _ (Fin.ext ?_))) (congrArg _ (congrArg _ (Fin.ext ?_)))
      · show 512 * (6 + (grp t).val) + (128 * h.val + d'.val) = 3072 + (128 * (4 * (grp t).val + h.val) + d'.val); omega
      · show 512 * (10 + (grp t).val) + (128 * h.val + d'.val) = 5120 + (128 * (4 * (grp t).val + h.val) + d'.val); omega)
    (fun J d' => by
      rw [values_val, pay83_apply, iblk_3]
      refine congrArg _ (congrArg _ (Fin.ext ?_))
      show 512 * (14 + (grp t).val) + (128 * h.val + d'.val) = 7168 + (128 * (4 * (grp t).val + h.val) + d'.val); omega)
    k le_rfl).2 d
  have e1 : (⟨(128 * h.val + d.val) / 128, by omega⟩ : Fin 4) = h := Fin.ext (by show (128 * h.val + d.val) / 128 = h.val; omega)
  have e2 : (⟨(128 * h.val + d.val) % 128, by omega⟩ : Fin 128) = d := Fin.ext (by show (128 * h.val + d.val) % 128 = d.val; omega)
  have e3 : (256 * k + r.val) / 256 = k := by omega
  have e4 : (⟨(256 * k + r.val) % 256, by omega⟩ : Fin 256) = r := Fin.ext (by show (256 * k + r.val) % 256 = r.val; omega)
  refine Eq.trans ?_ (key.trans ?_)
  · show (head (biasOf (grid0.coords t) (iblk m c 0 t) ⟨(128 * h.val + d.val) / 128, _⟩) _ _ _ ⟨(128 * h.val + d.val) / 128, _⟩
      ((256 * k + r.val) / 256) ((256 * k + r.val) / 256)).1 (ix2 ⟨(256 * k + r.val) % 256, _⟩ ⟨(128 * h.val + d.val) % 128, _⟩) = _
    rw [e1, e2, e3, e4]
  · rw [attention, Nat.sub_self, Nat.mul_zero]

/-- The attention of the two arguments, as an array. -/
def result (u : Arr) (b : Bias) : (⟨3, ![4, 2048, 2048]⟩ : Shape).Idx → EReal :=
  fun j => attention u b (j 0) (j 1) ⟨(j 2).val / 128, by have : (j 2).val < 2048 := (j 2).isLt; omega⟩ ⟨(j 2).val % 128, by omega⟩

theorem result_apply (u : Arr) (b : Bias) (n : Fin 4) (Q : Fin 2048) (h : Fin 16) (d : Fin 128) (j) (h0 : (j 0).val = n.val)
    (h1 : (j 1).val = Q.val) (h2 : (j 2).val = 128 * h.val + d.val) : result u b j = attention u b n Q h d := by
  unfold result
  rw [show j 0 = n from Fin.ext h0, show j 1 = Q from Fin.ext h1]
  refine congrArg₂ (attention u b n Q) (Fin.ext ?_) (Fin.ext ?_)
  · show (j 2).val / 128 = h.val; omega
  · show (j 2).val % 128 = d.val; omega

theorem arr_out (c : Dev nD) :
    (dats m 0 c).arrAt 4 cfg0.N = result (arr m c) (biases m c) := by
  refine (dats m 0 c).arrAt_eq_of_covers 4 (result (arr m c) (biases m c)) (by decide +kernel) fun t hf y => ?_
  blk_simp
  rw [after_4]
  obtain ⟨Q, C, rfl⟩ : ∃ (Q : Fin 2048) (C : Fin 512), y = ix3 (0 : Fin 1) Q C :=
    ⟨y 1, y 2, (ValueIdx.eq_ix3 y).trans (congrArg (fun z => ix3 z (y 1) (y 2)) (Subsingleton.elim (α := Fin 1) _ _))⟩
  obtain ⟨h, d, rfl⟩ : ∃ (h : Fin 4) (d : Fin 128), C = ⟨128 * h.val + d.val, by omega⟩ :=
    ⟨⟨C.val / 128, by omega⟩, ⟨C.val % 128, by omega⟩, Fin.ext (by show C.val = 128 * (C.val / 128) + C.val % 128; omega)⟩
  obtain ⟨h0, h1, h2⟩ := idx_4 t
  rw [oblk_apply m c]
  refine (result_apply _ _ _ _ _ _ _ ?_ ?_ ?_).symm
  · blk_simp; rw [h0]
  · blk_simp; rw [h1]; exact (Nat.zero_mul 2048).symm ▸ Nat.zero_add _
  · blk_simp; rw [h2]; show (grp t).val * 512 + (128 * h.val + d.val) = 128 * (4 * (grp t).val + h.val) + d.val; omega

end Cert.Proof.Attn
-- ==== Proof.Reference.lean ====
module

public import proofs.«01_k».proof.Proof.Spec
public import proofs.«01_k».proof.Proof.Gen.ReferenceIdeal.Read

@[expose] public section

noncomputable section

namespace Cert.Proof.Attn

open Cert.ReferenceIdeal Cert.ReferenceIdeal.Gen Cert.ReferenceIdeal.Read
open Idealize.ShloMosaic Idealize.ShloMosaic.ValueIdx
open scoped BigOperators

variable (u : (⟨S4x2048x9216, .f32⟩ : BufTy).Contents (Elt Ideal)) (b : (⟨S16, .f32⟩ : BufTy).Contents (Elt Ideal))

/-! ## The sum to the right -/

theorem foldl_add_eq {ι : Type} {M : Type} [AddCommMonoid M] (g : ι → M) (l : List ι) (a : M) :
    l.foldl (fun r n => r + g n) a = a + (l.map g).sum := by
  induction l generalizing a with
  | nil => simp
  | cons x l ih => rw [List.foldl_cons, ih, List.map_cons, List.sum_cons, add_assoc]

/-- A window sum from zero, as the sum over the window's positions. -/
theorem windowSum_apply {s t v : Shape} (win strides lo hi : Fin s.rank → ℕ) (h : s.ReduceWindows win strides lo hi t)
    (x : s.Idx → EReal) (i : v.Idx → EReal) (hv : 0 < v.numel) (hi0 : ∀ j, i j = 0) (j : t.Idx) :
    Host.reduceWindowAdd (F := Ideal) (φ := .f32) win strides lo hi x i h hv j
      = ∑ w : (⟨s.rank, win⟩ : Shape).Idx,
          if hin : ∀ a, lo a ≤ (j (a.cast h.1.symm)).val * strides a + (w a).val
              ∧ (j (a.cast h.1.symm)).val * strides a + (w a).val - lo a < s.size a
          then x (fun a => ⟨(j (a.cast h.1.symm)).val * strides a + (w a).val - lo a, (hin a).2⟩) else 0 := by
  rw [← Equiv.sum_comp (⟨s.rank, win⟩ : Shape).rowMajor.symm, Fin.sum_univ_def]
  refine Eq.trans ?_ ((foldl_add_eq _ _ 0).trans (zero_add _))
  unfold Host.reduceWindowAdd
  rw [hi0]
  show Ideal.hostReduceWindowAdd win strides lo hi h x 0 j = _
  unfold Ideal.hostReduceWindowAdd Host.reduceWindow
  dsimp only
  refine congrArg (fun f => List.foldl f (0 : EReal) _) (funext fun r => funext fun k => congrArg (r + ·) ?_)
  refine dite_congr rfl (fun hin => ?_) (fun _ => rfl)
  rfl

/-- A window of 2048 that starts at each position, zeros beyond the end: the sum from a position on. -/
theorem cumsum_apply (x : S4x16x2048x2048.Idx → EReal) (i : S_.Idx → EReal) (hi : ∀ j, i j = 0)
    (n : Fin 4) (h : Fin 16) (Q J : Fin 2048) :
    Host.reduceWindowAdd (F := Ideal) (φ := .f32) ![1, 1, 1, 2048] ![1, 1, 1, 1] ![0, 0, 0, 0] ![0, 0, 0, 2047] x i
        reduceWindows_S4x16x2048x2048_S4x16x2048x2048_w1s1p0_0_w1s1p0_0_w1s1p0_0_w2048s1p0_2047 h_S_ (ix4 n h Q J)
      = ∑ c : Fin 2048, if hc : J.val + c.val < 2048 then x (ix4 n h Q ⟨J.val + c.val, hc⟩) else 0 := by
  rw [windowSum_apply _ _ _ _ _ x i _ hi]
  refine Finset.sum_nbij' (fun w => w 3) (fun c => ix4 0 0 0 c) (fun _ _ => Finset.mem_univ _) (fun _ _ => Finset.mem_univ _)
    (fun w _ => ?_) (fun _ _ => rfl) (fun w _ => ?_)
  · funext a
    match a with
    | ⟨0, _⟩ => exact Subsingleton.elim (α := Fin 1) _ _
    | ⟨1, _⟩ => exact Subsingleton.elim (α := Fin 1) _ _
    | ⟨2, _⟩ => exact Subsingleton.elim (α := Fin 1) _ _
    | ⟨3, _⟩ => rfl
  · have h0 : (w 0).val = 0 := by have := (w 0).isLt; change (w 0).val < 1 at this; omega
    have h1 : (w 1).val = 0 := by have := (w 1).isLt; change (w 1).val < 1 at this; omega
    have h2 : (w 2).val = 0 := by have := (w 2).isLt; change (w 2).val < 1 at this; omega
    by_cases hc : J.val + (w 3).val < 2048
    · rw [dif_pos hc, dif_pos]
      · refine congrArg x (funext fun a => Fin.ext ?_)
        match a with
        | ⟨0, _⟩ => show n.val * 1 + (w 0).val - 0 = n.val; omega
        | ⟨1, _⟩ => show h.val * 1 + (w 1).val - 0 = h.val; omega
        | ⟨2, _⟩ => show Q.val * 1 + (w 2).val - 0 = Q.val; omega
        | ⟨3, _⟩ => show J.val * 1 + (w 3).val - 0 = J.val + (w 3).val; omega
      · intro a
        match a with
        | ⟨0, _⟩ => exact ⟨Nat.zero_le _, show n.val * 1 + (w 0).val - 0 < 4 by omega⟩
        | ⟨1, _⟩ => exact ⟨Nat.zero_le _, show h.val * 1 + (w 1).val - 0 < 16 by omega⟩
        | ⟨2, _⟩ => exact ⟨Nat.zero_le _, show Q.val * 1 + (w 2).val - 0 < 2048 by omega⟩
        | ⟨3, _⟩ => exact ⟨Nat.zero_le _, show J.val * 1 + (w 3).val - 0 < 2048 by omega⟩
    · rw [dif_neg hc, dif_neg]
      intro hin
      have := (hin 3).2
      change J.val * 1 + (w 3).val - 0 < 2048 at this
      omega

/-! ## The reference's stages at an index -/

theorem ref_query (n : Fin 4) (h : Fin 16) (Q : Fin 2048) (d : Fin 128) :
    val_main_v5 (F := Ideal) u (ix4 n Q h d) = query u n h Q d := by
  rw [val_main_v5_apply, val_main_v2_apply]
  refine congrArg u (funext fun a => Fin.ext ?_)
  match a with
  | ⟨0, _⟩ => show (((n.val * 2048 + Q.val) * 16 + h.val) * 128 + d.val) / 4194304 = n.val; omega
  | ⟨1, _⟩ => show (((n.val * 2048 + Q.val) * 16 + h.val) * 128 + d.val) / 2048 % 2048 = Q.val; omega
  | ⟨2, _⟩ => show 3072 + (((n.val * 2048 + Q.val) * 16 + h.val) * 128 + d.val) % 2048 = 3072 + (128 * h.val + d.val); omega

theorem ref_key (n : Fin 4) (h : Fin 16) (J : Fin 2048) (d : Fin 128) :
    val_main_v6 (F := Ideal) u (ix4 n J h d) = key u n h J d := by
  rw [val_main_v6_apply, val_main_v3_apply]
  refine congrArg u (funext fun a => Fin.ext ?_)
  match a with
  | ⟨0, _⟩ => show (((n.val * 2048 + J.val) * 16 + h.val) * 128 + d.val) / 4194304 = n.val; omega
  | ⟨1, _⟩ => show (((n.val * 2048 + J.val) * 16 + h.val) * 128 + d.val) / 2048 % 2048 = J.val; omega
  | ⟨2, _⟩ => show 5120 + (((n.val * 2048 + J.val) * 16 + h.val) * 128 + d.val) % 2048 = 5120 + (128 * h.val + d.val); omega

theorem ref_value (n : Fin 4) (h : Fin 16) (J : Fin 2048) (d : Fin 128) :
    val_main_v7 (F := Ideal) u (ix4 n J h d) = value u n h J d := by
  rw [val_main_v7_apply, val_main_v4_apply]
  refine congrArg u (funext fun a => Fin.ext ?_)
  match a with
  | ⟨0, _⟩ => show (((n.val * 2048 + J.val) * 16 + h.val) * 128 + d.val) / 4194304 = n.val; omega
  | ⟨1, _⟩ => show (((n.val * 2048 + J.val) * 16 + h.val) * 128 + d.val) / 2048 % 2048 = J.val; omega
  | ⟨2, _⟩ => show 7168 + (((n.val * 2048 + J.val) * 16 + h.val) * 128 + d.val) % 2048 = 7168 + (128 * h.val + d.val); omega

theorem ref_score (n : Fin 4) (h : Fin 16) (Q J : Fin 2048) :
    val_main_v15 (F := Ideal) u b (ix4 n h Q J) = scores u b n h Q J.val := by
  rw [scores_val, score, val_main_v15_apply, val_main_v12_apply, val_main_v10_apply, val_main_v11_apply,
    val_main_v14_apply, val_main_v13_apply]
  have e : idx_main_v13 (idx_main_v14 (ix4 n h Q J)) = ix1 h := by
    funext a; match a with | ⟨0, _⟩ => rfl
  rw [e]
  have e' : (∑ k : Fin 128, val_main_v5 (F := Ideal) u (lidx_main_v10 (ix4 n h Q J) k)
      * val_main_v6 (F := Ideal) u (ridx_main_v10 (ix4 n h Q J) k)) = ∑ d : Fin 128, query u n h Q d * key u n h J d := by
    refine Finset.sum_congr rfl fun d _ => ?_
    have el : lidx_main_v10 (ix4 n h Q J) d = ix4 n Q h d := by
      funext a; match a with | ⟨0, _⟩ => rfl | ⟨1, _⟩ => rfl | ⟨2, _⟩ => rfl | ⟨3, _⟩ => rfl
    have er : ridx_main_v10 (ix4 n h Q J) d = ix4 n J h d := by
      funext a; match a with | ⟨0, _⟩ => rfl | ⟨1, _⟩ => rfl | ⟨2, _⟩ => rfl | ⟨3, _⟩ => rfl
    rw [el, er, ref_query, ref_key]
  rw [e']
  rfl

/-- The reference's softplus; the test for what isn't a number is never true. -/
theorem ref_softplus (y : EReal) :
    Scalar.select (FloatOps.cmpf (F := Ideal) (φ := .f32) .une (y - 0) (y - 0)) (y + 0)
      (max y 0 + Ideal.log1p (Ideal.exp (-(max (y - 0) (-(y - 0)))))) = softplus y := by
  have h : FloatOps.cmpf (F := Ideal) (φ := .f32) .une (y - 0) (y - 0) = 0#1 := by
    show BitVec.ofBool (decide (y - 0 ≠ y - 0)) = 0#1
    simp
  rw [h, softplus, Ideal.log1p, sub_zero, zero_sub]
  rfl

/-! The softplus on the real line and at its two ends. -/

theorem log_one : Ideal.log 1 = 0 := by
  rw [← EReal.coe_one, Ideal.log_coe, if_neg (by norm_num), Real.log_one, EReal.coe_zero]

theorem softplus_top : softplus ⊤ = ⊤ := by
  simp [softplus, log_one]

theorem softplus_bot : softplus ⊥ = 0 := by
  simp [softplus, log_one]

theorem softplus_coe (z : ℝ) :
    softplus (z : EReal) = ((max z 0 + Real.log (1 + Real.exp (-|z|)) : ℝ) : EReal) := by
  have hm : ∀ a b : ℝ, max (a : EReal) (b : EReal) = ((max a b : ℝ) : EReal) := fun a b =>
    (EReal.coe_strictMono.monotone.map_max).symm
  have h1 : max (z : EReal) (-(z : EReal)) = ((|z| : ℝ) : EReal) := by
    rw [← EReal.coe_neg, hm]; rfl
  have h2 : (0 : EReal) - ((|z| : ℝ) : EReal) = ((-|z| : ℝ) : EReal) := by rw [zero_sub, EReal.coe_neg]
  have h3 : (1 : EReal) + ((Real.exp (-|z|) : ℝ) : EReal) = ((1 + Real.exp (-|z|) : ℝ) : EReal) := by
    rw [EReal.coe_add, EReal.coe_one]
  have h4 : ¬ (1 + Real.exp (-|z|) ≤ 0) := by have := Real.exp_pos (-|z|); linarith
  rw [softplus, h1, h2, Ideal.exp_coe, h3, Ideal.log_coe, if_neg h4, EReal.coe_add, ← hm, EReal.coe_zero]

/-- The two exponents of a weight: the reference takes the logarithm of the sigmoid, and a sum that begins at the key
    less the key's own term; the kernel takes the score less its softplus, and the sum that begins after the key. They
    agree at infinite scores too, where both are `⊥`. -/
theorem exponent_eq (z S : EReal) : -softplus (-z) + ((-softplus z + S) - -softplus z) = z - softplus z + S := by
  induction z using EReal.rec with
  | bot => simp [softplus_top, softplus_bot]
  | top => simp [softplus_top, softplus_bot]
  | coe z =>
    have e : -softplus (-(z : EReal)) = (z : EReal) - softplus z := by
      rw [← EReal.coe_neg, softplus_coe, softplus_coe, ← EReal.coe_sub, ← EReal.coe_neg, EReal.coe_eq_coe_iff, abs_neg]
      rcases le_total z 0 with hz | hz
      · rw [max_eq_right hz, max_eq_left (by linarith)]; ring
      · rw [max_eq_left hz, max_eq_right (by linarith)]; ring
    rw [e]
    rw [softplus_coe]
    refine congrArg (fun x : EReal => (z : EReal) - _ + x) ?_
    induction S using EReal.rec with
    | bot => simp
    | top => rw [← EReal.coe_neg]; rfl
    | coe S => rw [← EReal.coe_neg, ← EReal.coe_add, ← EReal.coe_sub, add_sub_cancel_left]

theorem ref_log1m (n : Fin 4) (h : Fin 16) (Q J : Fin 2048) :
    val_main_v22 (F := Ideal) u b (ix4 n h Q J) = -softplus (scores u b n h Q J.val) := by
  have e : val_main_call0_v0 (F := Ideal) u b (ix4 n h Q J) = scores u b n h Q J.val := by
    rw [val_main_call0_v0_apply, val_main_v21_apply, ref_score u b]
    show -(-(scores u b n h Q J.val)) = _
    rw [neg_neg]
  rw [val_main_v22_apply, val_main_call0_v1_apply, val_main_call0_call0_v4_apply, val_main_call0_call0_v6_apply,
    val_main_call0_call0_v11_apply, val_main_call0_call0_v1_apply, val_main_call0_call0_v10_apply,
    val_main_call0_call0_v9_apply, val_main_call0_call0_v8_apply, val_main_call0_call0_v7_apply,
    val_main_call0_call0_v3_apply, val_main_call0_call0_v0_apply, val_main_call0_call0_v2_apply,
    val_main_call0_call0_v5_apply, val_main_call0_call0_cst_apply, e]
  rw [← ref_softplus, ← Ideal.ofBits_zero_f32]
  rfl

theorem ref_log (n : Fin 4) (h : Fin 16) (Q J : Fin 2048) :
    val_main_v26 (F := Ideal) u b (ix4 n h Q J)
      = -softplus (-scores u b n h Q J.val) := by
  have e : val_main_call3_v0 (F := Ideal) u b (ix4 n h Q J) = -scores u b n h Q J.val := by
    rw [val_main_call3_v0_apply, ref_score u b]
    rfl
  rw [val_main_v26_apply, val_main_call3_v1_apply, val_main_call3_call0_v4_apply, val_main_call3_call0_v6_apply,
    val_main_call3_call0_v11_apply, val_main_call3_call0_v1_apply, val_main_call3_call0_v10_apply,
    val_main_call3_call0_v9_apply, val_main_call3_call0_v8_apply, val_main_call3_call0_v7_apply,
    val_main_call3_call0_v3_apply, val_main_call3_call0_v0_apply, val_main_call3_call0_v2_apply,
    val_main_call3_call0_v5_apply, val_main_call3_call0_cst_apply, e]
  rw [← ref_softplus, ← Ideal.ofBits_zero_f32]
  rfl

theorem ref_mask (Q J : Fin 2048) : val_main_v20 (F := Ideal) (ix2 Q J) = BitVec.ofBool (decide (J.val < Q.val)) := by
  rw [val_main_v20_apply, val_main_v18_apply, val_main_v19_apply, val_main_v16_apply, val_main_v17_apply,
    val_main_v8_apply, val_main_v9_apply]
  exact WordCmp.cmpi_slt_ofNat (a := J.val) (b := Q.val) (by omega) (by omega)

theorem select_ofBool (p : Prop) [Decidable p] (x y : EReal) :
    Scalar.select (BitVec.ofBool (decide p)) x y = if p then x else y := by
  by_cases h : p <;> simp [h, Scalar.select]

/-- The masked logarithm of what a key leaves. -/
def left (z : ℕ → EReal) (Q J : ℕ) : EReal := if J < Q then -softplus (z J) else 0

theorem ref_left (n : Fin 4) (h : Fin 16) (Q J : Fin 2048) :
    val_main_v23 (F := Ideal) u b (ix4 n h Q J) = left (scores u b n h Q) Q.val J.val := by
  have em : idx_main_call1_v1 (ix4 n h Q J) = ix2 Q J := by
    funext a; match a with | ⟨0, _⟩ => rfl | ⟨1, _⟩ => rfl
  rw [val_main_v23_apply, val_main_call1_v1_apply, em, ref_mask, select_ofBool, ref_log1m u b, val_main_call1_v2_apply,
    val_main_call1_v0_apply, val_main_cst_0_apply, left]
  show (if J.val < Q.val then _ else Ideal.ofBits .f32 0x00000000#32) = _
  rw [Ideal.ofBits_zero_f32]

theorem ref_suffix (n : Fin 4) (h : Fin 16) (Q J : Fin 2048) (hJ : J.val < Q.val) :
    val_main_v25 (F := Ideal) u b (ix4 n h Q J)
      = (-softplus (scores u b n h Q J.val) + ∑ J' ∈ Finset.Ico (J.val + 1) Q.val, -softplus (scores u b n h Q J'))
        - -softplus (scores u b n h Q J.val) := by
  have hc : val_main_v24 (F := Ideal) u b (ix4 n h Q J)
      = ∑ J' ∈ Finset.Ico J.val 2048, left (scores u b n h Q) Q.val J' := by
    unfold val_main_v24
    refine (cumsum_apply _ _ (fun j => ?_) n h Q J).trans ?_
    · rw [val_main_call2_v0_apply, val_main_call2_cst_apply]; exact Ideal.ofBits_zero_f32
    · have hs : ∀ c : Fin 2048, (if hc : J.val + c.val < 2048 then val_main_v23 (F := Ideal) u b (ix4 n h Q ⟨J.val + c.val, hc⟩) else 0)
          = if J.val + c.val < 2048 then left (scores u b n h Q) Q.val (J.val + c.val) else 0 := by
        intro c
        split_ifs with hc
        · exact ref_left u b n h Q ⟨J.val + c.val, hc⟩
        · rfl
      simp only [hs]
      rw [Fin.sum_univ_eq_sum_range (fun c => if J.val + c < 2048 then left (scores u b n h Q) Q.val (J.val + c) else 0) 2048,
        ← Finset.sum_filter, Finset.sum_Ico_eq_sum_range]
      refine Finset.sum_congr ?_ fun _ _ => rfl
      ext c
      simp only [Finset.mem_filter, Finset.mem_range]
      omega
  have hl : left (scores u b n h Q) Q.val J.val = -softplus (scores u b n h Q J.val) := if_pos hJ
  rw [val_main_v25_apply, hc, ref_left u b, hl,
    ← Finset.sum_Ico_consecutive _ (show J.val ≤ J.val + 1 by omega) (show J.val + 1 ≤ 2048 by omega),
    Nat.Ico_succ_singleton, Finset.sum_singleton, hl]
  refine congrArg (fun s => (-softplus (scores u b n h Q J.val) + s) - -softplus (scores u b n h Q J.val)) ?_
  have : ∀ J', left (scores u b n h Q) Q.val J' = if J' < Q.val then -softplus (scores u b n h Q J') else 0 := fun _ => rfl
  simp only [this]
  rw [← Finset.sum_filter]
  refine Finset.sum_congr ?_ fun _ _ => rfl
  ext J'
  simp only [Finset.mem_filter, Finset.mem_Ico]
  omega

theorem ref_weight (n : Fin 4) (h : Fin 16) (Q J : Fin 2048) :
    val_main_v29 (F := Ideal) u b (ix4 n h Q J)
      = if J.val < Q.val then weight (scores u b n h Q) Q.val J.val else 0 := by
  have em : idx_main_call4_v1 (ix4 n h Q J) = ix2 Q J := by
    funext a; match a with | ⟨0, _⟩ => rfl | ⟨1, _⟩ => rfl
  rw [val_main_v29_apply, val_main_call4_v1_apply, em, ref_mask, select_ofBool, val_main_call4_v2_apply,
    val_main_call4_v0_apply, val_main_cst_1_apply]
  refine if_ctx_congr Iff.rfl (fun hJ => ?_) (fun _ => Ideal.ofBits_zero_f32)
  rw [val_main_v28_apply, val_main_v27_apply, ref_log u b, ref_suffix u b n h Q J hJ, weight]
  exact congrArg Ideal.exp (exponent_eq _ _)

/-- The reference's result at an index. -/
theorem ref_apply (n : Fin 4) (Q : Fin 2048) (h : Fin 16) (d : Fin 128) :
    val_main_v32 (F := Ideal) u b (ix3 n Q ⟨128 * h.val + d.val, by omega⟩) = attention u b n Q h d := by
  have e : idx_main_v32 (ix3 n Q ⟨128 * h.val + d.val, by omega⟩) = ix4 n Q h d := by
    funext a
    refine Fin.ext ?_
    match a with
    | ⟨0, _⟩ => show ((n.val * 2048 + Q.val) * 2048 + (128 * h.val + d.val)) / 4194304 = n.val; omega
    | ⟨1, _⟩ => show ((n.val * 2048 + Q.val) * 2048 + (128 * h.val + d.val)) / 2048 % 2048 = Q.val; omega
    | ⟨2, _⟩ => show ((n.val * 2048 + Q.val) * 2048 + (128 * h.val + d.val)) / 128 % 16 = h.val; omega
    | ⟨3, _⟩ => show ((n.val * 2048 + Q.val) * 2048 + (128 * h.val + d.val)) % 128 = d.val; omega
  have e' : idx_main_v31 (ix4 n Q h d) = ix4 n h d Q := by
    funext a; match a with | ⟨0, _⟩ => rfl | ⟨1, _⟩ => rfl | ⟨2, _⟩ => rfl | ⟨3, _⟩ => rfl
  rw [val_main_v32_apply, e, val_main_v31_apply, e', val_main_v30_apply, attention]
  have hs : ∀ J : Fin 2048, val_main_v7 (F := Ideal) u (lidx_main_v30 (ix4 n h d Q) J)
        * val_main_v29 (F := Ideal) u b (ridx_main_v30 (ix4 n h d Q) J)
      = if J.val < Q.val then weight (scores u b n h Q) Q.val J.val * values u n h J.val d else 0 := by
    intro J
    have el : lidx_main_v30 (ix4 n h d Q) J = ix4 n J h d := by
      funext a; match a with | ⟨0, _⟩ => rfl | ⟨1, _⟩ => rfl | ⟨2, _⟩ => rfl | ⟨3, _⟩ => rfl
    have er : ridx_main_v30 (ix4 n h d Q) J = ix4 n h Q J := by
      funext a; match a with | ⟨0, _⟩ => rfl | ⟨1, _⟩ => rfl | ⟨2, _⟩ => rfl | ⟨3, _⟩ => rfl
    rw [el, er, ref_value, ref_weight u b, values_val, mul_comm]
    split_ifs <;> simp
  simp only [hs]
  rw [Fin.sum_univ_eq_sum_range (fun J => if J < Q.val then weight (scores u b n h Q) Q.val J * values u n h J d else 0) 2048,
    ← Finset.sum_filter]
  refine Finset.sum_congr ?_ fun _ _ => rfl
  ext J
  simp only [Finset.mem_filter, Finset.mem_range, Finset.mem_Ico]
  omega

end Cert.Proof.Attn
-- ==== Proof.Claims.lean ====
module

public import proofs.«01_k».proof.Defs
public import proofs.«01_k».proof.Proof.Gen.Kernel
public import proofs.«01_k».proof.Proof.Gen.ReferenceIdeal.Run
public import proofs.«01_k».proof.Proof.Value
public import proofs.«01_k».proof.Proof.Reference
public import Idealize.ShloMosaic.Lib.Quiescent

@[expose] public section

set_option maxHeartbeats 1000000

noncomputable section

/-! The claims of the attention: its frames, and that kernel and reference give one array. -/

namespace Cert.Proof.Attn

open Idealize.ShloMosaic hiding ix1 ix2 ix3
open Idealize.ShloMosaic.TcCoe Idealize.ShloMosaic.ValueIdx Idealize.SL.Sem

/-! ## The frames -/

/-! The two programs have one text, so one run serves for both. -/

section

variable {F : FTy → Type} [FloatOps F]
attribute [local instance] Cert.Kernel.Gen.facts Cert.KernelIdeal.Gen.facts
set_option maxRecDepth 16384

theorem body_eq : @Cert.Kernel.cc0_attn F _ _ = @Cert.KernelIdeal.cc0_attn F _ _ := rfl

theorem calls_eq : Cert.Kernel.defs₀ (F := F) = Cert.KernelIdeal.defs₀ (F := F) := by
  unfold Cert.Kernel.defs₀ Cert.KernelIdeal.defs₀
  rw [body_eq]
  refine congrArg Defs.onTc (funext fun l => funext fun p => ?_)
  match l, p with
  | 0, (t, s) => rfl
  | ⟨_ + 1, h⟩, _ => exact absurd h (Nat.not_lt.2 (Nat.le_add_left _ _))

theorem defs_eq : Cert.Kernel.defs (F := F) = Cert.KernelIdeal.defs (F := F) := by
  unfold Cert.Kernel.defs Cert.KernelIdeal.defs
  rw [calls_eq]
  rfl

end

theorem frame_kernel : Cert.quiescent_Kernel (hKernel := Cert.Kernel.Gen.facts) := fun m ρ _ => by
  rw [defs_eq]
  exact (θ_run Cert.KernelIdeal.defs _ _).mono (fun _ h => h) (frame_all (F := Bits) m ρ)

theorem frame_ideal : Cert.quiescent_KernelIdeal (hKernelIdeal := Cert.KernelIdeal.Gen.facts) := fun m ρ _ => frame_all m ρ

theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) _⟩)
    (Cert.ReferenceIdeal.Value.run m ρ)

/-! ## The value -/

theorem reference_result (u : Arr) (b : Bias) :
    Cert.ReferenceIdeal.Read.val_main_v32 (F := Ideal) u b = result u b := by
  funext j
  obtain ⟨n, Q, C, rfl⟩ : ∃ (n : Fin 4) (Q : Fin 2048) (C : Fin 2048), j = ix3 n Q C := ⟨j 0, j 1, j 2, ValueIdx.eq_ix3 j⟩
  obtain ⟨h, d, rfl⟩ : ∃ (h : Fin 16) (d : Fin 128), C = ⟨128 * h.val + d.val, by omega⟩ :=
    ⟨⟨C.val / 128, by omega⟩, ⟨C.val % 128, by omega⟩, Fin.ext (by show C.val = 128 * (C.val / 128) + C.val % 128; omega)⟩
  rw [ref_apply u b, result_apply u b n Q h d _ rfl rfl rfl]

theorem equal : Cert.algebraic_KernelIdeal_ReferenceIdeal
    (hKernelIdeal := Cert.KernelIdeal.Gen.facts) (hReferenceIdeal := Cert.ReferenceIdeal.Gen.facts) := by
  intro m ρ m' ρ' _ hagree
  refine ⟨fun c => result (arr m c) (biases m c), ?_, ?_⟩
  · exact (θ_run Cert.KernelIdeal.defs _ _).mono
      (fun r h c => ⟨((h.2 c).1 4).trans (arr_out m c), h.1 c⟩) (θ_run_and (unchanged m ρ) (run_main m ρ))
  · refine (θ_run Cert.ReferenceIdeal.defs _ _).mono (fun r h c => ⟨((h c).1).trans ?_, (h c).2⟩)
      (Cert.ReferenceIdeal.Value.run m' ρ')
    obtain ⟨h0, h1⟩ := hagree c
    rw [Cert.ReferenceIdeal.Read.val_main_v32_eq, h0, h1]
    exact reference_result _ _

end Cert.Proof.Attn

end
-- ==== Proof.NormBody.lean ====
/-
  The norm-and-project kernel at one grid point: what its body leaves in the normalised scratch block and in the three
  output blocks, from the blocks it reads.
-/
module

public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import Idealize.ShloMosaic.Adequacy
public import Idealize.ShloMosaic.Init
public import Idealize.ShloMosaic.Lib.Pipeline.ValueKit
public import Idealize.ShloMosaic.Lib.VecWindow
public import Idealize.ShloMosaic.Lib.ValueIdx
public import Idealize.ShloMosaic.Lib.ValueLayout

@[expose] public section

set_option maxRecDepth 16384
set_option maxHeartbeats 4000000

noncomputable section

namespace Cert.Proof.Norm

open Cert.Kernel2Ideal Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's first condition, as it computes it: the grid point is its row's first. -/
def cond1 (i : grid0.Coords) : BitVec 1 :=
  Scalar.cmpi .ne (Scalar.extui (Scalar.cmpi .eq (BitVec.ofNat 32 (i 1).val) 0#32) : BitVec 32) 0#32

/-- The scratch block after the body: normalised anew at a row's first point, else as found. -/
def hOut (i : grid0.Coords) (x0 : Vec F S512x4096 .f32) (x1 : Vec F S1x4096 .f32) (x2 x3 : Vec F S1x1x4096 .f32)
    (h : Vec F S512x4096 .bf16) : Vec F S512x4096 .bf16 :=
  if cond1 i = 1#1 then k0_pay1 x0 x1 x2 x3 else h

/-- A whole block written at once reads back as what was written. -/
theorem read_one {sp : Space} {s : Shape} {e : EltTy} (v : View sig .tc sp s e) (f : BufTy.Contents (Elt F) v.ty)
    {off : Fin s.rank → Nat} (h0 : off = fun _ => 0) (hin) (p : s.Idx → Elt F e) :
    v.read (Elt F) (v.writes (Elt F) f [⟨Rect.unit (s := s) off s.size hin, p⟩]) = p := by
  subst h0
  exact View.read_writes_full v f hin p []

/-- A load of the scratch block after it is written whole reads what was written. -/
theorem load_scratch (v : View sig .tc .vmem S512x4096 .bf16) (hin hin') (p : S512x4096.Idx → Elt F .bf16) :
    v.readCov (Val := Elt F) [⟨Rect.unit (s := S512x4096) ![0, 0] S512x4096.size hin, p⟩]
      (Rect.unit (s := S512x4096) ![0, 0] S512x4096.size hin').toLoadRect = p :=
  View.readCov_full v hin' hin p []

theorem off2 : (![0, 0] : Fin 2 → Nat) = fun _ => 0 := by funext a; fin_cases a <;> rfl
theorem off3 : (![0, 0, 0] : Fin 3 → Nat) = fun _ => 0 := by funext a; fin_cases a <;> rfl
theorem off4 : (![0, 0, 0, 0] : Fin 4 → Nat) = fun _ => 0 := by funext a; fin_cases a <;> rfl

variable (c : Dev nD) (i : grid0.Coords)
  (arg2 : Memref sig .tc .vmem S512x4096 .f32) (harg2 : arg2.IsWhole) (arg3 : Memref sig .tc .vmem S1x4096 .f32) (harg3 : arg3.IsWhole) (arg4 : Memref sig .tc .vmem S1x1x4096 .f32) (harg4 : arg4.IsWhole) (arg5 : Memref sig .tc .vmem S1x1x4096 .f32) (harg5 : arg5.IsWhole) (arg6 : Memref sig .tc .vmem S4096x512 .bf16) (harg6 : arg6.IsWhole) (arg7 : Memref sig .tc .hbm S4x4x2048x2048 .f32) (harg7 : arg7.IsWhole) (arg8 : Memref sig .tc .hbm S4x4x2048x2048 .f32) (harg8 : arg8.IsWhole) (arg9 : Memref sig .tc .vmem S512x512 .f32) (harg9 : arg9.IsWhole) (arg10 : Memref sig .tc .vmem S1x1x512x512 .f32) (harg10 : arg10.IsWhole) (arg11 : Memref sig .tc .vmem S1x1x512x512 .f32) (harg11 : arg11.IsWhole) (arg12 : Memref sig .tc .vmem S512x4096 .bf16) (harg12 : arg12.IsWhole)

/-- The body at a point, from any contents of the scratch block and of the output blocks. -/
theorem run (E : Set ℕ) (x0 : Vec F S512x4096 .f32) (x1 : Vec F S1x4096 .f32) (x2 x3 : Vec F S1x1x4096 .f32)
    (w : Vec F S4096x512 .bf16) (h : Vec F S512x4096 .bf16) (y z : Vec F S1x1x512x512 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare w
        ∗ (∃ d, owns (c : Thread nD τ) arg9 fullShare d) ∗ owns (c : Thread nD τ) arg10 fullShare y ∗ owns (c : Thread nD τ) arg11 fullShare z
        ∗ owns (c : Thread nD τ) arg12 fullShare h
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare w
            ∗ owns (c : Thread nD τ) arg9 fullShare (k0_pay2 (hOut i x0 x1 x2 x3 h) w)
            ∗ owns (c : Thread nD τ) arg10 fullShare (if k0_cond2 i = 1#1 then k0_pay3 (hOut i x0 x1 x2 x3 h) w else y)
            ∗ owns (c : Thread nD τ) arg11 fullShare (if k0_cond3 i = 1#1 then k0_pay4 (hOut i x0 x1 x2 x3 h) w else z)
            ∗ owns (c : Thread nD τ) arg12 fullShare (hOut i x0 x1 x2 x3 h)) -∗ K ⟨⟩))
      ⊢ wp frame (wpE (defs₀ (F := F)) Variants.none c none) E (cc0_normproj i arg2 harg2 arg3 harg3 arg4 harg4 arg5 harg5 arg6 harg6 arg7 harg7 arg8 harg8 arg9 harg9 arg10 harg10 arg11 harg11 arg12 harg12) K := by
  simp only [cc0_normproj_eq_skeleton]; unfold cc0_normproj_skel
  unfold hOut
  unfold owns
  dsimp only
  by_cases h1 : cond1 i = 1#1 <;> by_cases h2 : k0_cond2 i = 1#1 <;> by_cases h3 : k0_cond3 i = 1#1
  all_goals
    have h1' := h1
    unfold cond1 at h1'
    simp only [h1, h1', h2, h3, ↓reduceDIte, ↓reduceIte]
    iintro ⟨⟨%f2, %hf2, H2⟩, ⟨%f3, %hf3, H3⟩, ⟨%f4, %hf4, H4⟩, ⟨%f5, %hf5, H5⟩, ⟨%f6, %hf6, H6⟩, ⟨%d9, %f9, -, H9⟩, ⟨%f10, %hf10, H10⟩, ⟨%f11, %hf11, H11⟩, ⟨%f12, %hf12, H12⟩, Hk⟩
    subst hf2 hf3 hf4 hf5 hf6 hf10 hf11 hf12
    sl_exec
    sl_step
    iapply Hk
    isplitl [H2]; · iexists _; isplitr; swap; iexact H2; ipureintro; rfl
    isplitl [H3]; · iexists _; isplitr; swap; iexact H3; ipureintro; rfl
    isplitl [H4]; · iexists _; isplitr; swap; iexact H4; ipureintro; rfl
    isplitl [H5]; · iexists _; isplitr; swap; iexact H5; ipureintro; rfl
    isplitl [H6]; · iexists _; isplitr; swap; iexact H6; ipureintro; rfl
    isplitl [H9]; · iexists _; isplitr; swap; iexact H9; ipureintro; first
      | rfl
      | (refine (read_one _ _ (by first | exact off2 | exact off4) _ _).trans ?_
         first | unfold run.sl.v3 | unfold run.sl.v3_1 | unfold run.sl.v3_2 | unfold run.sl.v3_3 | skip
         first | unfold run.sl.H12_1 | unfold run.sl.H12_1_1 | unfold run.sl.H12_1_2 | unfold run.sl.H12_1_3 | skip
         try rw [load_scratch]
         try simp only [View.readAt_eq_ld]
         repeat rw [View.ld_unit_lit _ _ (by decide)]
         try rfl)
    isplitl [H10]; · iexists _; isplitr; swap; iexact H10; ipureintro; first
      | rfl
      | (refine (read_one _ _ (by first | exact off2 | exact off4) _ _).trans ?_
         first | unfold run.sl.v3 | unfold run.sl.v3_1 | unfold run.sl.v3_2 | unfold run.sl.v3_3 | skip
         first | unfold run.sl.H12_1 | unfold run.sl.H12_1_1 | unfold run.sl.H12_1_2 | unfold run.sl.H12_1_3 | skip
         try rw [load_scratch]
         try simp only [View.readAt_eq_ld]
         repeat rw [View.ld_unit_lit _ _ (by decide)]
         try rfl)
    isplitl [H11]; · iexists _; isplitr; swap; iexact H11; ipureintro; first
      | rfl
      | (refine (read_one _ _ (by first | exact off2 | exact off4) _ _).trans ?_
         first | unfold run.sl.v3 | unfold run.sl.v3_1 | unfold run.sl.v3_2 | unfold run.sl.v3_3 | skip
         first | unfold run.sl.H12_1 | unfold run.sl.H12_1_1 | unfold run.sl.H12_1_2 | unfold run.sl.H12_1_3 | skip
         try rw [load_scratch]
         try simp only [View.readAt_eq_ld]
         repeat rw [View.ld_unit_lit _ _ (by decide)]
         try rfl)
    iexists _; isplitr; swap; iexact H12; ipureintro; first
      | rfl
      | (refine (read_one _ _ (by first | exact off2 | exact off4) _ _).trans ?_
         first | unfold run.sl.v3 | unfold run.sl.v3_1 | unfold run.sl.v3_2 | unfold run.sl.v3_3 | skip
         first | unfold run.sl.H12_1 | unfold run.sl.H12_1_1 | unfold run.sl.H12_1_2 | unfold run.sl.H12_1_3 | skip
         try rw [load_scratch]
         try simp only [View.readAt_eq_ld]
         repeat rw [View.ld_unit_lit _ _ (by decide)]
         try rfl)

end Cert.Proof.Norm

end
-- ==== Proof.NormLaunched.lean ====
/-
  The norm-and-project kernel launched: what each output block and the scratch block hold at every grid point, the
  body's obligation at a point, the run of @main and the frame.
-/
module

public import proofs.«01_k».proof.Proof.NormBody
public import Idealize.ShloMosaic.Lib.Pipeline.KitQuiescent
public import Idealize.ShloMosaic.Lib.Pipeline.TableIdle

@[expose] public section

set_option maxRecDepth 16384
set_option maxHeartbeats 4000000

noncomputable section

namespace Cert.Proof.Norm

open Cert.Kernel2Ideal Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first grid point of the row that position `n` is in. -/
def rowPt (n : ℕ) : Fin cfg0.N := ⟨(n - n % 18) % 288, by have h : cfg0.N = 288 := N_0; rw [h]; exact Nat.mod_lt _ (by decide)⟩

/-- The point whose product the block of keys holds at point `t`: the last that stored it. -/
def keyPt (t : Fin cfg0.N) : Fin cfg0.N := ⟨t.val - (t.val % 18 - 13), Nat.lt_of_le_of_lt (Nat.sub_le _ _) t.isLt⟩

/-- The normalised and modulated rows that the scratch block holds along a row of the grid. -/
def hAt (c : Dev nD) (n : ℕ) : Vec F S512x4096 .bf16 :=
  k0_pay1 (iblk m c 0 (rowPt n)) (iblk m c 1 (rowPt n)) (iblk m c 2 (rowPt n)) (iblk m c 3 (rowPt n))

theorem lt288 (t : Fin cfg0.N) : t.val < 288 := Nat.lt_of_lt_of_eq t.isLt N_0

theorem rowPt_first (t : Fin cfg0.N) (h : t.val % 18 = 0) : rowPt t.val = t := by
  have := lt288 t
  apply Fin.ext; unfold rowPt; dsimp only; omega

theorem rowPt_succ (n : ℕ) (h : (n + 1) % 18 ≠ 0) : rowPt (n + 1) = rowPt n := by
  apply Fin.ext; unfold rowPt; dsimp only; congr 1; omega

theorem hAt_succ (c : Dev nD) (n : ℕ) (h : (n + 1) % 18 ≠ 0) : hAt m c (n + 1) = hAt m c n := by
  unfold hAt; rw [rowPt_succ n h]

theorem keyPt_stored (t : Fin cfg0.N) (h : t.val % 18 < 14) : keyPt t = t := by
  apply Fin.ext; unfold keyPt; dsimp only; omega

/-! ## The conditions over the grid -/

theorem cond1_iff : ∀ t : Fin cfg0.N, cond1 (grid0.coords t) = 1#1 ↔ t.val % 18 = 0 := by decide +kernel
theorem cond2_iff : ∀ t : Fin cfg0.N, k0_cond2 (grid0.coords t) = 1#1 ↔ (10 ≤ t.val % 18 ∧ t.val % 18 < 14) := by decide +kernel
theorem cond3_iff : ∀ t : Fin cfg0.N, k0_cond3 (grid0.coords t) = 1#1 ↔ 14 ≤ t.val % 18 := by decide +kernel
theorem flush6_iff : ∀ t : Fin cfg0.N, (cfg0.win 6).flush t = true ↔ (10 ≤ t.val % 18 ∧ t.val % 18 < 13 ∨ t.val % 18 = 17) := by decide +kernel
theorem flush7_iff : ∀ t : Fin cfg0.N, (cfg0.win 7).flush t = true ↔ 14 ≤ t.val % 18 := by decide +kernel

theorem idle6_iff (t : Fin cfg0.N) : cfg0.idle 6 (cfg0.grid.coords t) = true ↔ ¬ (10 ≤ t.val % 18 ∧ t.val % 18 < 14) := by
  rw [← cond2_iff]; show (!(k0_cond2 (grid0.coords t) == 1#1)) = true ↔ _; simp
theorem idle7_iff (t : Fin cfg0.N) : cfg0.idle 7 (cfg0.grid.coords t) = true ↔ ¬ 14 ≤ t.val % 18 := by
  rw [← cond3_iff]; show (!(k0_cond3 (grid0.coords t) == 1#1)) = true ↔ _; simp

/-- The block of keys is fresh, nothing stored since its last write-back, up to a row's point 13. -/
theorem fresh6 (n : ℕ) (h : n ≤ cfg0.N) : cfg0.fresh 6 n = decide (n % 18 < 14) :=
  cfg0.fresh_tab 6 (fun n => decide (n % 18 < 14)) rfl (fun t => by
    have h1 := flush6_iff t
    have h2 := idle6_iff t
    rw [Bool.eq_iff_iff, Bool.or_eq_true, Bool.and_eq_true, h1, h2, decide_eq_true_iff, decide_eq_true_iff]
    omega) n h

/-! ## The proof data -/

/-- The proof data: each input's block left in place; the projection's block at the product of the row's normalised
    block and the point's columns; the blocks of keys and values at the product of the point that last stored them; the
    scratch block, past a row's first point, at the row's normalised block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => k0_pay2 (hAt m c t.val) (iblk m c 4 t)
    | ⟨6, _⟩ => k0_pay3 (hAt m c t.val) (iblk m c 4 (keyPt t))
    | ⟨7, _⟩ => k0_pay4 (hAt m c t.val) (iblk m c 4 t)
  Φ n := iprop((∃ X : Vec F S512x4096 .bf16, ⌜n.val % 18 ≠ 0 → X = hAt m c n.val⌝ ∗ owns (c : Thread nD τ) (Memref.whole cc0_scratch0) fullShare X) ∗ ∃ r, prngReg c r)
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = k0_pay2 (hAt m c t.val) (iblk m c 4 t) := by dsimp only [dats]
theorem after_6 (c : Dev nD) (t : Fin cfg0.N) : (dats m 0 c).after 6 t = k0_pay3 (hAt m c t.val) (iblk m c 4 (keyPt t)) := by dsimp only [dats]
theorem after_7 (c : Dev nD) (t : Fin cfg0.N) : (dats m 0 c).after 7 t = k0_pay4 (hAt m c t.val) (iblk m c 4 t) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d

/-- What the block of keys holds at a point that keeps it and writes it back: the product it was last stored with. -/
theorem before_6 (c : Dev nD) (t : Fin cfg0.N) (ht : t.val % 18 = 17) (d) : (dats m 0 c).before 6 t d = (dats m 0 c).after 6 t := by
  have hcarry : ∀ (t : Fin cfg0.N) (_ : t.val ≠ 0), cfg0.idle 6 (cfg0.grid.coords t) = true → cfg0.fresh 6 t.val = false →
      (dats m 0 c).after 6 t = (dats m 0 c).after 6 ⟨t.val - 1, by omega⟩ := by
    intro t h0 _ hf
    rw [fresh6 t.val t.isLt.le, decide_eq_false_iff_not] at hf
    have h1 : hAt m c t.val = hAt m c (t.val - 1) := by
      have := hAt_succ m c (t.val - 1) (by omega)
      rwa [Nat.sub_add_cancel (by omega)] at this
    have h2 : keyPt t = keyPt ⟨t.val - 1, by omega⟩ := by
      apply Fin.ext; unfold keyPt; dsimp only; omega
    rw [after_6, after_6, h1, h2]
  rw [(dats m 0 c).before_out_traj 6 rfl (fun _ _ => rfl) hcarry t.val t rfl d, fresh6 t.val t.isLt.le,
    if_neg (by rw [decide_eq_true_iff]; omega)]
  refine (hcarry t (by omega) ?_ ?_).symm
  · rw [idle6_iff]; omega
  · rw [fresh6 t.val t.isLt.le, decide_eq_false_iff_not]; omega

theorem leaves_6 (c : Dev nD) (t : Fin cfg0.N) (h : ¬ k0_cond2 (grid0.coords t) = 1#1) (d) :
    owns (c : Thread nD τ) (st0_6 t) fullShare ((dats m 0 c).before 6 t d) ⊢ ((dats m 0 c).leavesExact 6 t : sProp 𝕄) := by
  have hi : cfg0.idle 6 (cfg0.grid.coords t) = true := by rw [idle6_iff, ← cond2_iff]; exact h
  unfold Dat.leavesExact
  rw [hi]
  rw [cond2_iff] at h
  cases hf : (cfg0.win 6).flush t
  · iintro H; iexists d; iexact H
  · rw [flush6_iff] at hf
    rw [before_6 m c t (by omega) d]

theorem leaves_7 (c : Dev nD) (t : Fin cfg0.N) (h : ¬ k0_cond3 (grid0.coords t) = 1#1) (d) :
    owns (c : Thread nD τ) (st0_7 t) fullShare ((dats m 0 c).before 7 t d) ⊢ ((dats m 0 c).leavesExact 7 t : sProp 𝕄) := by
  have hi : cfg0.idle 7 (cfg0.grid.coords t) = true := by rw [idle7_iff, ← cond3_iff]; exact h
  unfold Dat.leavesExact
  rw [hi]
  rw [cond3_iff] at h
  cases hf : (cfg0.win 7).flush t
  · iintro H; iexists d; iexact H
  · rw [flush7_iff] at hf
    exact absurd hf h

theorem leaves_stored (c : Dev nD) (w : Fin cfg0.W) (t : Fin cfg0.N) (hi : cfg0.idle w (cfg0.grid.coords t) = false) :
    owns (c : Thread nD τ) ((cfg0.win w).stage (cfg0.slots t w)) fullShare ((dats m 0 c).after w t) ⊢ ((dats m 0 c).leavesExact w t : sProp 𝕄) := by
  unfold Dat.leavesExact
  rw [hi]

/-- The block of keys after the body, stored or kept, -/
theorem leaves_6' (c : Dev nD) (t : Fin cfg0.N) (d) :
    owns (c : Thread nD τ) (st0_6 t) fullShare (if k0_cond2 (grid0.coords t) = 1#1 then k0_pay3 (hAt m c t.val) (iblk m c 4 t) else (dats m 0 c).before 6 t d)
      ⊢ ((dats m 0 c).leavesExact 6 t : sProp 𝕄) := by
  by_cases h : k0_cond2 (grid0.coords t) = 1#1
  · have h' := (cond2_iff t).1 h
    rw [if_pos h]
    have e := leaves_stored m c 6 t (by rw [← Bool.not_eq_true, idle6_iff]; omega)
    rwa [after_6, keyPt_stored t h'.2] at e
  · rw [if_neg h]; exact leaves_6 m c t h d

/-- and the block of values. -/
theorem leaves_7' (c : Dev nD) (t : Fin cfg0.N) (d) :
    owns (c : Thread nD τ) (st0_7 t) fullShare (if k0_cond3 (grid0.coords t) = 1#1 then k0_pay4 (hAt m c t.val) (iblk m c 4 t) else (dats m 0 c).before 7 t d)
      ⊢ ((dats m 0 c).leavesExact 7 t : sProp 𝕄) := by
  by_cases h : k0_cond3 (grid0.coords t) = 1#1
  · have h' := (cond3_iff t).1 h
    rw [if_pos h]
    have e := leaves_stored m c 7 t (by rw [← Bool.not_eq_true, idle7_iff]; omega)
    rwa [after_7] at e
  · rw [if_neg h]; exact leaves_7 m c t h d

theorem Φ_eq (c : Dev nD) (n : Fin (cfg0.N + 1)) : (dats m 0 c).Φ n
    = iprop((∃ X : Vec F S512x4096 .bf16, ⌜n.val % 18 ≠ 0 → X = hAt m c n.val⌝ ∗ owns (c : Thread nD τ) (Memref.whole cc0_scratch0) fullShare X) ∗ ∃ r, prngReg c r) := rfl

/-- What the body is called with at a point, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ (dats m 0 c).leavesExact 6 t ∗ (dats m 0 c).leavesExact 7 t)

theorem hOut_eq (c : Dev nD) (t : Fin cfg0.N) (X : Vec F S512x4096 .bf16) (hX : t.val % 18 ≠ 0 → X = hAt m c t.val) :
    hOut (grid0.coords t) (iblk m c 0 t) (iblk m c 1 t) (iblk m c 2 t) (iblk m c 3 t) X = hAt m c t.val := by
  unfold hOut
  by_cases h : t.val % 18 = 0
  · rw [if_pos ((cond1_iff t).2 h)]; unfold hAt; rw [rowPt_first t h]
  · rw [if_neg (fun h' => h ((cond1_iff t).1 h')), hX h]

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).owesAt () t.succ = (dats m 0 c).owesAt () t.castSucc from rfl,
    after_0, after_1, after_2, after_3, after_4, after_5]
  rw [Φ_eq, Φ_eq]
  iintro ⟨⟨⟨%X, %hX, H12⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (run c (grid0.coords t) _ _ _ _ _ _ _ _ _ _ _ _ _ _ _ _ _ _ _ _ _ _ Set.univ (iblk m c 0 t) (iblk m c 1 t) (iblk m c 2 t) (iblk m c 3 t) (iblk m c 4 t) X
    ((dats m 0 c).before 6 t d6) ((dats m 0 c).before 7 t d7) _)
  rw [hOut_eq m c t X hX]
  isplitl [H0]; · iexact H0
  isplitl [H1]; · iexact H1
  isplitl [H2]; · iexact H2
  isplitl [H3]; · iexact H3
  isplitl [H4]; · iexact H4
  isplitl [H5]; · iexists _; iexact H5
  isplitl [H6]; · iexact H6
  isplitl [H7]; · iexact H7
  isplitl [H12]; · iexact H12
  iintro ⟨H0, H1, H2, H3, H4, H5, H6, H7, H12⟩
  isplitl [H12 Hr]
  · isplitl [H12]
    · iexists (hAt m c t.val)
      isplitr
      · ipureintro
        intro h
        exact (hAt_succ m c t.val h).symm
      · iexact H12
    · iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · iapply (leaves_6' m c t d6); iexact H6
  · iapply (leaves_7' m c t d7); iexact H7

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem start (c : Dev nD) : Pipeline.ΦA (Val := Elt F) (U := UR sig nD τ) spec0 c ⊢ (dats m 0 c).Φ 0 := by
  rw [Φ_eq]
  unfold Pipeline.ΦA
  rw [scopedRest0_eq]
  iintro ⟨⟨%f, H⟩, Hr⟩
  isplitl [H]
  · iexists f
    isplitr
    · ipureintro; intro h; exact absurd rfl h
    · rw [owns_whole]; iexact H
  · iexact Hr

theorem finish (c : Dev nD) : (dats m 0 c).Φ (Fin.last cfg0.N) ⊢ Pipeline.ΦA (Val := Elt F) (U := UR sig nD τ) spec0 c := by
  rw [Φ_eq]
  unfold Pipeline.ΦA
  rw [scopedRest0_eq]
  iintro ⟨⟨%X, %hX, H⟩, Hr⟩
  isplitl [H]
  · iexists X
    rw [← owns_whole]; iexact H
  · iexact Hr

set_option backward.isDefEq.respectTransparency.types false in
/-- The launch: every array at what the pipeline computes, every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := start m) (hout := finish m)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- The frame: the arguments unchanged, every counter at zero. -/
theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.Proof.Norm

end
-- ==== Proof.NormSpec.lean ====
module

public import Idealize.ShloMosaic.Lib.ValueIdx
public import Idealize.ShloMosaic.PureOps.Ideal.Laws

@[expose] public section

noncomputable section

namespace Cert.Proof.Norm

open Idealize.ShloMosaic Idealize.ShloMosaic.ValueIdx
open scoped BigOperators

/-! ## What both programs compute -/

/-- The layer's input, by batch element, position and feature. -/
abbrev Input : Type := (⟨3, ![4, 2048, 4096]⟩ : Shape).Idx → EReal
/-- The gains of the norm. -/
abbrev Gains : Type := (⟨1, ![4096]⟩ : Shape).Idx → EReal
/-- The modulation rows: six stretches of 4096 for each batch element, of which the first shifts and the second scales. -/
abbrev Mods : Type := (⟨2, ![4, 24576]⟩ : Shape).Idx → EReal
/-- The weights. -/
abbrev Weights : Type := (⟨2, ![4096, 9216]⟩ : Shape).Idx → EReal
/-- The keys, or the values, of the four layers. -/
abbrev Stack : Type := (⟨4, ![4, 4, 2048, 2048]⟩ : Shape).Idx → EReal

/-- The number of features, the term that keeps the root from zero, and one, as the programs spell them. -/
def width : EReal := Ideal.ofBits .f32 0x45800000#32
def tiny : EReal := Ideal.ofBits .f32 0x358637BD#32
def one : EReal := Ideal.ofBits .f32 0x3F800000#32

/-- The inverse root of the mean square of a row. -/
def invRms (x : Input) (b : Fin 4) (p : Fin 2048) : EReal :=
  Ideal.rsqrt (Ideal.div (∑ k : Fin 4096, x (ix3 b p k) * x (ix3 b p k)) width + tiny)

/-- The normalised row, scaled and shifted. -/
def normed (x : Input) (g : Gains) (s : Mods) (b : Fin 4) (p : Fin 2048) (d : Fin 4096) : EReal :=
  x (ix3 b p d) * invRms x b p * g (ix1 d) * (one + s (ix2 b ⟨4096 + d.val, by omega⟩)) + s (ix2 b ⟨d.val, by omega⟩)

/-- One entry of its product with the weights. -/
def entry (x : Input) (g : Gains) (s : Mods) (w : Weights) (b : Fin 4) (p : Fin 2048) (q : Fin 9216) : EReal :=
  ∑ k : Fin 4096, normed x g s b p k * w (ix2 k q)

/-- The whole product, the positions of all batch elements one below the other. -/
def product (x : Input) (g : Gains) (s : Mods) (w : Weights) : (⟨2, ![8192, 9216]⟩ : Shape).Idx → EReal :=
  fun j => entry x g s w ⟨(j 0).val / 2048, by have : (j 0).val < 8192 := (j 0).isLt; omega⟩
    ⟨(j 0).val % 2048, by omega⟩ (j 1)

/-- The three earlier layers as they were, and in the fourth the 2048 columns of the product that start at `o`. -/
def extended (o : ℕ) (ho : o ≤ 7168) (x : Input) (g : Gains) (s : Mods) (w : Weights) (old : Stack) : Stack :=
  fun j => if (j 1).val < 3 then old j
    else entry x g s w (j 0) (j 2) ⟨o + (j 3).val, by have : (j 3).val < 2048 := (j 3).isLt; omega⟩

theorem product_apply (x : Input) (g : Gains) (s : Mods) (w : Weights) (b : Fin 4) (p : Fin 2048) (q : Fin 9216) (j)
    (h0 : (j 0).val = 2048 * b.val + p.val) (h1 : (j 1).val = q.val) : product x g s w j = entry x g s w b p q := by
  unfold product
  rw [show j 1 = q from Fin.ext h1]
  refine congrArg₂ (fun b p => entry x g s w b p q) (Fin.ext ?_) (Fin.ext ?_)
  · show (j 0).val / 2048 = b.val; omega
  · show (j 0).val % 2048 = p.val; omega

theorem extended_new (o : ℕ) (ho : o ≤ 7168) (x : Input) (g : Gains) (s : Mods) (w : Weights) (old : Stack)
    (b : Fin 4) (p : Fin 2048) (q : Fin 9216) (j) (h0 : (j 0).val = b.val) (h1 : (j 1).val = 3) (h2 : (j 2).val = p.val)
    (h3 : o + (j 3).val = q.val) : extended o ho x g s w old j = entry x g s w b p q := by
  unfold extended
  rw [if_neg (by omega), show j 0 = b from Fin.ext h0, show j 2 = p from Fin.ext h2]
  exact congrArg _ (Fin.ext h3)

theorem extended_old (o : ℕ) (ho : o ≤ 7168) (x : Input) (g : Gains) (s : Mods) (w : Weights) (old : Stack) (j)
    (h : (j 1).val < 3) : extended o ho x g s w old j = old j := by
  unfold extended
  rw [if_pos h]

end Cert.Proof.Norm
-- ==== Proof.NormValue.lean ====
module

public import proofs.«01_k».proof.Proof.NormLaunched
public import proofs.«01_k».proof.Proof.NormSpec
public import Idealize.ShloMosaic.Lib.ValueLayoutCasts
public import Idealize.ShloMosaic.Lib.MatmulPlain
public import Idealize.ShloMosaic.Lib.IdealHost
public import Idealize.ShloMosaic.Lib.Pipeline.ValueKit
public import Idealize.ShloMosaic.Lib.Pipeline.ValueKit.Partial

@[expose] public section

set_option maxHeartbeats 1000000

noncomputable section

namespace Cert.Proof.Norm

open Cert.Kernel2Ideal Cert.Kernel2Ideal.Gen
open Idealize.ShloMosaic hiding ix1 ix2 ix3 ix4
open Idealize.ShloMosaic.TcCoe Idealize.ShloMosaic.ValueIdx Idealize.SL.Sem
open scoped BigOperators

variable (m : (ℓ : Loc nD τ sig) → Buf (Elt Ideal) ℓ)

/-! ## The arrays the call is given -/

abbrev input (c : Dev nD) : Input := m ((c.tc : Thread nD τ).loc main_arg0)
abbrev gains (c : Dev nD) : Gains := m ((c.tc : Thread nD τ).loc main_arg1)
abbrev mods (c : Dev nD) : Mods := m ((c.tc : Thread nD τ).loc main_arg2)
abbrev weights (c : Dev nD) : Weights := m ((c.tc : Thread nD τ).loc main_arg3)
abbrev oldKeys (c : Dev nD) : Stack := m ((c.tc : Thread nD τ).loc main_arg4)
abbrev oldValues (c : Dev nD) : Stack := m ((c.tc : Thread nD τ).loc main_arg5)

theorem V_0 (c : Dev nD) : V m c main_v0 = shapeCast S8192x4096 (m ((c : Thread nD τ).loc main_arg0)) shapeCasts_S4x2048x4096_S8192x4096 := by
  show StableHlo.after hostOps0 (fun b => m (c, b)) main_v0 = _
  after_results
  rfl
theorem V_1 (c : Dev nD) : V m c main_v1 = m ((c : Thread nD τ).loc main_arg3) := by
  show StableHlo.after hostOps0 (fun b => m (c, b)) main_v1 = _
  after_results
  rfl
theorem V_2 (c : Dev nD) : V m c main_v2 = shapeCast S4x1x24576 (m ((c : Thread nD τ).loc main_arg2)) shapeCasts_S4x24576_S4x1x24576 := by
  show StableHlo.after hostOps0 (fun b => m (c, b)) main_v2 = _
  after_results
  rfl
theorem V_3 (c : Dev nD) : V m c main_v3 = shapeCast S1x4096 (m ((c : Thread nD τ).loc main_arg1)) shapeCasts_S4096_S1x4096 := by
  show StableHlo.after hostOps0 (fun b => m (c, b)) main_v3 = _
  after_results
  rfl
theorem V_4 (c : Dev nD) : V m c main_v4_1 = m ((c : Thread nD τ).loc main_arg4) := by
  show StableHlo.after hostOps0 (fun b => m (c, b)) main_v4_1 = _
  after_results
  rfl
theorem V_5 (c : Dev nD) : V m c main_v4_2 = m ((c : Thread nD τ).loc main_arg5) := by
  show StableHlo.after hostOps0 (fun b => m (c, b)) main_v4_2 = _
  after_results
  rfl

theorem V_0_apply (c : Dev nD) (j) (b : Fin 4) (p : Fin 2048) (d : Fin 4096) (h0 : (j 0).val = 2048 * b.val + p.val) (h1 : (j 1).val = d.val) :
    V m c main_v0 j = input m c (ix3 b p d) := by
  rw [V_0]
  refine shapeCast_apply _ _ _ _ ?_
  refine (Shape.rowMajor_val_three (d := ![4, 2048, 4096]) _).trans (Eq.trans ?_ (Shape.rowMajor_val_two (d := ![8192, 4096]) _).symm)
  show (b.val * 2048 + p.val) * 4096 + d.val = (j 0).val * 4096 + (j 1).val
  omega
theorem V_2_apply (c : Dev nD) (j) (b : Fin 4) (d : Fin 24576) (h0 : (j 0).val = b.val) (h1 : (j 1).val = 0) (h2 : (j 2).val = d.val) :
    V m c main_v2 j = mods m c (ix2 b d) := by
  rw [V_2]
  refine shapeCast_apply _ _ _ _ ?_
  refine (Shape.rowMajor_val_two (d := ![4, 24576]) _).trans (Eq.trans ?_ (Shape.rowMajor_val_three (d := ![4, 1, 24576]) _).symm)
  show b.val * 24576 + d.val = ((j 0).val * 1 + (j 1).val) * 24576 + (j 2).val
  omega
theorem V_3_apply (c : Dev nD) (j) (d : Fin 4096) (h0 : (j 0).val = 0) (h1 : (j 1).val = d.val) :
    V m c main_v3 j = gains m c (ix1 d) := by
  rw [V_3]
  refine shapeCast_apply _ _ _ _ ?_
  refine (Shape.rowMajor_val_one (d := ![4096]) _).trans (Eq.trans ?_ (Shape.rowMajor_val_two (d := ![1, 4096]) _).symm)
  show d.val = (j 0).val * 4096 + (j 1).val
  omega

/-! ## The blocks of a grid point -/

theorem idx_0 : ∀ t : Fin cfg0.N, win0_0.index t 0 = t.val / 18 ∧ win0_0.index t 1 = 0 := by decide +kernel
theorem idx_1 : ∀ t : Fin cfg0.N, win0_1.index t 0 = 0 ∧ win0_1.index t 1 = 0 := by decide +kernel
theorem idx_2 : ∀ t : Fin cfg0.N, win0_2.index t 0 = t.val / 72 ∧ win0_2.index t 1 = 0 ∧ win0_2.index t 2 = 1 := by decide +kernel
theorem idx_3 : ∀ t : Fin cfg0.N, win0_3.index t 0 = t.val / 72 ∧ win0_3.index t 1 = 0 ∧ win0_3.index t 2 = 0 := by decide +kernel
theorem idx_4 : ∀ t : Fin cfg0.N, win0_4.index t 0 = 0 ∧ win0_4.index t 1 = t.val % 18 := by decide +kernel
theorem idx_5 : ∀ t : Fin cfg0.N, win0_5.index t 0 = t.val / 18 ∧ win0_5.index t 1 = t.val % 18 := by decide +kernel
theorem idx_6 : ∀ t : Fin cfg0.N, win0_6.index t 0 = t.val / 72 ∧ win0_6.index t 1 = 3 ∧ win0_6.index t 2 = t.val / 18 % 4
    ∧ (10 ≤ t.val % 18 → win0_6.index t 3 = min (t.val % 18 - 10) 3) := by decide +kernel
theorem idx_7 : ∀ t : Fin cfg0.N, win0_7.index t 0 = t.val / 72 ∧ win0_7.index t 1 = 3 ∧ win0_7.index t 2 = t.val / 18 % 4
    ∧ (14 ≤ t.val % 18 → win0_7.index t 3 = t.val % 18 - 14) := by decide +kernel

/-- The batch element of a grid point, and the position of a row of its block. -/
def bat (t : Fin cfg0.N) : Fin 4 := ⟨t.val / 72, by have := lt288 t; omega⟩
def pos (t : Fin cfg0.N) (r : Fin 512) : Fin 2048 := ⟨512 * (t.val / 18 % 4) + r.val, by omega⟩

theorem iblk_0 (c : Dev nD) (t : Fin cfg0.N) (r : Fin 512) (d : Fin 4096) :
    iblk m c 0 t (ix2 r d) = input m c (ix3 (bat t) (pos t r) d) := by
  unfold iblk
  rw [View.read_apply]
  obtain ⟨h0, h1⟩ := idx_0 t
  refine V_0_apply m c _ _ _ _ ?_ ?_
  · blk_simp; rw [h0]; show t.val / 18 * 512 + r.val = 2048 * (t.val / 72) + (512 * (t.val / 18 % 4) + r.val); omega
  · blk_simp; rw [h1]; show 0 * 4096 + d.val = d.val; omega
theorem iblk_1 (c : Dev nD) (t : Fin cfg0.N) (d : Fin 4096) : iblk m c 1 t (ix2 (0 : Fin 1) d) = gains m c (ix1 d) := by
  unfold iblk
  rw [View.read_apply]
  obtain ⟨h0, h1⟩ := idx_1 t
  refine V_3_apply m c _ _ ?_ ?_
  · blk_simp; rw [h0]
  · blk_simp; rw [h1]; show 0 * 4096 + d.val = d.val; omega
theorem iblk_2 (c : Dev nD) (t : Fin cfg0.N) (d : Fin 4096) :
    iblk m c 2 t (ix3 (0 : Fin 1) (0 : Fin 1) d) = mods m c (ix2 (bat t) ⟨4096 + d.val, by omega⟩) := by
  unfold iblk
  rw [View.read_apply]
  obtain ⟨h0, h1, h2⟩ := idx_2 t
  refine V_2_apply m c _ _ _ ?_ ?_ ?_
  · blk_simp; rw [h0]; rfl
  · blk_simp; rw [h1]
  · blk_simp; rw [h2]; show 1 * 4096 + d.val = 4096 + d.val; omega
theorem iblk_3 (c : Dev nD) (t : Fin cfg0.N) (d : Fin 4096) :
    iblk m c 3 t (ix3 (0 : Fin 1) (0 : Fin 1) d) = mods m c (ix2 (bat t) ⟨d.val, by omega⟩) := by
  unfold iblk
  rw [View.read_apply]
  obtain ⟨h0, h1, h2⟩ := idx_3 t
  refine V_2_apply m c _ _ _ ?_ ?_ ?_
  · blk_simp; rw [h0]; rfl
  · blk_simp; rw [h1]
  · blk_simp; rw [h2]; show 0 * 4096 + d.val = d.val; omega
theorem iblk_4 (c : Dev nD) (t : Fin cfg0.N) (k : Fin 4096) (q : Fin 512) :
    iblk m c 4 t (ix2 k q) = weights m c (ix2 k ⟨512 * (t.val % 18) + q.val, by omega⟩) := by
  unfold iblk
  rw [View.read_apply]
  obtain ⟨h0, h1⟩ := idx_4 t
  refine (congrFun (V_1 m c) _).trans (congrArg (m ((c.tc : Thread nD τ).loc main_arg3)) (funext fun a => Fin.ext ?_))
  match a with
  | ⟨0, _⟩ => blk_simp; rw [h0]; show 0 * 4096 + k.val = k.val; omega
  | ⟨1, _⟩ => blk_simp; rw [h1]; show t.val % 18 * 512 + q.val = 512 * (t.val % 18) + q.val; omega

/-! ## What a point stores, at an index -/

theorem rowSum_apply (y : FVec Ideal S512x4096 .f32) (r : Fin 512) :
    multiReduction .add [1] S512 y 0x00000000#32 reduces_S512x4096_S512 (.inl rfl) rfl (ix1 r) = ∑ k : Fin 4096, y (ix2 r k) := by
  refine (Ideal.multiReduction_add_single y _ _ _ _ (ix1 r)).trans ?_
  refine Finset.sum_congr rfl fun k _ => congrArg y (funext fun a => Fin.ext ?_)
  match a with
  | ⟨0, _⟩ => rfl
  | ⟨1, _⟩ => rfl

theorem col_apply (y : FVec Ideal S512x1 .f32) (r : Fin 512) (d : Fin 4096) :
    broadcastTo S512x4096 y broadcasts_S512x1_S512x4096 (ix2 r d) = y (ix2 r 0) :=
  broadcastTo_apply y _ _ _ fun a => by
    match a with
    | ⟨0, _⟩ => rfl
    | ⟨1, _⟩ => rfl

theorem row_apply (y : FVec Ideal S1x4096 .f32) (r : Fin 512) (d : Fin 4096) :
    broadcastTo S512x4096 y broadcasts_S1x4096_S512x4096 (ix2 r d) = y (ix2 0 d) :=
  broadcastTo_1b_ab_apply y _ r d

theorem pay1_apply (x : Vec Ideal S512x4096 .f32) (g : Vec Ideal S1x4096 .f32) (sc sh : Vec Ideal S1x1x4096 .f32) (r : Fin 512) (d : Fin 4096) :
    k0_pay1 (F := Ideal) x g sc sh (ix2 r d)
      = x (ix2 r d) * Ideal.rsqrt (Ideal.div (∑ k : Fin 4096, x (ix2 r k) * x (ix2 r k)) width + tiny) * g (ix2 0 d)
          * (one + sc (ix3 0 0 d)) + sh (ix3 0 0 d) := by
  unfold k0_pay1
  rw [shapeCast_self, shapeCast_self, shapeCast_self]
  show x (ix2 r d) * broadcastTo S512x4096 _ broadcasts_S512x1_S512x4096 (ix2 r d)
      * broadcastTo S512x4096 g broadcasts_S1x4096_S512x4096 (ix2 r d)
      * broadcastTo S512x4096 _ broadcasts_S1x4096_S512x4096 (ix2 r d)
      + broadcastTo S512x4096 _ broadcasts_S1x4096_S512x4096 (ix2 r d) = _
  rw [col_apply, row_apply, row_apply, row_apply]
  show x (ix2 r d) * Ideal.rsqrt (Ideal.div (shapeCast S512x1 _ shapeCasts_S512_S512x1 (ix2 r 0)) width + tiny) * g (ix2 0 d)
      * (one + shapeCast S1x4096 sc shapeCasts_S1x1x4096_S1x4096 (ix2 0 d)) + shapeCast S1x4096 sh shapeCasts_S1x1x4096_S1x4096 (ix2 0 d) = _
  rw [shapeCast_1ab_ab_apply sc, shapeCast_1ab_ab_apply sh, shapeCast_a_a1_apply, rowSum_apply]
  rfl

theorem pay2_apply (h : Vec Ideal S512x4096 .bf16) (w : Vec Ideal S4096x512 .bf16) (r q : Fin 512) :
    k0_pay2 (F := Ideal) h w (ix2 r q) = ∑ k : Fin 4096, h (ix2 r k) * w (ix2 k q) := by
  unfold k0_pay2
  rw [shapeCast_self]
  refine (Ideal.matmul_plain_apply (M := 512) (K := 4096) (N := 512) none h w _ r q).trans ?_
  rw [ValueIdx.constant_apply, Ideal.ofBits_zero_f32, zero_add]

theorem pay3_apply (h : Vec Ideal S512x4096 .bf16) (w : Vec Ideal S4096x512 .bf16) (r q : Fin 512) :
    k0_pay3 (F := Ideal) h w (ix4 0 0 r q) = ∑ k : Fin 4096, h (ix2 r k) * w (ix2 k q) := by
  rw [← pay2_apply]
  refine shapeCast_apply (k0_pay2 h w) shapeCasts_S512x512_S1x1x512x512 _ _ ?_
  rw [Shape.rowMajor_val_two, Shape.rowMajor_val_four]
  show r.val * 512 + q.val = ((0 * 1 + 0) * 512 + r.val) * 512 + q.val
  omega

theorem rowPt_div (t : Fin cfg0.N) : (rowPt t.val).val / 18 = t.val / 18 := by
  have := lt288 t
  show (t.val - t.val % 18) % 288 / 18 = t.val / 18
  omega

theorem hAt_apply (c : Dev nD) (t : Fin cfg0.N) (r : Fin 512) (d : Fin 4096) :
    hAt m c t.val (ix2 r d) = normed (input m c) (gains m c) (mods m c) (bat t) (pos t r) d := by
  have e := rowPt_div t
  have eb : bat (rowPt t.val) = bat t := Fin.ext (by show (rowPt t.val).val / 72 = t.val / 72; omega)
  have ep : pos (rowPt t.val) = pos t := funext fun r => Fin.ext (by
    show 512 * ((rowPt t.val).val / 18 % 4) + r.val = 512 * (t.val / 18 % 4) + r.val; rw [e])
  unfold hAt
  rw [pay1_apply, iblk_1, iblk_2, iblk_3, eb]
  simp only [iblk_0]
  rw [eb, ep]
  rfl

theorem stored (c : Dev nD) (t u : Fin cfg0.N) (r q : Fin 512) :
    (∑ k : Fin 4096, hAt m c t.val (ix2 r k) * iblk m c 4 u (ix2 k q))
      = entry (input m c) (gains m c) (mods m c) (weights m c) (bat t) (pos t r) ⟨512 * (u.val % 18) + q.val, by omega⟩ :=
  Finset.sum_congr rfl fun k _ => by rw [hAt_apply, iblk_4]

/-! ## The arrays the call leaves -/

theorem arr_product (c : Dev nD) :
    (dats m 0 c).arrAt 5 cfg0.N = product (input m c) (gains m c) (mods m c) (weights m c) := by
  refine (dats m 0 c).arrAt_eq_of_covers 5 (product (input m c) (gains m c) (mods m c) (weights m c)) (by decide +kernel) fun t hf y => ?_
  blk_simp
  rw [after_5]
  obtain ⟨r, q, rfl⟩ : ∃ (r q : Fin 512), y = ix2 r q := ⟨y 0, y 1, ValueIdx.eq_ix2 y⟩
  obtain ⟨h0, h1⟩ := idx_5 t
  rw [pay2_apply, stored]
  refine (product_apply _ _ _ _ _ _ _ _ ?_ ?_).symm
  · blk_simp; rw [h0]; show t.val / 18 * 512 + r.val = 2048 * (t.val / 72) + (512 * (t.val / 18 % 4) + r.val); omega
  · blk_simp; rw [h1]; show t.val % 18 * 512 + q.val = 512 * (t.val % 18) + q.val; omega

theorem arr_keys (c : Dev nD) :
    (dats m 0 c).arrAt 6 cfg0.N = extended 5120 (by omega) (input m c) (gains m c) (mods m c) (weights m c) (oldKeys m c) := by
  refine (dats m 0 c).arrAt_eq_of_coversWhere_of_agree 6
    (extended 5120 (by omega) (input m c) (gains m c) (mods m c) (weights m c) (oldKeys m c)) (fun β => β (1 : Fin 4) = 3)
    (by decide +kernel) (fun t hf y => ?_) (fun j hj => ?_)
  · blk_simp
    rw [after_6]
    have hf' := (flush6_iff t).1 hf
    obtain ⟨r, q, rfl⟩ : ∃ (r q : Fin 512), y = ix4 (0 : Fin 1) (0 : Fin 1) r q :=
      ⟨y 2, y 3, (ValueIdx.eq_ix4 y).trans (congrArg₂ (fun a b => ix4 a b (y 2) (y 3)) (Subsingleton.elim (α := Fin 1) _ _) (Subsingleton.elim (α := Fin 1) _ _))⟩
    obtain ⟨h0, h1, h2, h3⟩ := idx_6 t
    rw [pay3_apply, stored]
    refine (extended_new _ _ _ _ _ _ _ _ _ _ _ ?_ ?_ ?_ ?_).symm
    · blk_simp; rw [h0]; rfl
    · blk_simp; rw [h1]
    · blk_simp; rw [h2]; show t.val / 18 % 4 * 512 + r.val = 512 * (t.val / 18 % 4) + r.val; omega
    · blk_simp; rw [h3 (by omega)]
      show 5120 + (min (t.val % 18 - 10) 3 * 512 + q.val) = 512 * ((t.val - (t.val % 18 - 13)) % 18) + q.val
      omega
  · refine (congrFun (V_4 m c) _).trans (extended_old _ _ _ _ _ _ _ _ ?_).symm
    blk_simp [Pipeline.Window.cell_apply] at hj
    blk_simp
    have : (j 1).val < 4 := (j 1).isLt
    omega

theorem arr_values (c : Dev nD) :
    (dats m 0 c).arrAt 7 cfg0.N = extended 7168 (by omega) (input m c) (gains m c) (mods m c) (weights m c) (oldValues m c) := by
  refine (dats m 0 c).arrAt_eq_of_coversWhere_of_agree 7
    (extended 7168 (by omega) (input m c) (gains m c) (mods m c) (weights m c) (oldValues m c)) (fun β => β (1 : Fin 4) = 3)
    (by decide +kernel) (fun t hf y => ?_) (fun j hj => ?_)
  · blk_simp
    rw [after_7]
    have hf' := (flush7_iff t).1 hf
    obtain ⟨r, q, rfl⟩ : ∃ (r q : Fin 512), y = ix4 (0 : Fin 1) (0 : Fin 1) r q :=
      ⟨y 2, y 3, (ValueIdx.eq_ix4 y).trans (congrArg₂ (fun a b => ix4 a b (y 2) (y 3)) (Subsingleton.elim (α := Fin 1) _ _) (Subsingleton.elim (α := Fin 1) _ _))⟩
    obtain ⟨h0, h1, h2, h3⟩ := idx_7 t
    refine Eq.trans ((pay3_apply _ _ r q).trans (stored m c t t r q)) ?_
    refine (extended_new _ _ _ _ _ _ _ _ _ _ _ ?_ ?_ ?_ ?_).symm
    · blk_simp; rw [h0]; rfl
    · blk_simp; rw [h1]
    · blk_simp; rw [h2]; show t.val / 18 % 4 * 512 + r.val = 512 * (t.val / 18 % 4) + r.val; omega
    · blk_simp; rw [h3 hf']
      show 7168 + ((t.val % 18 - 14) * 512 + q.val) = 512 * (t.val % 18) + q.val
      omega
  · refine (congrFun (V_5 m c) _).trans (extended_old _ _ _ _ _ _ _ _ ?_).symm
    blk_simp [Pipeline.Window.cell_apply] at hj
    blk_simp
    have : (j 1).val < 4 := (j 1).isLt
    omega

end Cert.Proof.Norm
-- ==== Proof.NormReference.lean ====
module

public import proofs.«01_k».proof.Proof.NormSpec
public import proofs.«01_k».proof.Proof.Gen.Reference2Ideal.Read

@[expose] public section

noncomputable section

namespace Cert.Proof.Norm

open Cert.Reference2Ideal Cert.Reference2Ideal.Gen Cert.Reference2Ideal.Read
open Idealize.ShloMosaic Idealize.ShloMosaic.ValueIdx
open scoped BigOperators

variable (x : (⟨S4x2048x4096, .f32⟩ : BufTy).Contents (Elt Ideal)) (g : (⟨S4096, .f32⟩ : BufTy).Contents (Elt Ideal))
  (s : (⟨S4x24576, .f32⟩ : BufTy).Contents (Elt Ideal)) (w : (⟨S4096x9216, .f32⟩ : BufTy).Contents (Elt Ideal))
  (old : (⟨S4x4x2048x2048, .f32⟩ : BufTy).Contents (Elt Ideal))

/-! ## The reference's stages at an index -/

theorem ref_invRms (b : Fin 4) (p : Fin 2048) : val_main_v14 (F := Ideal) x (ix3 b p 0) = invRms x b p := by
  rw [val_main_v14_apply, val_main_v13_apply, val_main_v11_apply, val_main_v9_apply, val_main_v8_apply, val_main_v10_apply,
    val_main_v12_apply, val_main_cst_apply, val_main_cst_0_apply, val_main_cst_1_apply]
  show Ideal.rsqrt (Ideal.div (Ideal.ofBits .f32 0x00000000#32 + ∑ k : Fin 4096, _) (Ideal.ofBits .f32 _) + Ideal.ofBits .f32 _) = _
  rw [Ideal.ofBits_zero_f32, zero_add]
  unfold invRms width tiny
  refine congrArg (fun z => Ideal.rsqrt (Ideal.div z _ + _)) (Finset.sum_congr rfl fun k _ => ?_)
  rw [val_main_v7_apply]
  have e : idx_main_v8 (idx_main_v9 (ix3 b p 0)) k = ix3 b p k :=
    funext fun a => match a with | ⟨0, _⟩ => rfl | ⟨1, _⟩ => rfl | ⟨2, _⟩ => rfl
  rw [e]
  rfl

theorem ref_normed (b : Fin 4) (p : Fin 2048) (d : Fin 4096) :
    val_main_v25 (F := Ideal) x g s (ix3 b p d) = normed x g s b p d := by
  rw [val_main_v25_apply, val_main_v23_apply, val_main_v19_apply, val_main_v16_apply, val_main_v15_apply, val_main_v18_apply,
    val_main_v17_apply, val_main_v22_apply, val_main_v21_apply, val_main_v20_apply, val_main_cst_2_apply, val_main_v2_apply,
    val_main_v24_apply, val_main_v1_apply, val_main_v0_apply, val_main_v0_apply]
  have e1 : idx_main_v15 (ix3 b p d) = ix3 b p 0 := funext fun a => match a with | ⟨0, _⟩ => rfl | ⟨1, _⟩ => rfl | ⟨2, _⟩ => rfl
  have e2 : idx_main_v17 (idx_main_v18 (ix3 b p d)) = ix1 d := funext fun a => match a with | ⟨0, _⟩ => rfl
  have e3 : idx_main_v0 (idx_main_v2 (idx_main_v22 (ix3 b p d))) = ix2 b ⟨4096 + d.val, by omega⟩ :=
    funext fun a => match a with | ⟨0, _⟩ => rfl | ⟨1, _⟩ => rfl
  have e4 : idx_main_v0 (idx_main_v1 (idx_main_v24 (ix3 b p d))) = ix2 b ⟨d.val, by omega⟩ :=
    funext fun a => match a with | ⟨0, _⟩ => rfl | ⟨1, _⟩ => rfl
  rw [e1, e2, e3, e4, ref_invRms]
  rfl

theorem ref_entry (b : Fin 4) (p : Fin 2048) (q : Fin 9216) :
    val_main_v26 (F := Ideal) x g s w (ix3 b p q) = entry x g s w b p q := by
  rw [val_main_v26_apply]
  refine Finset.sum_congr rfl fun k _ => ?_
  have e1 : lidx_main_v26 (ix3 b p q) k = ix3 b p k := funext fun a => match a with | ⟨0, _⟩ => rfl | ⟨1, _⟩ => rfl | ⟨2, _⟩ => rfl
  have e2 : ridx_main_v26 (ix3 b p q) k = ix2 k q := funext fun a => match a with | ⟨0, _⟩ => rfl | ⟨1, _⟩ => rfl
  rw [e1, e2, ref_normed]

theorem ref_entry_of (i : S4x2048x9216.Idx) (b : Fin 4) (p : Fin 2048) (q : Fin 9216) (h0 : (i 0).val = b.val)
    (h1 : (i 1).val = p.val) (h2 : (i 2).val = q.val) : val_main_v26 (F := Ideal) x g s w i = entry x g s w b p q := by
  rw [← ref_entry x g s w]
  refine congrArg _ (funext fun a => Fin.ext ?_)
  match a with
  | ⟨0, _⟩ => exact h0
  | ⟨1, _⟩ => exact h1
  | ⟨2, _⟩ => exact h2

/-! ## The three results -/

theorem ref_product : val_main_v32 (F := Ideal) x g s w = product x g s w := by
  funext i
  rw [val_main_v32_apply]
  have h0 : (i 0).val < 8192 := (i 0).isLt
  have h1 : (i 1).val < 9216 := (i 1).isLt
  refine ref_entry_of x g s w _ _ _ _ ?_ ?_ ?_
  all_goals (simp only [idx_main_v32]; omega)

theorem ref_keys : val_main_v35 (F := Ideal) x g s w old = extended 5120 (by omega) x g s w old := by
  funext i
  unfold val_main_v35
  have h1 : (i 1).val < 4 := (i 1).isLt
  by_cases h : (i 1).val < 3
  · rw [extended_old _ _ _ _ _ _ _ _ h]
    refine (concatenate_pair_apply_left (s₁ := S4x3x2048x2048) (s₂ := S4x1x2048x2048) (1 : Fin 4) _ _ _ i rfl (ix4 (n1 := 3) (i 0) ⟨(i 1).val, h⟩ (i 2) (i 3)) fun b => ?_).trans ?_
    · match b with
      | ⟨0, _⟩ => rfl
      | ⟨1, _⟩ => rfl
      | ⟨2, _⟩ => rfl
      | ⟨3, _⟩ => rfl
    · rw [val_main_v33_apply]
      exact congrArg old (funext fun a => match a with | ⟨0, _⟩ => rfl | ⟨1, _⟩ => rfl | ⟨2, _⟩ => rfl | ⟨3, _⟩ => rfl)
  · refine (concatenate_pair_apply_right (s₁ := S4x3x2048x2048) (s₂ := S4x1x2048x2048) (1 : Fin 4) _ _ _ i rfl rfl (ix4 (n1 := 1) (i 0) (0 : Fin 1) (i 2) (i 3)) (fun b hb => ?_) ?_).trans ?_
    · match b with
      | ⟨0, _⟩ => rfl
      | ⟨1, _⟩ => exact absurd rfl hb
      | ⟨2, _⟩ => rfl
      | ⟨3, _⟩ => rfl
    · show 0 + 3 = (i 1).val; omega
    · rw [val_main_v34_apply, val_main_v30_apply,
        extended_new 5120 (by omega) x g s w old (i 0) (i 2) ⟨5120 + (i 3).val, by have : (i 3).val < 2048 := (i 3).isLt; omega⟩ i
          rfl (by omega) rfl rfl]
      exact ref_entry_of x g s w _ _ _ _ rfl rfl rfl

theorem ref_values : val_main_v38 (F := Ideal) x g s w old = extended 7168 (by omega) x g s w old := by
  funext i
  unfold val_main_v38
  have h1 : (i 1).val < 4 := (i 1).isLt
  by_cases h : (i 1).val < 3
  · rw [extended_old _ _ _ _ _ _ _ _ h]
    refine (concatenate_pair_apply_left (s₁ := S4x3x2048x2048) (s₂ := S4x1x2048x2048) (1 : Fin 4) _ _ _ i rfl (ix4 (n1 := 3) (i 0) ⟨(i 1).val, h⟩ (i 2) (i 3)) fun b => ?_).trans ?_
    · match b with
      | ⟨0, _⟩ => rfl
      | ⟨1, _⟩ => rfl
      | ⟨2, _⟩ => rfl
      | ⟨3, _⟩ => rfl
    · rw [val_main_v36_apply]
      exact congrArg old (funext fun a => match a with | ⟨0, _⟩ => rfl | ⟨1, _⟩ => rfl | ⟨2, _⟩ => rfl | ⟨3, _⟩ => rfl)
  · refine (concatenate_pair_apply_right (s₁ := S4x3x2048x2048) (s₂ := S4x1x2048x2048) (1 : Fin 4) _ _ _ i rfl rfl (ix4 (n1 := 1) (i 0) (0 : Fin 1) (i 2) (i 3)) (fun b hb => ?_) ?_).trans ?_
    · match b with
      | ⟨0, _⟩ => rfl
      | ⟨1, _⟩ => exact absurd rfl hb
      | ⟨2, _⟩ => rfl
      | ⟨3, _⟩ => rfl
    · show 0 + 3 = (i 1).val; omega
    · rw [val_main_v37_apply, val_main_v31_apply,
        extended_new 7168 (by omega) x g s w old (i 0) (i 2) ⟨7168 + (i 3).val, by have : (i 3).val < 2048 := (i 3).isLt; omega⟩ i
          rfl (by omega) rfl rfl]
      exact ref_entry_of x g s w _ _ _ _ rfl rfl rfl

end Cert.Proof.Norm
-- ==== Proof.NormClaims.lean ====
module

public import proofs.«01_k».proof.Defs
public import proofs.«01_k».proof.Proof.Gen.Kernel2
public import proofs.«01_k».proof.Proof.Gen.Reference2Ideal.Run
public import proofs.«01_k».proof.Proof.NormValue
public import proofs.«01_k».proof.Proof.NormReference
public import Idealize.ShloMosaic.Lib.Quiescent

@[expose] public section

set_option maxHeartbeats 1000000

noncomputable section

/-! The claims of the input projection: its frames, and that kernel and reference give the same three arrays. -/

namespace Cert.Proof.Norm

open Idealize.ShloMosaic hiding ix1 ix2 ix3 ix4
open Idealize.ShloMosaic.TcCoe Idealize.ShloMosaic.ValueIdx Idealize.SL.Sem

/-! ## The frames -/

/-! The two programs have one text, so one run serves for both. -/

section

variable {F : FTy → Type} [FloatOps F]
attribute [local instance] Cert.Kernel2.Gen.facts Cert.Kernel2Ideal.Gen.facts
set_option maxRecDepth 16384

theorem body_eq : @Cert.Kernel2.cc0_normproj F _ _ = @Cert.Kernel2Ideal.cc0_normproj F _ _ := rfl

theorem calls_eq : Cert.Kernel2.defs₀ (F := F) = Cert.Kernel2Ideal.defs₀ (F := F) := by
  unfold Cert.Kernel2.defs₀ Cert.Kernel2Ideal.defs₀
  rw [body_eq]
  refine congrArg Defs.onTc (funext fun l => funext fun p => ?_)
  match l, p with
  | 0, (t, s) => rfl
  | ⟨_ + 1, h⟩, _ => exact absurd h (Nat.not_lt.2 (Nat.le_add_left _ _))

theorem defs_eq : Cert.Kernel2.defs (F := F) = Cert.Kernel2Ideal.defs (F := F) := by
  unfold Cert.Kernel2.defs Cert.Kernel2Ideal.defs
  rw [calls_eq]
  rfl

end

theorem frame_kernel : Cert.quiescent_Kernel2 (hKernel2 := Cert.Kernel2.Gen.facts) := fun m ρ _ => by
  rw [defs_eq]
  exact (θ_run Cert.Kernel2Ideal.defs _ _).mono (fun _ h => h) (frame_all (F := Bits) m ρ)

theorem frame_ideal : Cert.quiescent_Kernel2Ideal (hKernel2Ideal := Cert.Kernel2Ideal.Gen.facts) := fun m ρ _ => frame_all m ρ

theorem frame_reference : Cert.quiescent_Reference2Ideal (hReference2Ideal := Cert.Reference2Ideal.Gen.facts) := fun m ρ _ =>
  (θ_run Cert.Reference2Ideal.defs _ _).mono (fun r h => ⟨fun c => (h c).2.2.2, sem_eq_zero_of_no_sems (by decide) _⟩)
    (Cert.Reference2Ideal.Value.run m ρ)

/-! ## The value -/

theorem equal : Cert.algebraic_Kernel2Ideal_Reference2Ideal
    (hKernel2Ideal := Cert.Kernel2Ideal.Gen.facts) (hReference2Ideal := Cert.Reference2Ideal.Gen.facts) := by
  intro m ρ m' ρ' _ hagree
  refine ⟨fun c => product (input m c) (gains m c) (mods m c) (weights m c),
    fun c => extended 5120 (by omega) (input m c) (gains m c) (mods m c) (weights m c) (oldKeys m c),
    fun c => extended 7168 (by omega) (input m c) (gains m c) (mods m c) (weights m c) (oldValues m c), ?_, ?_⟩
  · exact (θ_run Cert.Kernel2Ideal.defs _ _).mono
      (fun r h c => ⟨((h.2 c).1 5).trans (arr_product m c), ((h.2 c).1 6).trans (arr_keys m c),
        ((h.2 c).1 7).trans (arr_values m c), h.1 c⟩) (θ_run_and (unchanged m ρ) (run_main m ρ))
  · refine (θ_run Cert.Reference2Ideal.defs _ _).mono
      (fun r h c => ⟨((h c).1).trans ?_, ((h c).2.1).trans ?_, ((h c).2.2.1).trans ?_, (h c).2.2.2⟩)
      (Cert.Reference2Ideal.Value.run m' ρ')
    all_goals obtain ⟨h0, h1, h2, h3, h4, h5⟩ := hagree c
    · rw [Cert.Reference2Ideal.Read.val_main_v32_eq, h0, h1, h2, h3]
      exact ref_product _ _ _ _
    · rw [Cert.Reference2Ideal.Read.val_main_v35_eq, h0, h1, h2, h3, h4]
      exact ref_keys _ _ _ _ _
    · rw [Cert.Reference2Ideal.Read.val_main_v38_eq, h0, h1, h2, h3, h5]
      exact ref_values _ _ _ _ _

end Cert.Proof.Norm

end
-- ==== Proof.OutBody.lean ====
/-
  The output projection's kernel at one grid point: what its body leaves in the block of merged rows that the points of
  a row share, and in the point's output block.
-/
module

public import proofs.«01_k».proof.Proof.Gen.Kernel3Ideal.Value
public import Idealize.ShloMosaic.Lib.Pipeline.ValueKit

@[expose] public section

noncomputable section

namespace Cert.Proof.Out

open Cert.Kernel3Ideal Cert.Kernel3Ideal.Gen
open Idealize.ShloMosaic Idealize.ShloMosaic.TcCoe Idealize.SL.Sem

variable {F : FTy → Type} [FloatOps F]
variable (m : (ℓ : Loc nD τ sig) → Buf (Elt F) ℓ)

/-- The merged rows: three blocks side by side, the last normalised by its own part of the gains. -/
def blk (x0 x1 : Vec F S512x1024 .f32) (x2 : Vec F S512x2048 .f32) (x3 : Vec F S1x4096 .f32) : Vec F S512x4096 .bf16 :=
  View.canon [⟨Rect.unit (s := S512x4096) ![0, 2048] S512x2048.size inb_S512x4096_S512x2048_0_2048,
      k0_pay3 x2 (View.ld x3 (Rect.unit (s := S1x4096) ![0, 2048] S1x2048.size inb_S1x4096_S1x2048_0_2048))⟩,
    ⟨Rect.unit (s := S512x4096) ![0, 1024] S512x1024.size inb_S512x4096_S512x1024_0_1024, k0_pay2 x1⟩,
    ⟨Rect.unit (s := S512x4096) ![0, 0] S512x1024.size inb_S512x4096_S512x1024_0_0, k0_pay1 x0⟩]

/-- A load of the whole block of merged rows reads it as the stores left it. -/
theorem load_blk (v : View sig .tc .vmem S512x4096 .bf16) (L : List (View.Piece (Elt F) S512x4096 .bf16)) (hin) :
    v.readCov L (Rect.unit (s := S512x4096) ![0, 0] S512x4096.size hin).toLoadRect = View.canon L := by
  rw [View.readCov_eq_canon']
  funext y
  refine congrArg _ (funext fun a => Fin.ext ?_)
  match a with
  | ⟨0, _⟩ => show 0 + 1 * (y 0).val = (y 0).val; omega
  | ⟨1, _⟩ => show 0 + 1 * (y 1).val = (y 1).val; omega

/-- At a row's first point the rows are merged and used, -/
theorem point_first (c : Dev nD) (t : Fin cfg0.N) (h0 : t.val % 8 = 0) :
    outsAt0 m c t.val t.isLt = (k0_pay4 (iblk m c 5 t) (iblk m c 6 t) (blk (iblk m c 0 t) (iblk m c 1 t) (iblk m c 2 t) (iblk m c 3 t)) (iblk m c 4 t),
      blk (iblk m c 0 t) (iblk m c 1 t) (iblk m c 2 t) (iblk m c 3 t)) := by
  rw [outsAt0_A m c t h0]
  unfold out0_A_7 sout0_A_0
  rw [View.read_writes_junk_eq_canon, View.read_writes_junk_eq_canon]
  unfold kernelRun0_A
  dsimp only
  unfold kernelRun0_A.sl.v7
  unfold kernelRun0_A.sl.HS0_3
  rw [load_blk, View.canon_cons_unit_lit _ _ _ (by decide)]
  simp only [View.readAt_eq_ld, Memref.IsWhole.read_unread]
  repeat rw [View.ld_unit_lit _ _ (by decide)]
  rfl

/-- and at a row's other points they are used as found. -/
theorem point_later (c : Dev nD) (t : Fin cfg0.N) (h0 : ¬ t.val % 8 = 0) (Y : Vec F S512x4096 .bf16)
    (hY : ∀ h, (outsAt0 m c (t.val - 1) h).2 = Y) :
    outsAt0 m c t.val t.isLt = (k0_pay4 (iblk m c 5 t) (iblk m c 6 t) Y (iblk m c 4 t), Y) := by
  rw [outsAt0_B m c t h0]
  unfold out0_B_7 sout0_B_0
  rw [View.read_writes_junk_eq_canon]
  unfold kernelRun0_B
  dsimp only
  rw [View.canon_cons_unit_lit _ _ _ (by decide)]
  simp only [View.readAt_eq_ld, Memref.IsWhole.read_unread]
  rw [hY]
  repeat rw [View.ld_unit_lit _ _ (by decide)]
  exact congrArg (fun Z => (k0_pay4 (iblk m c 5 t) (iblk m c 6 t) Z (iblk m c 4 t), Y)) ((Memref.isWhole_whole cc0_scratch0).read_unread Y)

end Cert.Proof.Out
-- ==== Proof.OutReference.lean ====
/-
  The output projection: what kernel and reference compute, and that the reference computes it.
-/
module

public import Idealize.ShloMosaic.Lib.ValueIdx
public import Idealize.ShloMosaic.PureOps.Ideal.Laws
public import proofs.«01_k».proof.Proof.Gen.Reference3Ideal.Read

@[expose] public section

noncomputable section

namespace Cert.Proof.Out

open Cert.Reference3Ideal Cert.Reference3Ideal.Gen Cert.Reference3Ideal.Read
open Idealize.ShloMosaic Idealize.ShloMosaic.ValueIdx
open scoped BigOperators

/-! ## What both programs compute -/

/-- The results of the pool and of the convolution, each normalised already. -/
abbrev Narrow : Type := (⟨3, ![4, 2048, 1024]⟩ : Shape).Idx → EReal
/-- The result of the attention. -/
abbrev Wide : Type := (⟨3, ![4, 2048, 2048]⟩ : Shape).Idx → EReal
/-- The gains of the three results' norms, one after the other. -/
abbrev Gains : Type := (⟨1, ![4096]⟩ : Shape).Idx → EReal
/-- The modulation rows: six stretches of 4096 for each batch element, of which the third is this projection's gate. -/
abbrev Mods : Type := (⟨2, ![4, 24576]⟩ : Shape).Idx → EReal
/-- The weights. -/
abbrev Weights : Type := (⟨2, ![4096, 4096]⟩ : Shape).Idx → EReal
/-- The layer's input. -/
abbrev Input : Type := (⟨3, ![4, 2048, 4096]⟩ : Shape).Idx → EReal

/-- The number of the attention's features, and the term that keeps the root from zero, as the programs spell them. -/
def width : EReal := Ideal.ofBits .f32 0x45000000#32
def tiny : EReal := Ideal.ofBits .f32 0x358637BD#32

/-- The inverse root of the mean square of a row of the attention's result. -/
def invRms (u : Wide) (b : Fin 4) (p : Fin 2048) : EReal :=
  Ideal.rsqrt (Ideal.div (∑ k : Fin 2048, u (ix3 b p k) * u (ix3 b p k)) width + tiny)

/-- The three results side by side: the pool's, the convolution's, and the attention's, normalised. -/
def merged (y z : Narrow) (u : Wide) (g : Gains) (b : Fin 4) (p : Fin 2048) (d : Fin 4096) : EReal :=
  if h0 : d.val < 1024 then y (ix3 b p ⟨d.val, h0⟩)
  else if h1 : d.val < 2048 then z (ix3 b p ⟨d.val - 1024, by omega⟩)
  else u (ix3 b p ⟨d.val - 2048, by omega⟩) * invRms u b p * g (ix1 d)

/-- One entry: the layer's input, and the gated product of the merged row with the weights. -/
def entry (y z : Narrow) (u : Wide) (g : Gains) (s : Mods) (w : Weights) (x : Input) (b : Fin 4) (p : Fin 2048) (q : Fin 4096) : EReal :=
  x (ix3 b p q) + s (ix2 b ⟨8192 + q.val, by omega⟩) * ∑ k : Fin 4096, merged y z u g b p k * w (ix2 k q)

/-- The whole array, the positions of all batch elements one below the other. -/
def rows (y z : Narrow) (u : Wide) (g : Gains) (s : Mods) (w : Weights) (x : Input) : (⟨2, ![8192, 4096]⟩ : Shape).Idx → EReal :=
  fun j => entry y z u g s w x ⟨(j 0).val / 2048, by have : (j 0).val < 8192 := (j 0).isLt; omega⟩
    ⟨(j 0).val % 2048, by omega⟩ (j 1)

theorem rows_apply (y z : Narrow) (u : Wide) (g : Gains) (s : Mods) (w : Weights) (x : Input) (b : Fin 4) (p : Fin 2048) (q : Fin 4096) (j)
    (h0 : (j 0).val = 2048 * b.val + p.val) (h1 : (j 1).val = q.val) : rows y z u g s w x j = entry y z u g s w x b p q := by
  unfold rows
  rw [show j 1 = q from Fin.ext h1]
  refine congrArg₂ (fun b p => entry y z u g s w x b p q) (Fin.ext ?_) (Fin.ext ?_)
  · show (j 0).val / 2048 = b.val; omega
  · show (j 0).val % 2048 = p.val; omega

theorem merged_pool (y z : Narrow) (u : Wide) (g : Gains) (b : Fin 4) (p : Fin 2048) (d : Fin 4096) (e : Fin 1024) (h : d.val = e.val) :
    merged y z u g b p d = y (ix3 b p e) := by
  unfold merged
  rw [dif_pos (by omega)]
  exact congrArg (fun e => y (ix3 b p e)) (Fin.ext h)

theorem merged_conv (y z : Narrow) (u : Wide) (g : Gains) (b : Fin 4) (p : Fin 2048) (d : Fin 4096) (e : Fin 1024) (h : d.val = 1024 + e.val) :
    merged y z u g b p d = z (ix3 b p e) := by
  unfold merged
  rw [dif_neg (by omega), dif_pos (by omega)]
  exact congrArg (fun e => z (ix3 b p e)) (Fin.ext (by show d.val - 1024 = e.val; omega))

theorem merged_attn (y z : Narrow) (u : Wide) (g : Gains) (b : Fin 4) (p : Fin 2048) (d : Fin 4096) (e : Fin 2048) (h : d.val = 2048 + e.val) :
    merged y z u g b p d = u (ix3 b p e) * invRms u b p * g (ix1 d) := by
  unfold merged
  rw [dif_neg (by omega), dif_neg (by omega)]
  exact congrArg (fun e => u (ix3 b p e) * invRms u b p * g (ix1 d)) (Fin.ext (by show d.val - 2048 = e.val; omega))

/-! ## The reference computes it -/

variable (y z : (⟨S4x2048x1024, .f32⟩ : BufTy).Contents (Elt Ideal)) (u : (⟨S4x2048x2048, .f32⟩ : BufTy).Contents (Elt Ideal))
  (g : (⟨S4096, .f32⟩ : BufTy).Contents (Elt Ideal)) (s : (⟨S4x24576, .f32⟩ : BufTy).Contents (Elt Ideal))
  (w : (⟨S4096x4096, .f32⟩ : BufTy).Contents (Elt Ideal)) (x : (⟨S4x2048x4096, .f32⟩ : BufTy).Contents (Elt Ideal))

theorem ref_invRms (b : Fin 4) (p : Fin 2048) : val_main_v15 (F := Ideal) u (ix3 b p 0) = invRms u b p := by
  rw [val_main_v15_apply, val_main_v14_apply, val_main_v12_apply, val_main_v10_apply, val_main_v9_apply, val_main_v11_apply,
    val_main_v13_apply, val_main_cst_apply, val_main_cst_0_apply, val_main_cst_1_apply]
  show Ideal.rsqrt (Ideal.div (Ideal.ofBits .f32 0x00000000#32 + ∑ k : Fin 2048, _) (Ideal.ofBits .f32 _) + Ideal.ofBits .f32 _) = _
  rw [Ideal.ofBits_zero_f32, zero_add]
  unfold invRms width tiny
  refine congrArg (fun z => Ideal.rsqrt (Ideal.div z _ + _)) (Finset.sum_congr rfl fun k _ => ?_)
  rw [val_main_v8_apply]
  have e : idx_main_v9 (idx_main_v10 (ix3 b p 0)) k = ix3 b p k :=
    funext fun a => match a with | ⟨0, _⟩ => rfl | ⟨1, _⟩ => rfl | ⟨2, _⟩ => rfl
  rw [e]
  rfl

theorem ref_attn (b : Fin 4) (p : Fin 2048) (d : Fin 2048) :
    val_main_v20 (F := Ideal) u g (ix3 b p d) = u (ix3 b p d) * invRms u b p * g (ix1 ⟨2048 + d.val, by omega⟩) := by
  rw [val_main_v20_apply, val_main_v17_apply, val_main_v16_apply, val_main_v19_apply, val_main_v18_apply, val_main_v7_apply]
  have e1 : idx_main_v16 (ix3 b p d) = ix3 b p 0 := funext fun a => match a with | ⟨0, _⟩ => rfl | ⟨1, _⟩ => rfl | ⟨2, _⟩ => rfl
  have e2 : idx_main_v7 (idx_main_v18 (idx_main_v19 (ix3 b p d))) = ix1 ⟨2048 + d.val, by omega⟩ :=
    funext fun a => match a with | ⟨0, _⟩ => rfl
  rw [e1, e2, ref_invRms]
  rfl

theorem ref_merged (b : Fin 4) (p : Fin 2048) (d : Fin 4096) :
    val_main_v21 (F := Ideal) y z u g (ix3 b p d) = merged y z u g b p d := by
  unfold val_main_v21
  by_cases h0 : d.val < 1024
  · rw [merged_pool y z u g b p d ⟨d.val, h0⟩ rfl]
    refine concatenate_apply_piece (t := S4x2048x4096) (2 : Fin 3) [⟨S4x2048x1024, y⟩, ⟨S4x2048x1024, z⟩, ⟨S4x2048x2048, val_main_v20 (F := Ideal) u g⟩] _ _ 0 (by decide : 0 < 3) S4x2048x1024 y rfl rfl 0 rfl (ix3 b p ⟨d.val, h0⟩) (fun a ha => ?_) ?_
    · match a with
      | ⟨0, _⟩ => rfl
      | ⟨1, _⟩ => rfl
      | ⟨2, _⟩ => exact absurd rfl ha
    · show 0 + d.val = d.val; omega
  · by_cases h1 : d.val < 2048
    · rw [merged_conv y z u g b p d ⟨d.val - 1024, by omega⟩ (by show d.val = 1024 + (d.val - 1024); omega)]
      refine concatenate_apply_piece (t := S4x2048x4096) (2 : Fin 3) [⟨S4x2048x1024, y⟩, ⟨S4x2048x1024, z⟩, ⟨S4x2048x2048, val_main_v20 (F := Ideal) u g⟩] _ _ 1 (by decide : 1 < 3) S4x2048x1024 z rfl rfl 1024 rfl (ix3 b p ⟨d.val - 1024, by omega⟩) (fun a ha => ?_) ?_
      · match a with
        | ⟨0, _⟩ => rfl
        | ⟨1, _⟩ => rfl
        | ⟨2, _⟩ => exact absurd rfl ha
      · show 1024 + (d.val - 1024) = d.val; omega
    · rw [merged_attn y z u g b p d ⟨d.val - 2048, by omega⟩ (by show d.val = 2048 + (d.val - 2048); omega)]
      refine (concatenate_apply_piece (t := S4x2048x4096) (2 : Fin 3) [⟨S4x2048x1024, y⟩, ⟨S4x2048x1024, z⟩, ⟨S4x2048x2048, val_main_v20 (F := Ideal) u g⟩] _ _ 2 (by decide : 2 < 3) S4x2048x2048 (val_main_v20 (F := Ideal) u g) rfl rfl 2048 rfl (ix3 b p ⟨d.val - 2048, by omega⟩) (fun a ha => ?_) ?_).trans ?_
      · match a with
        | ⟨0, _⟩ => rfl
        | ⟨1, _⟩ => rfl
        | ⟨2, _⟩ => exact absurd rfl ha
      · show 2048 + (d.val - 2048) = d.val; omega
      · rw [ref_attn]
        exact congrArg (fun e => u (ix3 b p _) * invRms u b p * g (ix1 e)) (Fin.ext (by show 2048 + (d.val - 2048) = d.val; omega))

theorem ref_entry (b : Fin 4) (p : Fin 2048) (q : Fin 4096) :
    val_main_v25 (F := Ideal) y z u g s w x (ix3 b p q) = entry y z u g s w x b p q := by
  rw [val_main_v25_apply, val_main_v24_apply, val_main_v23_apply, val_main_v3_apply, val_main_v0_apply, val_main_v22_apply]
  have e : idx_main_v0 (idx_main_v3 (idx_main_v23 (ix3 b p q))) = ix2 b ⟨8192 + q.val, by omega⟩ :=
    funext fun a => match a with | ⟨0, _⟩ => rfl | ⟨1, _⟩ => rfl
  rw [e]
  refine congrArg (fun v => x (ix3 b p q) + s (ix2 b ⟨8192 + q.val, by omega⟩) * v) (Finset.sum_congr rfl fun k _ => ?_)
  have e1 : lidx_main_v22 (ix3 b p q) k = ix3 b p k := funext fun a => match a with | ⟨0, _⟩ => rfl | ⟨1, _⟩ => rfl | ⟨2, _⟩ => rfl
  have e2 : ridx_main_v22 (ix3 b p q) k = ix2 k q := funext fun a => match a with | ⟨0, _⟩ => rfl | ⟨1, _⟩ => rfl
  rw [e1, e2, ref_merged]

theorem ref_rows : val_main_v26 (F := Ideal) y z u g s w x = rows y z u g s w x := by
  funext i
  rw [val_main_v26_apply]
  have h0 : (i 0).val < 8192 := (i 0).isLt
  have h1 : (i 1).val < 4096 := (i 1).isLt
  refine Eq.trans (congrArg _ (funext fun a => Fin.ext ?_))
    (ref_entry y z u g s w x ⟨(i 0).val / 2048, by omega⟩ ⟨(i 0).val % 2048, by omega⟩ ⟨(i 1).val, h1⟩)
  match a with
  | ⟨0, _⟩ => show ((i 0).val * 4096 + (i 1).val) / 8388608 = (i 0).val / 2048; omega
  | ⟨1, _⟩ => show ((i 0).val * 4096 + (i 1).val) / 4096 % 2048 = (i 0).val % 2048; omega
  | ⟨2, _⟩ => show ((i 0).val * 4096 + (i 1).val) % 4096 = (i 1).val; omega

end Cert.Proof.Out
-- ==== Proof.OutValue.lean ====
/-
  The output projection's kernel: the array its launch leaves, as one function of the arrays it is given.
-/
module

public import proofs.«01_k».proof.Proof.OutBody
public import proofs.«01_k».proof.Proof.OutReference
public import Idealize.ShloMosaic.Lib.ValueLayoutCasts
public import Idealize.ShloMosaic.Lib.MatmulPlain
public import Idealize.ShloMosaic.Lib.IdealHost
public import Idealize.ShloMosaic.Lib.Pipeline.ValueKit

@[expose] public section

set_option maxHeartbeats 1000000

noncomputable section

namespace Cert.Proof.Out

open Cert.Kernel3Ideal Cert.Kernel3Ideal.Gen
open Idealize.ShloMosaic hiding ix1 ix2 ix3 ix4
open Idealize.ShloMosaic.TcCoe Idealize.ShloMosaic.ValueIdx Idealize.SL.Sem
open scoped BigOperators

variable (m : (ℓ : Loc nD τ sig) → Buf (Elt Ideal) ℓ)

/-! ## The arrays the call is given -/

abbrev pooled (c : Dev nD) : Narrow := m ((c.tc : Thread nD τ).loc main_arg0)
abbrev convolved (c : Dev nD) : Narrow := m ((c.tc : Thread nD τ).loc main_arg1)
abbrev attended (c : Dev nD) : Wide := m ((c.tc : Thread nD τ).loc main_arg2)
abbrev gains (c : Dev nD) : Gains := m ((c.tc : Thread nD τ).loc main_arg3)
abbrev mods (c : Dev nD) : Mods := m ((c.tc : Thread nD τ).loc main_arg4)
abbrev weights (c : Dev nD) : Weights := m ((c.tc : Thread nD τ).loc main_arg5)
abbrev input (c : Dev nD) : Input := m ((c.tc : Thread nD τ).loc main_arg6)

theorem V_0 (c : Dev nD) : V m c main_v0 = shapeCast S4x1x24576 (m ((c : Thread nD τ).loc main_arg4)) shapeCasts_S4x24576_S4x1x24576 := by
  show StableHlo.after hostOps0 (fun b => m (c, b)) main_v0 = _
  after_results
  rfl
theorem V_1 (c : Dev nD) : V m c main_v1 = shapeCast S8192x1024 (m ((c : Thread nD τ).loc main_arg0)) shapeCasts_S4x2048x1024_S8192x1024 := by
  show StableHlo.after hostOps0 (fun b => m (c, b)) main_v1 = _
  after_results
  rfl
theorem V_2 (c : Dev nD) : V m c main_v2 = shapeCast S8192x1024 (m ((c : Thread nD τ).loc main_arg1)) shapeCasts_S4x2048x1024_S8192x1024 := by
  show StableHlo.after hostOps0 (fun b => m (c, b)) main_v2 = _
  after_results
  rfl
theorem V_3 (c : Dev nD) : V m c main_v3 = shapeCast S8192x2048 (m ((c : Thread nD τ).loc main_arg2)) shapeCasts_S4x2048x2048_S8192x2048 := by
  show StableHlo.after hostOps0 (fun b => m (c, b)) main_v3 = _
  after_results
  rfl
theorem V_4 (c : Dev nD) : V m c main_v4 = m ((c : Thread nD τ).loc main_arg5) := by
  show StableHlo.after hostOps0 (fun b => m (c, b)) main_v4 = _
  after_results
  rfl
theorem V_5 (c : Dev nD) : V m c main_v5 = shapeCast S8192x4096 (m ((c : Thread nD τ).loc main_arg6)) shapeCasts_S4x2048x4096_S8192x4096 := by
  show StableHlo.after hostOps0 (fun b => m (c, b)) main_v5 = _
  after_results
  rfl
theorem V_6 (c : Dev nD) : V m c main_v6 = shapeCast S1x4096 (m ((c : Thread nD τ).loc main_arg3)) shapeCasts_S4096_S1x4096 := by
  show StableHlo.after hostOps0 (fun b => m (c, b)) main_v6 = _
  after_results
  rfl

theorem V_0_apply (c : Dev nD) (j) (b : Fin 4) (d : Fin 24576) (h0 : (j 0).val = b.val) (h1 : (j 1).val = 0) (h2 : (j 2).val = d.val) :
    V m c main_v0 j = mods m c (ix2 b d) := by
  rw [V_0]
  refine shapeCast_apply _ _ _ _ ?_
  refine (Shape.rowMajor_val_two (d := ![4, 24576]) _).trans (Eq.trans ?_ (Shape.rowMajor_val_three (d := ![4, 1, 24576]) _).symm)
  show b.val * 24576 + d.val = ((j 0).val * 1 + (j 1).val) * 24576 + (j 2).val
  omega
theorem V_1_apply (c : Dev nD) (j) (b : Fin 4) (p : Fin 2048) (d : Fin 1024) (h0 : (j 0).val = 2048 * b.val + p.val) (h1 : (j 1).val = d.val) :
    V m c main_v1 j = pooled m c (ix3 b p d) := by
  rw [V_1]
  refine shapeCast_apply _ _ _ _ ?_
  refine (Shape.rowMajor_val_three (d := ![4, 2048, 1024]) _).trans (Eq.trans ?_ (Shape.rowMajor_val_two (d := ![8192, 1024]) _).symm)
  show (b.val * 2048 + p.val) * 1024 + d.val = (j 0).val * 1024 + (j 1).val
  omega
theorem V_2_apply (c : Dev nD) (j) (b : Fin 4) (p : Fin 2048) (d : Fin 1024) (h0 : (j 0).val = 2048 * b.val + p.val) (h1 : (j 1).val = d.val) :
    V m c main_v2 j = convolved m c (ix3 b p d) := by
  rw [V_2]
  refine shapeCast_apply _ _ _ _ ?_
  refine (Shape.rowMajor_val_three (d := ![4, 2048, 1024]) _).trans (Eq.trans ?_ (Shape.rowMajor_val_two (d := ![8192, 1024]) _).symm)
  show (b.val * 2048 + p.val) * 1024 + d.val = (j 0).val * 1024 + (j 1).val
  omega
theorem V_3_apply (c : Dev nD) (j) (b : Fin 4) (p : Fin 2048) (d : Fin 2048) (h0 : (j 0).val = 2048 * b.val + p.val) (h1 : (j 1).val = d.val) :
    V m c main_v3 j = attended m c (ix3 b p d) := by
  rw [V_3]
  refine shapeCast_apply _ _ _ _ ?_
  refine (Shape.rowMajor_val_three (d := ![4, 2048, 2048]) _).trans (Eq.trans ?_ (Shape.rowMajor_val_two (d := ![8192, 2048]) _).symm)
  show (b.val * 2048 + p.val) * 2048 + d.val = (j 0).val * 2048 + (j 1).val
  omega
theorem V_5_apply (c : Dev nD) (j) (b : Fin 4) (p : Fin 2048) (d : Fin 4096) (h0 : (j 0).val = 2048 * b.val + p.val) (h1 : (j 1).val = d.val) :
    V m c main_v5 j = input m c (ix3 b p d) := by
  rw [V_5]
  refine shapeCast_apply _ _ _ _ ?_
  refine (Shape.rowMajor_val_three (d := ![4, 2048, 4096]) _).trans (Eq.trans ?_ (Shape.rowMajor_val_two (d := ![8192, 4096]) _).symm)
  show (b.val * 2048 + p.val) * 4096 + d.val = (j 0).val * 4096 + (j 1).val
  omega
theorem V_6_apply (c : Dev nD) (j) (d : Fin 4096) (h0 : (j 0).val = 0) (h1 : (j 1).val = d.val) :
    V m c main_v6 j = gains m c (ix1 d) := by
  rw [V_6]
  refine shapeCast_apply _ _ _ _ ?_
  refine (Shape.rowMajor_val_one (d := ![4096]) _).trans (Eq.trans ?_ (Shape.rowMajor_val_two (d := ![1, 4096]) _).symm)
  show d.val = (j 0).val * 4096 + (j 1).val
  omega

/-! ## The blocks of a grid point -/

theorem idx_0 : ∀ t : Fin cfg0.N, win0_0.index t 0 = t.val / 8 ∧ win0_0.index t 1 = 0 := by decide +kernel
theorem idx_1 : ∀ t : Fin cfg0.N, win0_1.index t 0 = t.val / 8 ∧ win0_1.index t 1 = 0 := by decide +kernel
theorem idx_2 : ∀ t : Fin cfg0.N, win0_2.index t 0 = t.val / 8 ∧ win0_2.index t 1 = 0 := by decide +kernel
theorem idx_3 : ∀ t : Fin cfg0.N, win0_3.index t 0 = 0 ∧ win0_3.index t 1 = 0 := by decide +kernel
theorem idx_4 : ∀ t : Fin cfg0.N, win0_4.index t 0 = 0 ∧ win0_4.index t 1 = t.val % 8 := by decide +kernel
theorem idx_5 : ∀ t : Fin cfg0.N, win0_5.index t 0 = t.val / 8 ∧ win0_5.index t 1 = t.val % 8 := by decide +kernel
theorem idx_6 : ∀ t : Fin cfg0.N, win0_6.index t 0 = t.val / 32 ∧ win0_6.index t 1 = 0 ∧ win0_6.index t 2 = 16 + t.val % 8 := by decide +kernel
theorem idx_7 : ∀ t : Fin cfg0.N, win0_7.index t 0 = t.val / 8 ∧ win0_7.index t 1 = t.val % 8 := by decide +kernel

theorem lt128 (t : Fin cfg0.N) : t.val < 128 := Nat.lt_of_lt_of_eq t.isLt N_0

/-- The batch element of a grid point, the position of a row of its blocks, and the feature of a column. -/
def bat (t : Fin cfg0.N) : Fin 4 := ⟨t.val / 32, by have := lt128 t; omega⟩
def pos (t : Fin cfg0.N) (r : Fin 512) : Fin 2048 := ⟨512 * (t.val / 8 % 4) + r.val, by omega⟩
def col (t : Fin cfg0.N) (q : Fin 512) : Fin 4096 := ⟨512 * (t.val % 8) + q.val, by omega⟩

theorem iblk_0 (c : Dev nD) (t : Fin cfg0.N) (r : Fin 512) (d : Fin 1024) :
    iblk m c 0 t (ix2 r d) = pooled m c (ix3 (bat t) (pos t r) d) := by
  unfold iblk
  rw [View.read_apply]
  obtain ⟨h0, h1⟩ := idx_0 t
  refine V_1_apply m c _ _ _ _ ?_ ?_
  · blk_simp; rw [h0]; show t.val / 8 * 512 + r.val = 2048 * (t.val / 32) + (512 * (t.val / 8 % 4) + r.val); omega
  · blk_simp; rw [h1]; show 0 * 1024 + d.val = d.val; omega
theorem iblk_1 (c : Dev nD) (t : Fin cfg0.N) (r : Fin 512) (d : Fin 1024) :
    iblk m c 1 t (ix2 r d) = convolved m c (ix3 (bat t) (pos t r) d) := by
  unfold iblk
  rw [View.read_apply]
  obtain ⟨h0, h1⟩ := idx_1 t
  refine V_2_apply m c _ _ _ _ ?_ ?_
  · blk_simp; rw [h0]; show t.val / 8 * 512 + r.val = 2048 * (t.val / 32) + (512 * (t.val / 8 % 4) + r.val); omega
  · blk_simp; rw [h1]; show 0 * 1024 + d.val = d.val; omega
theorem iblk_2 (c : Dev nD) (t : Fin cfg0.N) (r : Fin 512) (d : Fin 2048) :
    iblk m c 2 t (ix2 r d) = attended m c (ix3 (bat t) (pos t r) d) := by
  unfold iblk
  rw [View.read_apply]
  obtain ⟨h0, h1⟩ := idx_2 t
  refine V_3_apply m c _ _ _ _ ?_ ?_
  · blk_simp; rw [h0]; show t.val / 8 * 512 + r.val = 2048 * (t.val / 32) + (512 * (t.val / 8 % 4) + r.val); omega
  · blk_simp; rw [h1]; show 0 * 2048 + d.val = d.val; omega
theorem iblk_3 (c : Dev nD) (t : Fin cfg0.N) (d : Fin 4096) : iblk m c 3 t (ix2 (0 : Fin 1) d) = gains m c (ix1 d) := by
  unfold iblk
  rw [View.read_apply]
  obtain ⟨h0, h1⟩ := idx_3 t
  refine V_6_apply m c _ _ ?_ ?_
  · blk_simp; rw [h0]
  · blk_simp; rw [h1]; show 0 * 4096 + d.val = d.val; omega
theorem iblk_4 (c : Dev nD) (t : Fin cfg0.N) (k : Fin 4096) (q : Fin 512) :
    iblk m c 4 t (ix2 k q) = weights m c (ix2 k (col t q)) := by
  unfold iblk
  rw [View.read_apply]
  obtain ⟨h0, h1⟩ := idx_4 t
  refine (congrFun (V_4 m c) _).trans (congrArg (m ((c.tc : Thread nD τ).loc main_arg5)) (funext fun a => Fin.ext ?_))
  match a with
  | ⟨0, _⟩ => blk_simp; rw [h0]; show 0 * 4096 + k.val = k.val; omega
  | ⟨1, _⟩ => blk_simp; rw [h1]; show t.val % 8 * 512 + q.val = 512 * (t.val % 8) + q.val; omega
theorem iblk_5 (c : Dev nD) (t : Fin cfg0.N) (r q : Fin 512) :
    iblk m c 5 t (ix2 r q) = input m c (ix3 (bat t) (pos t r) (col t q)) := by
  unfold iblk
  rw [View.read_apply]
  obtain ⟨h0, h1⟩ := idx_5 t
  refine V_5_apply m c _ _ _ _ ?_ ?_
  · blk_simp; rw [h0]; show t.val / 8 * 512 + r.val = 2048 * (t.val / 32) + (512 * (t.val / 8 % 4) + r.val); omega
  · blk_simp; rw [h1]; show t.val % 8 * 512 + q.val = 512 * (t.val % 8) + q.val; omega
theorem iblk_6 (c : Dev nD) (t : Fin cfg0.N) (q : Fin 512) :
    iblk m c 6 t (ix3 (0 : Fin 1) (0 : Fin 1) q) = mods m c (ix2 (bat t) ⟨8192 + (col t q).val, by omega⟩) := by
  unfold iblk
  rw [View.read_apply]
  obtain ⟨h0, h1, h2⟩ := idx_6 t
  refine V_0_apply m c _ _ _ ?_ ?_ ?_
  · blk_simp; rw [h0]; rfl
  · blk_simp; rw [h1]
  · blk_simp; rw [h2]; show (16 + t.val % 8) * 512 + q.val = 8192 + (512 * (t.val % 8) + q.val); omega

/-! ## What a point stores, at an index -/

theorem rowSum_apply (y : FVec Ideal S512x2048 .f32) (r : Fin 512) :
    multiReduction .add [1] S512 y 0x00000000#32 reduces_S512x2048_S512 (.inl rfl) rfl (ix1 r) = ∑ k : Fin 2048, y (ix2 r k) := by
  refine (Ideal.multiReduction_add_single y _ _ _ _ (ix1 r)).trans ?_
  refine Finset.sum_congr rfl fun k _ => congrArg y (funext fun a => Fin.ext ?_)
  match a with
  | ⟨0, _⟩ => rfl
  | ⟨1, _⟩ => rfl

theorem col_apply (y : FVec Ideal S512x1 .f32) (r : Fin 512) (d : Fin 2048) :
    broadcastTo S512x2048 y broadcasts_S512x1_S512x2048 (ix2 r d) = y (ix2 r 0) :=
  broadcastTo_apply y _ _ _ fun a => by
    match a with
    | ⟨0, _⟩ => rfl
    | ⟨1, _⟩ => rfl

theorem row_apply (y : FVec Ideal S1x2048 .f32) (r : Fin 512) (d : Fin 2048) :
    broadcastTo S512x2048 y broadcasts_S1x2048_S512x2048 (ix2 r d) = y (ix2 0 d) :=
  broadcastTo_1b_ab_apply y _ r d

theorem gate_apply (y : FVec Ideal S1x512 .f32) (r q : Fin 512) :
    broadcastTo S512x512 y broadcasts_S1x512_S512x512 (ix2 r q) = y (ix2 0 q) :=
  broadcastTo_1b_ab_apply y _ r q

theorem pay1_apply (x : Vec Ideal S512x1024 .f32) (i : S512x1024.Idx) : k0_pay1 (F := Ideal) x i = x i := by
  unfold k0_pay1
  rw [shapeCast_self, shapeCast_self]
  rfl

theorem pay2_apply (x : Vec Ideal S512x1024 .f32) (i : S512x1024.Idx) : k0_pay2 (F := Ideal) x i = x i := by
  unfold k0_pay2
  rw [shapeCast_self, shapeCast_self]
  rfl

theorem pay3_apply (u : Vec Ideal S512x2048 .f32) (g : Vec Ideal S1x2048 .f32) (r : Fin 512) (d : Fin 2048) :
    k0_pay3 (F := Ideal) u g (ix2 r d)
      = u (ix2 r d) * Ideal.rsqrt (Ideal.div (∑ k : Fin 2048, u (ix2 r k) * u (ix2 r k)) width + tiny) * g (ix2 0 d) := by
  unfold k0_pay3
  rw [shapeCast_self, shapeCast_self, shapeCast_self]
  show u (ix2 r d) * broadcastTo S512x2048 _ broadcasts_S512x1_S512x2048 (ix2 r d)
      * broadcastTo S512x2048 g broadcasts_S1x2048_S512x2048 (ix2 r d) = _
  rw [col_apply, row_apply]
  show u (ix2 r d) * Ideal.rsqrt (Ideal.div (shapeCast S512x1 _ shapeCasts_S512_S512x1 (ix2 r 0)) width + tiny) * g (ix2 0 d) = _
  rw [shapeCast_a_a1_apply, rowSum_apply]
  rfl

theorem pay4_apply (x : Vec Ideal S512x512 .f32) (e : Vec Ideal S1x1x512 .f32) (h : Vec Ideal S512x4096 .bf16) (w : Vec Ideal S4096x512 .bf16)
    (r q : Fin 512) :
    k0_pay4 (F := Ideal) x e h w (ix2 r q) = x (ix2 r q) + e (ix3 0 0 q) * ∑ k : Fin 4096, h (ix2 r k) * w (ix2 k q) := by
  unfold k0_pay4
  rw [shapeCast_self, shapeCast_self]
  refine congrArg₂ (fun u v : Ideal .f32 => x (ix2 r q) + u * v) ((gate_apply _ r q).trans (shapeCast_1ab_ab_apply _ _ 0 q)) ?_
  refine (Ideal.matmul_plain_apply (M := 512) (K := 4096) (N := 512) none h w _ r q).trans ?_
  rw [ValueIdx.constant_apply, Ideal.ofBits_zero_f32, zero_add]

/-- The block of merged rows at an index. -/
theorem blk_apply (c : Dev nD) (t : Fin cfg0.N) (r : Fin 512) (d : Fin 4096) :
    blk (iblk m c 0 t) (iblk m c 1 t) (iblk m c 2 t) (iblk m c 3 t) (ix2 r d)
      = merged (pooled m c) (convolved m c) (attended m c) (gains m c) (bat t) (pos t r) d := by
  unfold blk
  refine View.canon_eq_of_allAt _ _ _ ?_ ?_
  · by_cases h0 : d.val < 1024
    · refine ⟨_, List.mem_cons_of_mem _ (List.mem_cons_of_mem _ List.mem_cons_self), ?_⟩
      rw [Rect.mem_set_unit]
      intro a
      match a with
      | ⟨0, _⟩ => exact ⟨Nat.zero_le _, by show r.val < 0 + 512; omega⟩
      | ⟨1, _⟩ => exact ⟨Nat.zero_le _, by show d.val < 0 + 1024; omega⟩
    · by_cases h1 : d.val < 2048
      · refine ⟨_, List.mem_cons_of_mem _ List.mem_cons_self, ?_⟩
        rw [Rect.mem_set_unit]
        intro a
        match a with
        | ⟨0, _⟩ => exact ⟨Nat.zero_le _, by show r.val < 0 + 512; omega⟩
        | ⟨1, _⟩ => exact ⟨by show 1024 ≤ d.val; omega, by show d.val < 1024 + 1024; omega⟩
      · refine ⟨_, List.mem_cons_self, ?_⟩
        rw [Rect.mem_set_unit]
        intro a
        match a with
        | ⟨0, _⟩ => exact ⟨Nat.zero_le _, by show r.val < 0 + 512; omega⟩
        | ⟨1, _⟩ => exact ⟨by show 2048 ≤ d.val; omega, by show d.val < 2048 + 2048; omega⟩
  · refine View.allAt_cons_unit _ _ _ _ _ ?_ (View.allAt_cons_unit _ _ _ _ _ ?_ (View.allAt_cons_unit _ _ _ _ _ ?_ (View.allAt_nil _ _)))
    · intro y hy
      obtain ⟨r', e, rfl⟩ : ∃ (r' : Fin 512) (e : Fin 2048), y = ix2 r' e := ⟨y 0, y 1, ValueIdx.eq_ix2 y⟩
      have hr : r.val = 0 + r'.val := hy 0
      have hd : d.val = 2048 + e.val := hy 1
      obtain rfl : r' = r := Fin.ext (by omega)
      have hg : View.ld (iblk m c 3 t) (Rect.unit ![0, 2048] S1x2048.size inb_S1x4096_S1x2048_0_2048) (ix2 (0 : Fin 1) e)
          = gains m c (ix1 d) :=
        (View.ld_unit_apply_of (iblk m c 3 t) ![0, 2048] S1x2048.size inb_S1x4096_S1x2048_0_2048 (ix2 (0 : Fin 1) e) (ix2 (0 : Fin 1) d) fun a => by
          match a with
          | ⟨0, _⟩ => rfl
          | ⟨1, _⟩ => exact hd).trans (iblk_3 m c t d)
      rw [merged_attn _ _ _ _ _ _ d e hd, pay3_apply, hg]
      simp only [iblk_2]
      rfl
    · intro y hy
      obtain ⟨r', e, rfl⟩ : ∃ (r' : Fin 512) (e : Fin 1024), y = ix2 r' e := ⟨y 0, y 1, ValueIdx.eq_ix2 y⟩
      have hr : r.val = 0 + r'.val := hy 0
      have hd : d.val = 1024 + e.val := hy 1
      obtain rfl : r' = r := Fin.ext (by omega)
      rw [merged_conv _ _ _ _ _ _ d e hd, pay2_apply, iblk_1]
    · intro y hy
      obtain ⟨r', e, rfl⟩ : ∃ (r' : Fin 512) (e : Fin 1024), y = ix2 r' e := ⟨y 0, y 1, ValueIdx.eq_ix2 y⟩
      have hr : r.val = 0 + r'.val := hy 0
      have hd : d.val = 0 + e.val := hy 1
      obtain rfl : r' = r := Fin.ext (by omega)
      rw [merged_pool _ _ _ _ _ _ d e (by omega), pay1_apply, iblk_0]

/-! ## The array the call leaves -/

/-- The first grid point of the row that position `n` is in. -/
def rowPt (n : ℕ) : Fin cfg0.N := ⟨(n - n % 8) % 128, by have h : cfg0.N = 128 := N_0; rw [h]; exact Nat.mod_lt _ (by decide)⟩

/-- The merged rows that the points of a row of the grid share. -/
def mergedAt (c : Dev nD) (n : ℕ) : Vec Ideal S512x4096 .bf16 :=
  blk (iblk m c 0 (rowPt n)) (iblk m c 1 (rowPt n)) (iblk m c 2 (rowPt n)) (iblk m c 3 (rowPt n))

/-- What each point leaves: its output block, and the merged rows. -/
theorem point (c : Dev nD) : ∀ (n : ℕ) (h : n < cfg0.N),
    outsAt0 m c n h = (k0_pay4 (iblk m c 5 ⟨n, h⟩) (iblk m c 6 ⟨n, h⟩) (mergedAt m c n) (iblk m c 4 ⟨n, h⟩), mergedAt m c n) := by
  intro n
  induction n with
  | zero =>
    intro h
    have e : rowPt 0 = ⟨0, h⟩ := Fin.ext rfl
    unfold mergedAt
    rw [e]
    exact point_first m c ⟨0, h⟩ rfl
  | succ n ih =>
    intro h
    have hn : n + 1 < 128 := Nat.lt_of_lt_of_eq h N_0
    by_cases h0 : (n + 1) % 8 = 0
    · have e : rowPt (n + 1) = ⟨n + 1, h⟩ := Fin.ext (by show (n + 1 - (n + 1) % 8) % 128 = n + 1; omega)
      unfold mergedAt
      rw [e]
      exact point_first m c ⟨n + 1, h⟩ h0
    · have e : rowPt (n + 1) = rowPt n := Fin.ext (by show (n + 1 - (n + 1) % 8) % 128 = (n - n % 8) % 128; omega)
      have e' : mergedAt m c (n + 1) = mergedAt m c n := by unfold mergedAt; rw [e]
      rw [e']
      have key : ∀ k, k = n → ∀ h', (outsAt0 m c k h').2 = mergedAt m c n := by
        rintro k rfl h'
        rw [ih]
      exact point_later m c ⟨n + 1, h⟩ h0 (mergedAt m c n) (key _ (Nat.add_sub_cancel n 1))

theorem mergedAt_apply (c : Dev nD) (t : Fin cfg0.N) (r : Fin 512) (d : Fin 4096) :
    mergedAt m c t.val (ix2 r d) = merged (pooled m c) (convolved m c) (attended m c) (gains m c) (bat t) (pos t r) d := by
  have := lt128 t
  have e : (rowPt t.val).val / 8 = t.val / 8 := by show (t.val - t.val % 8) % 128 / 8 = t.val / 8; omega
  have eb : bat (rowPt t.val) = bat t := Fin.ext (by show (rowPt t.val).val / 32 = t.val / 32; omega)
  have ep : pos (rowPt t.val) r = pos t r := Fin.ext (by
    show 512 * ((rowPt t.val).val / 8 % 4) + r.val = 512 * (t.val / 8 % 4) + r.val; rw [e])
  unfold mergedAt
  rw [blk_apply, eb, ep]

theorem arr_rows (c : Dev nD) : (dats m 0 c).arrAt 7 cfg0.N
    = rows (pooled m c) (convolved m c) (attended m c) (gains m c) (mods m c) (weights m c) (input m c) := by
  refine (dats m 0 c).arrAt_eq_of_covers 7
    (rows (pooled m c) (convolved m c) (attended m c) (gains m c) (mods m c) (weights m c) (input m c)) (by decide +kernel) fun t hf y => ?_
  blk_simp
  rw [after0_7, point]
  obtain ⟨r, q, rfl⟩ : ∃ (r q : Fin 512), y = ix2 r q := ⟨y 0, y 1, ValueIdx.eq_ix2 y⟩
  obtain ⟨h0, h1⟩ := idx_7 t
  refine Eq.trans (pay4_apply _ _ _ _ r q) ?_
  rw [iblk_5, iblk_6]
  simp only [iblk_4, mergedAt_apply]
  refine (rows_apply _ _ _ _ _ _ _ (bat t) (pos t r) (col t q) _ ?_ ?_).symm
  · blk_simp; rw [h0]; show t.val / 8 * 512 + r.val = 2048 * (t.val / 32) + (512 * (t.val / 8 % 4) + r.val); omega
  · blk_simp; rw [h1]; show t.val % 8 * 512 + q.val = 512 * (t.val % 8) + q.val; omega

end Cert.Proof.Out
-- ==== Proof.OutClaims.lean ====
module

public import proofs.«01_k».proof.Defs
public import proofs.«01_k».proof.Proof.Gen.Kernel3
public import proofs.«01_k».proof.Proof.Gen.Reference3Ideal.Run
public import proofs.«01_k».proof.Proof.OutValue
public import proofs.«01_k».proof.Proof.OutReference
public import Idealize.ShloMosaic.Lib.Quiescent

@[expose] public section

set_option maxHeartbeats 1000000

noncomputable section

/-! The claims of the output projection: its frames, and that kernel and reference give the same array. -/

namespace Cert.Proof.Out

open Idealize.ShloMosaic hiding ix1 ix2 ix3 ix4
open Idealize.ShloMosaic.TcCoe Idealize.ShloMosaic.ValueIdx Idealize.SL.Sem

/-! ## The frames -/

/-! The two programs have one text, so one run serves for both. -/

section

variable {F : FTy → Type} [FloatOps F]
attribute [local instance] Cert.Kernel3.Gen.facts Cert.Kernel3Ideal.Gen.facts
set_option maxRecDepth 16384

theorem body_eq : @Cert.Kernel3.cc0_outproj F _ _ = @Cert.Kernel3Ideal.cc0_outproj F _ _ := rfl

theorem calls_eq : Cert.Kernel3.defs₀ (F := F) = Cert.Kernel3Ideal.defs₀ (F := F) := by
  unfold Cert.Kernel3.defs₀ Cert.Kernel3Ideal.defs₀
  rw [body_eq]
  refine congrArg Defs.onTc (funext fun l => funext fun p => ?_)
  match l, p with
  | 0, (t, s) => rfl
  | ⟨_ + 1, h⟩, _ => exact absurd h (Nat.not_lt.2 (Nat.le_add_left _ _))

theorem defs_eq : Cert.Kernel3.defs (F := F) = Cert.Kernel3Ideal.defs (F := F) := by
  unfold Cert.Kernel3.defs Cert.Kernel3Ideal.defs
  rw [calls_eq]
  rfl

end

theorem frame_kernel : Cert.quiescent_Kernel3 (hKernel3 := Cert.Kernel3.Gen.facts) := fun m ρ _ => by
  rw [defs_eq]
  exact (θ_run Cert.Kernel3Ideal.defs _ _).mono (fun _ h => h) (Cert.Kernel3Ideal.Gen.frame (F := Bits) m ρ)

theorem frame_ideal : Cert.quiescent_Kernel3Ideal (hKernel3Ideal := Cert.Kernel3Ideal.Gen.facts) := fun m ρ _ =>
  Cert.Kernel3Ideal.Gen.frame m ρ

theorem frame_reference : Cert.quiescent_Reference3Ideal (hReference3Ideal := Cert.Reference3Ideal.Gen.facts) := fun m ρ _ =>
  (θ_run Cert.Reference3Ideal.defs _ _).mono (fun r h => ⟨fun c => (h c).2, sem_eq_zero_of_no_sems (by decide) _⟩)
    (Cert.Reference3Ideal.Value.run m ρ)

/-! ## The value -/

theorem equal : Cert.algebraic_Kernel3Ideal_Reference3Ideal
    (hKernel3Ideal := Cert.Kernel3Ideal.Gen.facts) (hReference3Ideal := Cert.Reference3Ideal.Gen.facts) := by
  intro m ρ m' ρ' _ hagree
  refine ⟨fun c => rows (pooled m c) (convolved m c) (attended m c) (gains m c) (mods m c) (weights m c) (input m c), ?_, ?_⟩
  · exact (θ_run Cert.Kernel3Ideal.defs _ _).mono (fun r h c => ⟨((h c).1).trans (arr_rows m c), (h c).2⟩)
      (Cert.Kernel3Ideal.Value.run_blocks m ρ)
  · refine (θ_run Cert.Reference3Ideal.defs _ _).mono (fun r h c => ⟨((h c).1).trans ?_, (h c).2⟩)
      (Cert.Reference3Ideal.Value.run m' ρ')
    obtain ⟨h0, h1, h2, h3, h4, h5, h6⟩ := hagree c
    rw [Cert.Reference3Ideal.Read.val_main_v26_eq, h0, h1, h2, h3, h4, h5, h6]
    exact ref_rows _ _ _ _ _ _ _

end Cert.Proof.Out

end
-- ==== Proof.QueryBody.lean ====
/-
  The experts' query projection at one grid point: what its body leaves in the block of normed rows and in the block of
  the product, from the blocks it reads.
-/
module

public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import Idealize.ShloMosaic.Adequacy
public import Idealize.ShloMosaic.Init
public import Idealize.ShloMosaic.Lib.Pipeline.ValueKit
public import Idealize.ShloMosaic.Lib.VecWindow
public import Idealize.ShloMosaic.Lib.ValueIdx
public import Idealize.ShloMosaic.Lib.ValueLayout

@[expose] public section

set_option maxRecDepth 16384
set_option maxHeartbeats 4000000

noncomputable section

namespace Cert.Proof.Query

open Cert.Kernel4Ideal Cert.Kernel4Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The block of normed rows after the body: made anew at a row's first point, else as found. -/
def hOut (i : grid0.Coords) (x0 : Vec F S512x4096 .f32) (x1 : Vec F S1x4096 .f32) (x2 x3 : Vec F S1x1x4096 .f32)
    (h : Vec F S512x4096 .bf16) : Vec F S512x4096 .bf16 :=
  if k0_cond1 i = 1#1 then k0_pay1 x0 x1 x2 x3 else h

/-- A whole block written at once reads back as what was written. -/
theorem read_one {sp : Space} {s : Shape} {e : EltTy} (v : View sig .tc sp s e) (f : BufTy.Contents (Elt F) v.ty)
    {off : Fin s.rank → Nat} (h0 : off = fun _ => 0) (hin) (p : s.Idx → Elt F e) :
    v.read (Elt F) (v.writes (Elt F) f [⟨Rect.unit (s := s) off s.size hin, p⟩]) = p := by
  subst h0
  exact View.read_writes_full v f hin p []

/-- A load of the block of normed rows after it is written whole reads what was written. -/
theorem load_rows (v : View sig .tc .vmem S512x4096 .bf16) (hin hin') (p : S512x4096.Idx → Elt F .bf16) :
    v.readCov (Val := Elt F) [⟨Rect.unit (s := S512x4096) ![0, 0] S512x4096.size hin, p⟩]
      (Rect.unit (s := S512x4096) ![0, 0] S512x4096.size hin').toLoadRect = p :=
  View.readCov_full v hin' hin p []

theorem off2 : (![0, 0] : Fin 2 → Nat) = fun _ => 0 := by funext a; fin_cases a <;> rfl
theorem off3 : (![0, 0, 0] : Fin 3 → Nat) = fun _ => 0 := by funext a; fin_cases a <;> rfl

variable (c : Dev nD) (i : grid0.Coords)
  (arg2 : Memref sig .tc .vmem S512x4096 .f32) (harg2 : arg2.IsWhole) (arg3 : Memref sig .tc .vmem S1x4096 .f32) (harg3 : arg3.IsWhole) (arg4 : Memref sig .tc .vmem S1x1x4096 .f32) (harg4 : arg4.IsWhole) (arg5 : Memref sig .tc .vmem S1x1x4096 .f32) (harg5 : arg5.IsWhole) (arg6 : Memref sig .tc .vmem S4096x512 .bf16) (harg6 : arg6.IsWhole) (arg7 : Memref sig .tc .vmem S512x512 .f32) (harg7 : arg7.IsWhole) (arg8 : Memref sig .tc .vmem S512x4096 .bf16) (harg8 : arg8.IsWhole)

/-- The body at a point, from any contents of the two output blocks. -/
theorem run (E : Set ℕ) (x0 : Vec F S512x4096 .f32) (x1 : Vec F S1x4096 .f32) (x2 x3 : Vec F S1x1x4096 .f32)
    (w : Vec F S4096x512 .bf16) (h : Vec F S512x4096 .bf16) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare w
        ∗ (∃ d, owns (c : Thread nD τ) arg7 fullShare d) ∗ owns (c : Thread nD τ) arg8 fullShare h
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare w
            ∗ owns (c : Thread nD τ) arg7 fullShare (k0_pay2 (hOut i x0 x1 x2 x3 h) w)
            ∗ owns (c : Thread nD τ) arg8 fullShare (hOut i x0 x1 x2 x3 h)) -∗ K ⟨⟩))
      ⊢ wp frame (wpE (defs₀ (F := F)) Variants.none c none) E (cc0_normproj_h i arg2 harg2 arg3 harg3 arg4 harg4 arg5 harg5 arg6 harg6 arg7 harg7 arg8 harg8) K := by
  simp only [cc0_normproj_h_eq_skeleton]; unfold cc0_normproj_h_skel
  unfold hOut
  unfold owns
  dsimp only
  by_cases h1 : k0_cond1 i = 1#1
  all_goals
    simp only [h1, ↓reduceDIte, ↓reduceIte]
    iintro ⟨⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, Hk⟩
    subst hf2 hf3 hf4 hf5 hf6 hf8
    sl_exec
    sl_step
    iapply Hk
    isplitl [H2]; · iexists _; isplitr; swap; iexact H2; ipureintro; rfl
    isplitl [H3]; · iexists _; isplitr; swap; iexact H3; ipureintro; rfl
    isplitl [H4]; · iexists _; isplitr; swap; iexact H4; ipureintro; rfl
    isplitl [H5]; · iexists _; isplitr; swap; iexact H5; ipureintro; rfl
    isplitl [H6]; · iexists _; isplitr; swap; iexact H6; ipureintro; rfl
    isplitl [H7]; · iexists _; isplitr; swap; iexact H7; ipureintro; first
      | rfl
      | (refine (read_one _ _ off2 _ _).trans ?_
         first | unfold run.sl.v3 | skip
         first | unfold run.sl.H8_1 | skip
         try rw [load_rows]
         try simp only [View.readAt_eq_ld]
         repeat rw [View.ld_unit_lit _ _ (by decide)]
         try rfl)
    iexists _; isplitr; swap; iexact H8; ipureintro; first
      | rfl
      | (refine (read_one _ _ off2 _ _).trans ?_
         try simp only [View.readAt_eq_ld]
         repeat rw [View.ld_unit_lit _ _ (by decide)]
         try rfl)

end Cert.Proof.Query

end
-- ==== Proof.QueryLaunched.lean ====
/-
  The experts' query projection launched: what each output block holds at every grid point, the body's obligation at a
  point, the run of @main and the frame.
-/
module

public import proofs.«01_k».proof.Proof.QueryBody
public import Idealize.ShloMosaic.Lib.Pipeline.KitQuiescent
public import Idealize.ShloMosaic.Lib.Pipeline.TableIdle

@[expose] public section

set_option maxRecDepth 16384
set_option maxHeartbeats 4000000

noncomputable section

namespace Cert.Proof.Query

open Cert.Kernel4Ideal Cert.Kernel4Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first grid point of the row that position `n` is in. -/
def rowPt (n : ℕ) : Fin cfg0.N := ⟨(n - n % 4) % 64, by have h : cfg0.N = 64 := N_0; rw [h]; exact Nat.mod_lt _ (by decide)⟩

/-- The normalised and modulated rows that their output block holds along a row of the grid. -/
def hAt (c : Dev nD) (n : ℕ) : Vec F S512x4096 .bf16 :=
  k0_pay1 (iblk m c 0 (rowPt n)) (iblk m c 1 (rowPt n)) (iblk m c 2 (rowPt n)) (iblk m c 3 (rowPt n))

theorem lt64 (t : Fin cfg0.N) : t.val < 64 := Nat.lt_of_lt_of_eq t.isLt N_0

theorem rowPt_first (t : Fin cfg0.N) (h : t.val % 4 = 0) : rowPt t.val = t := by
  have := lt64 t
  apply Fin.ext; unfold rowPt; dsimp only; omega

theorem rowPt_succ (n : ℕ) (h : (n + 1) % 4 ≠ 0) : rowPt (n + 1) = rowPt n := by
  apply Fin.ext; unfold rowPt; dsimp only; congr 1; omega

theorem hAt_succ (c : Dev nD) (n : ℕ) (h : (n + 1) % 4 ≠ 0) : hAt m c (n + 1) = hAt m c n := by
  unfold hAt; rw [rowPt_succ n h]

/-! ## The conditions over the grid -/

theorem cond1_iff : ∀ t : Fin cfg0.N, k0_cond1 (grid0.coords t) = 1#1 ↔ t.val % 4 = 0 := by decide +kernel
theorem flush6_iff : ∀ t : Fin cfg0.N, (cfg0.win 6).flush t = true ↔ t.val % 4 = 3 := by decide +kernel

theorem idle6_iff (t : Fin cfg0.N) : cfg0.idle 6 (cfg0.grid.coords t) = true ↔ ¬ t.val % 4 = 0 := by
  rw [← cond1_iff]; show (!(k0_cond1 (grid0.coords t) == 1#1)) = true ↔ _; simp

/-- The block of normed rows is fresh, nothing stored since its last write-back, at a row's first point. -/
theorem fresh6 (n : ℕ) (h : n ≤ cfg0.N) : cfg0.fresh 6 n = decide (n % 4 = 0) :=
  cfg0.fresh_tab 6 (fun n => decide (n % 4 = 0)) rfl (fun t => by
    have h1 := flush6_iff t
    have h2 := idle6_iff t
    rw [Bool.eq_iff_iff, Bool.or_eq_true, Bool.and_eq_true, h1, h2, decide_eq_true_iff, decide_eq_true_iff]
    omega) n h

/-! ## The proof data -/

/-- The proof data: each input's block left in place; the block of normed rows at the row's; the product's block at the
    product of those with the point's columns. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => k0_pay2 (hAt m c t.val) (iblk m c 4 t)
    | ⟨6, _⟩ => hAt m c t.val
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = k0_pay2 (hAt m c t.val) (iblk m c 4 t) := by dsimp only [dats]
theorem after_6 (c : Dev nD) (t : Fin cfg0.N) : (dats m 0 c).after 6 t = hAt m c t.val := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d

/-- What the block of normed rows holds at a point that keeps it: the rows that the row's first point stored. -/
theorem before_6 (c : Dev nD) (t : Fin cfg0.N) (ht : t.val % 4 ≠ 0) (d) : (dats m 0 c).before 6 t d = hAt m c t.val := by
  have hcarry : ∀ (t : Fin cfg0.N) (_ : t.val ≠ 0), cfg0.idle 6 (cfg0.grid.coords t) = true → cfg0.fresh 6 t.val = false →
      (dats m 0 c).after 6 t = (dats m 0 c).after 6 ⟨t.val - 1, by omega⟩ := by
    intro t h0 _ hf
    rw [fresh6 t.val t.isLt.le, decide_eq_false_iff_not] at hf
    have h1 : hAt m c t.val = hAt m c (t.val - 1) := by
      have := hAt_succ m c (t.val - 1) (by omega)
      rwa [Nat.sub_add_cancel (by omega)] at this
    rw [after_6, after_6, h1]
  rw [← after_6, (dats m 0 c).before_out_traj 6 rfl (fun _ _ => rfl) hcarry t.val t rfl d, fresh6 t.val t.isLt.le,
    if_neg (by rw [decide_eq_true_iff]; omega)]
  refine (hcarry t (by omega) ?_ ?_).symm
  · rw [idle6_iff]; omega
  · rw [fresh6 t.val t.isLt.le, decide_eq_false_iff_not]; omega

/-- The block of normed rows holds the row's at every point's end, whether the point stores it or keeps it. -/
theorem leaves_6 (c : Dev nD) (t : Fin cfg0.N) :
    owns (c : Thread nD τ) (st0_6 t) fullShare (hAt m c t.val) ⊢ ((dats m 0 c).leavesExact 6 t : sProp 𝕄) := by
  have e := after_6 m c t
  unfold Dat.leavesExact
  by_cases h : t.val % 4 = 0
  · have hi : cfg0.idle 6 (cfg0.grid.coords t) = false := by rw [← Bool.not_eq_true, idle6_iff]; omega
    rw [hi, e]
  · have hi : cfg0.idle 6 (cfg0.grid.coords t) = true := by rw [idle6_iff]; exact h
    rw [hi]
    cases hf : (cfg0.win 6).flush t
    · iintro H
      iexists hAt m c t.val
      rw [before_6 m c t h]
      iexact H
    · rw [e]

/-- What the body is called with at a point, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ (dats m 0 c).leavesExact 6 t)

theorem hOut_eq (c : Dev nD) (t : Fin cfg0.N) (X : Vec F S512x4096 .bf16) (hX : t.val % 4 ≠ 0 → X = hAt m c t.val) :
    hOut (grid0.coords t) (iblk m c 0 t) (iblk m c 1 t) (iblk m c 2 t) (iblk m c 3 t) X = hAt m c t.val := by
  unfold hOut
  by_cases h : t.val % 4 = 0
  · rw [if_pos ((cond1_iff t).2 h)]; unfold hAt; rw [rowPt_first t h]
  · rw [if_neg (fun h' => h ((cond1_iff t).1 h')), hX h]

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).owesAt () t.succ = (dats m 0 c).owesAt () t.castSucc from rfl,
    after_0, after_1, after_2, after_3, after_4, after_5]
  rw [show (dats m 0 c).Φ t.succ = (dats m 0 c).Φ t.castSucc from rfl]
  iintro ⟨Hr, Ho, ⟨%d0, H0⟩, ⟨%d1, H1⟩, ⟨%d2, H2⟩, ⟨%d3, H3⟩, ⟨%d4, H4⟩, ⟨%d5, H5⟩, ⟨%d6, H6⟩⟩
  iapply (run c (grid0.coords t) _ _ _ _ _ _ _ _ _ _ _ _ _ _ Set.univ (iblk m c 0 t) (iblk m c 1 t) (iblk m c 2 t) (iblk m c 3 t) (iblk m c 4 t)
    ((dats m 0 c).before 6 t d6) _)
  rw [hOut_eq m c t _ fun h => before_6 m c t h d6]
  isplitl [H0]; · iexact H0
  isplitl [H1]; · iexact H1
  isplitl [H2]; · iexact H2
  isplitl [H3]; · iexact H3
  isplitl [H4]; · iexact H4
  isplitl [H5]; · iexists _; iexact H5
  isplitl [H6]; · iexact H6
  iintro ⟨H0, H1, H2, H3, H4, H5, H6⟩
  isplitl [Hr]; · iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  iapply (leaves_6 m c t); iexact H6

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch: every array at what the pipeline computes, every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := fun _ => .rfl) (hout := fun _ => .rfl)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The frame: the arguments unchanged, every counter at zero. -/
theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.Proof.Query

end
-- ==== Proof.QueryReference.lean ====
/-
  The experts' query projection: the normed and modulated rows and their product with the weights, as plain functions,
  and that the reference computes them.
-/
module

public import proofs.«01_k».proof.Proof.NormSpec
public import proofs.«01_k».proof.Proof.Gen.Reference4Ideal.Read

@[expose] public section

noncomputable section

namespace Cert.Proof.Query

open Cert.Reference4Ideal Cert.Reference4Ideal.Gen Cert.Reference4Ideal.Read
open Cert.Proof.Norm (Input Gains Mods invRms width tiny one)
open Idealize.ShloMosaic Idealize.ShloMosaic.ValueIdx
open scoped BigOperators

/-! ## What both programs compute -/

/-- The weights. -/
abbrev Weights : Type := (⟨2, ![4096, 2048]⟩ : Shape).Idx → EReal

/-- The normalised row, scaled by the fifth stretch of the modulation row and shifted by the fourth. -/
def normed (x : Input) (g : Gains) (s : Mods) (b : Fin 4) (p : Fin 2048) (d : Fin 4096) : EReal :=
  x (ix3 b p d) * invRms x b p * g (ix1 d) * (one + s (ix2 b ⟨16384 + d.val, by omega⟩)) + s (ix2 b ⟨12288 + d.val, by omega⟩)

/-- One entry of its product with the weights. -/
def entry (x : Input) (g : Gains) (s : Mods) (w : Weights) (b : Fin 4) (p : Fin 2048) (q : Fin 2048) : EReal :=
  ∑ k : Fin 4096, normed x g s b p k * w (ix2 k q)

/-- The normalised rows of all batch elements, one below the other, -/
def rows (x : Input) (g : Gains) (s : Mods) : (⟨2, ![8192, 4096]⟩ : Shape).Idx → EReal :=
  fun j => normed x g s ⟨(j 0).val / 2048, by have : (j 0).val < 8192 := (j 0).isLt; omega⟩ ⟨(j 0).val % 2048, by omega⟩ (j 1)

/-- and the whole product. -/
def product (x : Input) (g : Gains) (s : Mods) (w : Weights) : (⟨2, ![8192, 2048]⟩ : Shape).Idx → EReal :=
  fun j => entry x g s w ⟨(j 0).val / 2048, by have : (j 0).val < 8192 := (j 0).isLt; omega⟩ ⟨(j 0).val % 2048, by omega⟩ (j 1)

theorem rows_apply (x : Input) (g : Gains) (s : Mods) (b : Fin 4) (p : Fin 2048) (d : Fin 4096) (j)
    (h0 : (j 0).val = 2048 * b.val + p.val) (h1 : (j 1).val = d.val) : rows x g s j = normed x g s b p d := by
  unfold rows
  rw [show j 1 = d from Fin.ext h1]
  refine congrArg₂ (fun b p => normed x g s b p d) (Fin.ext ?_) (Fin.ext ?_)
  · show (j 0).val / 2048 = b.val; omega
  · show (j 0).val % 2048 = p.val; omega

theorem product_apply (x : Input) (g : Gains) (s : Mods) (w : Weights) (b : Fin 4) (p : Fin 2048) (q : Fin 2048) (j)
    (h0 : (j 0).val = 2048 * b.val + p.val) (h1 : (j 1).val = q.val) : product x g s w j = entry x g s w b p q := by
  unfold product
  rw [show j 1 = q from Fin.ext h1]
  refine congrArg₂ (fun b p => entry x g s w b p q) (Fin.ext ?_) (Fin.ext ?_)
  · show (j 0).val / 2048 = b.val; omega
  · show (j 0).val % 2048 = p.val; omega

/-! ## The reference's stages at an index -/

variable (x : (⟨S4x2048x4096, .f32⟩ : BufTy).Contents (Elt Ideal)) (g : (⟨S4096, .f32⟩ : BufTy).Contents (Elt Ideal))
  (s : (⟨S4x24576, .f32⟩ : BufTy).Contents (Elt Ideal)) (w : (⟨S4096x2048, .f32⟩ : BufTy).Contents (Elt Ideal))

theorem ref_invRms (b : Fin 4) (p : Fin 2048) : val_main_v14 (F := Ideal) x (ix3 b p 0) = invRms x b p := by
  rw [val_main_v14_apply, val_main_v13_apply, val_main_v11_apply, val_main_v9_apply, val_main_v8_apply, val_main_v10_apply,
    val_main_v12_apply, val_main_cst_apply, val_main_cst_0_apply, val_main_cst_1_apply]
  show Ideal.rsqrt (Ideal.div (Ideal.ofBits .f32 0x00000000#32 + ∑ k : Fin 4096, _) (Ideal.ofBits .f32 _) + Ideal.ofBits .f32 _) = _
  rw [Ideal.ofBits_zero_f32, zero_add]
  unfold invRms width tiny
  refine congrArg (fun z => Ideal.rsqrt (Ideal.div z _ + _)) (Finset.sum_congr rfl fun k _ => ?_)
  rw [val_main_v7_apply]
  have e : idx_main_v8 (idx_main_v9 (ix3 b p 0)) k = ix3 b p k :=
    funext fun a => match a with | ⟨0, _⟩ => rfl | ⟨1, _⟩ => rfl | ⟨2, _⟩ => rfl
  rw [e]
  rfl

theorem ref_normed (b : Fin 4) (p : Fin 2048) (d : Fin 4096) :
    val_main_v25 (F := Ideal) x g s (ix3 b p d) = normed x g s b p d := by
  rw [val_main_v25_apply, val_main_v23_apply, val_main_v19_apply, val_main_v16_apply, val_main_v15_apply, val_main_v18_apply,
    val_main_v17_apply, val_main_v22_apply, val_main_v21_apply, val_main_v20_apply, val_main_cst_2_apply, val_main_v5_apply,
    val_main_v24_apply, val_main_v4_apply, val_main_v0_apply, val_main_v0_apply]
  have e1 : idx_main_v15 (ix3 b p d) = ix3 b p 0 := funext fun a => match a with | ⟨0, _⟩ => rfl | ⟨1, _⟩ => rfl | ⟨2, _⟩ => rfl
  have e2 : idx_main_v17 (idx_main_v18 (ix3 b p d)) = ix1 d := funext fun a => match a with | ⟨0, _⟩ => rfl
  have e3 : idx_main_v0 (idx_main_v5 (idx_main_v22 (ix3 b p d))) = ix2 b ⟨16384 + d.val, by omega⟩ :=
    funext fun a => match a with | ⟨0, _⟩ => rfl | ⟨1, _⟩ => rfl
  have e4 : idx_main_v0 (idx_main_v4 (idx_main_v24 (ix3 b p d))) = ix2 b ⟨12288 + d.val, by omega⟩ :=
    funext fun a => match a with | ⟨0, _⟩ => rfl | ⟨1, _⟩ => rfl
  rw [e1, e2, e3, e4, ref_invRms]
  rfl

theorem ref_normed_of (i : S4x2048x4096.Idx) (b : Fin 4) (p : Fin 2048) (d : Fin 4096) (h0 : (i 0).val = b.val)
    (h1 : (i 1).val = p.val) (h2 : (i 2).val = d.val) : val_main_v25 (F := Ideal) x g s i = normed x g s b p d := by
  rw [← ref_normed x g s]
  refine congrArg _ (funext fun a => Fin.ext ?_)
  match a with
  | ⟨0, _⟩ => exact h0
  | ⟨1, _⟩ => exact h1
  | ⟨2, _⟩ => exact h2

theorem ref_entry (b : Fin 4) (p : Fin 2048) (q : Fin 2048) :
    val_main_v26 (F := Ideal) x g s w (ix3 b p q) = entry x g s w b p q := by
  rw [val_main_v26_apply]
  refine Finset.sum_congr rfl fun k _ => ?_
  have e1 : lidx_main_v26 (ix3 b p q) k = ix3 b p k := funext fun a => match a with | ⟨0, _⟩ => rfl | ⟨1, _⟩ => rfl | ⟨2, _⟩ => rfl
  have e2 : ridx_main_v26 (ix3 b p q) k = ix2 k q := funext fun a => match a with | ⟨0, _⟩ => rfl | ⟨1, _⟩ => rfl
  rw [e1, e2, ref_normed]

theorem ref_entry_of (i : S4x2048x2048.Idx) (b : Fin 4) (p : Fin 2048) (q : Fin 2048) (h0 : (i 0).val = b.val)
    (h1 : (i 1).val = p.val) (h2 : (i 2).val = q.val) : val_main_v26 (F := Ideal) x g s w i = entry x g s w b p q := by
  rw [← ref_entry x g s w]
  refine congrArg _ (funext fun a => Fin.ext ?_)
  match a with
  | ⟨0, _⟩ => exact h0
  | ⟨1, _⟩ => exact h1
  | ⟨2, _⟩ => exact h2

/-! ## The two results -/

theorem ref_product : val_main_v27 (F := Ideal) x g s w = product x g s w := by
  funext i
  rw [val_main_v27_apply]
  have h0 : (i 0).val < 8192 := (i 0).isLt
  have h1 : (i 1).val < 2048 := (i 1).isLt
  refine ref_entry_of x g s w _ _ _ _ ?_ ?_ ?_
  all_goals (simp only [idx_main_v27]; omega)

theorem ref_rows : val_main_v29 (F := Ideal) x g s = rows x g s := by
  funext i
  show val_main_v28 (F := Ideal) x g s i = _
  rw [val_main_v28_apply]
  have h0 : (i 0).val < 8192 := (i 0).isLt
  have h1 : (i 1).val < 4096 := (i 1).isLt
  refine ref_normed_of x g s _ _ _ _ ?_ ?_ ?_
  all_goals (simp only [idx_main_v28]; omega)

end Cert.Proof.Query
-- ==== Proof.QueryValue.lean ====
/-
  The experts' query projection: the two arrays its launch leaves, as functions of the arrays it is given.
-/
module

public import proofs.«01_k».proof.Proof.QueryLaunched
public import proofs.«01_k».proof.Proof.QueryReference
public import Idealize.ShloMosaic.Lib.ValueLayoutCasts
public import Idealize.ShloMosaic.Lib.MatmulPlain
public import Idealize.ShloMosaic.Lib.IdealHost
public import Idealize.ShloMosaic.Lib.Pipeline.ValueKit
public import Idealize.ShloMosaic.Lib.Pipeline.ValueKit.Partial

@[expose] public section

set_option maxHeartbeats 1000000

noncomputable section

namespace Cert.Proof.Query

open Cert.Kernel4Ideal Cert.Kernel4Ideal.Gen
open Cert.Proof.Norm (Input Gains Mods invRms width tiny one)
open Idealize.ShloMosaic hiding ix1 ix2 ix3 ix4
open Idealize.ShloMosaic.TcCoe Idealize.ShloMosaic.ValueIdx Idealize.SL.Sem
open scoped BigOperators

variable (m : (ℓ : Loc nD τ sig) → Buf (Elt Ideal) ℓ)

/-! ## The arrays the call is given -/

abbrev input (c : Dev nD) : Input := m ((c.tc : Thread nD τ).loc main_arg0)
abbrev gains (c : Dev nD) : Gains := m ((c.tc : Thread nD τ).loc main_arg1)
abbrev mods (c : Dev nD) : Mods := m ((c.tc : Thread nD τ).loc main_arg2)
abbrev weights (c : Dev nD) : Weights := m ((c.tc : Thread nD τ).loc main_arg3)

theorem V_1 (c : Dev nD) : V m c main_v1 = shapeCast S8192x4096 (m ((c : Thread nD τ).loc main_arg0)) shapeCasts_S4x2048x4096_S8192x4096 := by
  show StableHlo.after hostOps0 (fun b => m (c, b)) main_v1 = _
  after_results
  rfl
theorem V_2 (c : Dev nD) : V m c main_v2 = m ((c : Thread nD τ).loc main_arg3) := by
  show StableHlo.after hostOps0 (fun b => m (c, b)) main_v2 = _
  after_results
  rfl
theorem V_0 (c : Dev nD) : V m c main_v0 = shapeCast S4x1x24576 (m ((c : Thread nD τ).loc main_arg2)) shapeCasts_S4x24576_S4x1x24576 := by
  show StableHlo.after hostOps0 (fun b => m (c, b)) main_v0 = _
  after_results
  rfl
theorem V_3 (c : Dev nD) : V m c main_v3 = shapeCast S1x4096 (m ((c : Thread nD τ).loc main_arg1)) shapeCasts_S4096_S1x4096 := by
  show StableHlo.after hostOps0 (fun b => m (c, b)) main_v3 = _
  after_results
  rfl
theorem V_1_apply (c : Dev nD) (j) (b : Fin 4) (p : Fin 2048) (d : Fin 4096) (h0 : (j 0).val = 2048 * b.val + p.val) (h1 : (j 1).val = d.val) :
    V m c main_v1 j = input m c (ix3 b p d) := by
  rw [V_1]
  refine shapeCast_apply _ _ _ _ ?_
  refine (Shape.rowMajor_val_three (d := ![4, 2048, 4096]) _).trans (Eq.trans ?_ (Shape.rowMajor_val_two (d := ![8192, 4096]) _).symm)
  show (b.val * 2048 + p.val) * 4096 + d.val = (j 0).val * 4096 + (j 1).val
  omega
theorem V_0_apply (c : Dev nD) (j) (b : Fin 4) (d : Fin 24576) (h0 : (j 0).val = b.val) (h1 : (j 1).val = 0) (h2 : (j 2).val = d.val) :
    V m c main_v0 j = mods m c (ix2 b d) := by
  rw [V_0]
  refine shapeCast_apply _ _ _ _ ?_
  refine (Shape.rowMajor_val_two (d := ![4, 24576]) _).trans (Eq.trans ?_ (Shape.rowMajor_val_three (d := ![4, 1, 24576]) _).symm)
  show b.val * 24576 + d.val = ((j 0).val * 1 + (j 1).val) * 24576 + (j 2).val
  omega
theorem V_3_apply (c : Dev nD) (j) (d : Fin 4096) (h0 : (j 0).val = 0) (h1 : (j 1).val = d.val) :
    V m c main_v3 j = gains m c (ix1 d) := by
  rw [V_3]
  refine shapeCast_apply _ _ _ _ ?_
  refine (Shape.rowMajor_val_one (d := ![4096]) _).trans (Eq.trans ?_ (Shape.rowMajor_val_two (d := ![1, 4096]) _).symm)
  show d.val = (j 0).val * 4096 + (j 1).val
  omega

/-! ## The blocks of a grid point -/

theorem idx_0 : ∀ t : Fin cfg0.N, win0_0.index t 0 = t.val / 4 ∧ win0_0.index t 1 = 0 := by decide +kernel
theorem idx_1 : ∀ t : Fin cfg0.N, win0_1.index t 0 = 0 ∧ win0_1.index t 1 = 0 := by decide +kernel
theorem idx_2 : ∀ t : Fin cfg0.N, win0_2.index t 0 = t.val / 16 ∧ win0_2.index t 1 = 0 ∧ win0_2.index t 2 = 4 := by decide +kernel
theorem idx_3 : ∀ t : Fin cfg0.N, win0_3.index t 0 = t.val / 16 ∧ win0_3.index t 1 = 0 ∧ win0_3.index t 2 = 3 := by decide +kernel
theorem idx_4 : ∀ t : Fin cfg0.N, win0_4.index t 0 = 0 ∧ win0_4.index t 1 = t.val % 4 := by decide +kernel
theorem idx_5 : ∀ t : Fin cfg0.N, win0_5.index t 0 = t.val / 4 ∧ win0_5.index t 1 = t.val % 4 := by decide +kernel
theorem idx_6 : ∀ t : Fin cfg0.N, win0_6.index t 0 = t.val / 4 ∧ win0_6.index t 1 = 0 := by decide +kernel

/-- The batch element of a grid point, and the position of a row of its block. -/
def bat (t : Fin cfg0.N) : Fin 4 := ⟨t.val / 16, by have := lt64 t; omega⟩
def pos (t : Fin cfg0.N) (r : Fin 512) : Fin 2048 := ⟨512 * (t.val / 4 % 4) + r.val, by omega⟩

theorem iblk_0 (c : Dev nD) (t : Fin cfg0.N) (r : Fin 512) (d : Fin 4096) :
    iblk m c 0 t (ix2 r d) = input m c (ix3 (bat t) (pos t r) d) := by
  unfold iblk
  rw [View.read_apply]
  obtain ⟨h0, h1⟩ := idx_0 t
  refine V_1_apply m c _ _ _ _ ?_ ?_
  · blk_simp; rw [h0]; show t.val / 4 * 512 + r.val = 2048 * (t.val / 16) + (512 * (t.val / 4 % 4) + r.val); omega
  · blk_simp; rw [h1]; show 0 * 4096 + d.val = d.val; omega
theorem iblk_1 (c : Dev nD) (t : Fin cfg0.N) (d : Fin 4096) : iblk m c 1 t (ix2 (0 : Fin 1) d) = gains m c (ix1 d) := by
  unfold iblk
  rw [View.read_apply]
  obtain ⟨h0, h1⟩ := idx_1 t
  refine V_3_apply m c _ _ ?_ ?_
  · blk_simp; rw [h0]
  · blk_simp; rw [h1]; show 0 * 4096 + d.val = d.val; omega
theorem iblk_2 (c : Dev nD) (t : Fin cfg0.N) (d : Fin 4096) :
    iblk m c 2 t (ix3 (0 : Fin 1) (0 : Fin 1) d) = mods m c (ix2 (bat t) ⟨16384 + d.val, by omega⟩) := by
  unfold iblk
  rw [View.read_apply]
  obtain ⟨h0, h1, h2⟩ := idx_2 t
  refine V_0_apply m c _ _ _ ?_ ?_ ?_
  · blk_simp; rw [h0]; rfl
  · blk_simp; rw [h1]
  · blk_simp; rw [h2]; show 4 * 4096 + d.val = 16384 + d.val; omega
theorem iblk_3 (c : Dev nD) (t : Fin cfg0.N) (d : Fin 4096) :
    iblk m c 3 t (ix3 (0 : Fin 1) (0 : Fin 1) d) = mods m c (ix2 (bat t) ⟨12288 + d.val, by omega⟩) := by
  unfold iblk
  rw [View.read_apply]
  obtain ⟨h0, h1, h2⟩ := idx_3 t
  refine V_0_apply m c _ _ _ ?_ ?_ ?_
  · blk_simp; rw [h0]; rfl
  · blk_simp; rw [h1]
  · blk_simp; rw [h2]; show 3 * 4096 + d.val = 12288 + d.val; omega
theorem iblk_4 (c : Dev nD) (t : Fin cfg0.N) (k : Fin 4096) (q : Fin 512) :
    iblk m c 4 t (ix2 k q) = weights m c (ix2 k ⟨512 * (t.val % 4) + q.val, by omega⟩) := by
  unfold iblk
  rw [View.read_apply]
  obtain ⟨h0, h1⟩ := idx_4 t
  refine (congrFun (V_2 m c) _).trans (congrArg (m ((c.tc : Thread nD τ).loc main_arg3)) (funext fun a => Fin.ext ?_))
  match a with
  | ⟨0, _⟩ => blk_simp; rw [h0]; show 0 * 4096 + k.val = k.val; omega
  | ⟨1, _⟩ => blk_simp; rw [h1]; show t.val % 4 * 512 + q.val = 512 * (t.val % 4) + q.val; omega

/-! ## What a point stores, at an index -/

theorem rowSum_apply (y : FVec Ideal S512x4096 .f32) (r : Fin 512) :
    multiReduction .add [1] S512 y 0x00000000#32 reduces_S512x4096_S512 (.inl rfl) rfl (ix1 r) = ∑ k : Fin 4096, y (ix2 r k) := by
  refine (Ideal.multiReduction_add_single y _ _ _ _ (ix1 r)).trans ?_
  refine Finset.sum_congr rfl fun k _ => congrArg y (funext fun a => Fin.ext ?_)
  match a with
  | ⟨0, _⟩ => rfl
  | ⟨1, _⟩ => rfl

theorem col_apply (y : FVec Ideal S512x1 .f32) (r : Fin 512) (d : Fin 4096) :
    broadcastTo S512x4096 y broadcasts_S512x1_S512x4096 (ix2 r d) = y (ix2 r 0) :=
  broadcastTo_apply y _ _ _ fun a => by
    match a with
    | ⟨0, _⟩ => rfl
    | ⟨1, _⟩ => rfl

theorem row_apply (y : FVec Ideal S1x4096 .f32) (r : Fin 512) (d : Fin 4096) :
    broadcastTo S512x4096 y broadcasts_S1x4096_S512x4096 (ix2 r d) = y (ix2 0 d) :=
  broadcastTo_1b_ab_apply y _ r d

theorem pay1_apply (x : Vec Ideal S512x4096 .f32) (g : Vec Ideal S1x4096 .f32) (sc sh : Vec Ideal S1x1x4096 .f32) (r : Fin 512) (d : Fin 4096) :
    k0_pay1 (F := Ideal) x g sc sh (ix2 r d)
      = x (ix2 r d) * Ideal.rsqrt (Ideal.div (∑ k : Fin 4096, x (ix2 r k) * x (ix2 r k)) width + tiny) * g (ix2 0 d)
          * (one + sc (ix3 0 0 d)) + sh (ix3 0 0 d) := by
  unfold k0_pay1
  rw [shapeCast_self, shapeCast_self]
  show x (ix2 r d) * broadcastTo S512x4096 _ broadcasts_S512x1_S512x4096 (ix2 r d)
      * broadcastTo S512x4096 g broadcasts_S1x4096_S512x4096 (ix2 r d)
      * broadcastTo S512x4096 _ broadcasts_S1x4096_S512x4096 (ix2 r d)
      + broadcastTo S512x4096 _ broadcasts_S1x4096_S512x4096 (ix2 r d) = _
  rw [col_apply, row_apply, row_apply, row_apply]
  show x (ix2 r d) * Ideal.rsqrt (Ideal.div (shapeCast S512x1 _ shapeCasts_S512_S512x1 (ix2 r 0)) width + tiny) * g (ix2 0 d)
      * (one + shapeCast S1x4096 sc shapeCasts_S1x1x4096_S1x4096 (ix2 0 d)) + shapeCast S1x4096 sh shapeCasts_S1x1x4096_S1x4096 (ix2 0 d) = _
  rw [shapeCast_1ab_ab_apply sc, shapeCast_1ab_ab_apply sh, shapeCast_a_a1_apply, rowSum_apply]
  rfl

theorem pay2_apply (h : Vec Ideal S512x4096 .bf16) (w : Vec Ideal S4096x512 .bf16) (r q : Fin 512) :
    k0_pay2 (F := Ideal) h w (ix2 r q) = ∑ k : Fin 4096, h (ix2 r k) * w (ix2 k q) := by
  unfold k0_pay2
  rw [shapeCast_self, shapeCast_self]
  refine (Ideal.matmul_plain_apply (M := 512) (K := 4096) (N := 512) none h w _ r q).trans ?_
  rw [ValueIdx.constant_apply, Ideal.ofBits_zero_f32, zero_add]

theorem rowPt_div (t : Fin cfg0.N) : (rowPt t.val).val / 4 = t.val / 4 := by
  have := lt64 t
  show (t.val - t.val % 4) % 64 / 4 = t.val / 4
  omega

theorem hAt_apply (c : Dev nD) (t : Fin cfg0.N) (r : Fin 512) (d : Fin 4096) :
    hAt m c t.val (ix2 r d) = normed (input m c) (gains m c) (mods m c) (bat t) (pos t r) d := by
  have e := rowPt_div t
  have eb : bat (rowPt t.val) = bat t := Fin.ext (by show (rowPt t.val).val / 16 = t.val / 16; omega)
  have ep : pos (rowPt t.val) = pos t := funext fun r => Fin.ext (by
    show 512 * ((rowPt t.val).val / 4 % 4) + r.val = 512 * (t.val / 4 % 4) + r.val; rw [e])
  unfold hAt
  rw [pay1_apply, iblk_1, iblk_2, iblk_3, eb]
  simp only [iblk_0]
  rw [eb, ep]
  rfl

theorem stored (c : Dev nD) (t u : Fin cfg0.N) (r q : Fin 512) :
    (∑ k : Fin 4096, hAt m c t.val (ix2 r k) * iblk m c 4 u (ix2 k q))
      = entry (input m c) (gains m c) (mods m c) (weights m c) (bat t) (pos t r) ⟨512 * (u.val % 4) + q.val, by omega⟩ :=
  Finset.sum_congr rfl fun k _ => by rw [hAt_apply, iblk_4]

/-! ## The arrays the call leaves -/

theorem arr_product (c : Dev nD) :
    (dats m 0 c).arrAt 5 cfg0.N = product (input m c) (gains m c) (mods m c) (weights m c) := by
  refine (dats m 0 c).arrAt_eq_of_covers 5 (product (input m c) (gains m c) (mods m c) (weights m c)) (by decide +kernel) fun t hf y => ?_
  blk_simp
  rw [after_5]
  obtain ⟨r, q, rfl⟩ : ∃ (r q : Fin 512), y = ix2 r q := ⟨y 0, y 1, ValueIdx.eq_ix2 y⟩
  obtain ⟨h0, h1⟩ := idx_5 t
  rw [pay2_apply, stored]
  refine (product_apply _ _ _ _ _ _ _ _ ?_ ?_).symm
  · blk_simp; rw [h0]; show t.val / 4 * 512 + r.val = 2048 * (t.val / 16) + (512 * (t.val / 4 % 4) + r.val); omega
  · blk_simp; rw [h1]; show t.val % 4 * 512 + q.val = 512 * (t.val % 4) + q.val; omega

theorem arr_rows (c : Dev nD) : (dats m 0 c).arrAt 6 cfg0.N = rows (input m c) (gains m c) (mods m c) := by
  refine (dats m 0 c).arrAt_eq_of_covers 6 (rows (input m c) (gains m c) (mods m c)) (by decide +kernel) fun t hf y => ?_
  blk_simp
  rw [after_6]
  obtain ⟨r, d, rfl⟩ : ∃ (r : Fin 512) (d : Fin 4096), y = ix2 r d := ⟨y 0, y 1, ValueIdx.eq_ix2 y⟩
  obtain ⟨h0, h1⟩ := idx_6 t
  refine Eq.trans (hAt_apply m c t r d) ?_
  refine (rows_apply _ _ _ _ _ _ _ ?_ ?_).symm
  · blk_simp; rw [h0]; show t.val / 4 * 512 + r.val = 2048 * (t.val / 16) + (512 * (t.val / 4 % 4) + r.val); omega
  · blk_simp; rw [h1]; show 0 * 4096 + d.val = d.val; omega

end Cert.Proof.Query
-- ==== Proof.QueryClaims.lean ====
module

public import proofs.«01_k».proof.Defs
public import proofs.«01_k».proof.Proof.Gen.Kernel4
public import proofs.«01_k».proof.Proof.Gen.Reference4Ideal.Run
public import proofs.«01_k».proof.Proof.QueryValue
public import proofs.«01_k».proof.Proof.QueryReference
public import Idealize.ShloMosaic.Lib.Quiescent

@[expose] public section

set_option maxHeartbeats 1000000

noncomputable section

/-! The claims of the experts' query projection: its frames, and that kernel and reference give the same two arrays. -/

namespace Cert.Proof.Query

open Idealize.ShloMosaic hiding ix1 ix2 ix3 ix4
open Idealize.ShloMosaic.TcCoe Idealize.ShloMosaic.ValueIdx Idealize.SL.Sem

/-! ## The frames -/

/-! The two programs have one text, so one run serves for both. -/

section

variable {F : FTy → Type} [FloatOps F]
attribute [local instance] Cert.Kernel4.Gen.facts Cert.Kernel4Ideal.Gen.facts
set_option maxRecDepth 16384

theorem body_eq : @Cert.Kernel4.cc0_normproj_h F _ _ = @Cert.Kernel4Ideal.cc0_normproj_h F _ _ := rfl

theorem calls_eq : Cert.Kernel4.defs₀ (F := F) = Cert.Kernel4Ideal.defs₀ (F := F) := by
  unfold Cert.Kernel4.defs₀ Cert.Kernel4Ideal.defs₀
  rw [body_eq]
  refine congrArg Defs.onTc (funext fun l => funext fun p => ?_)
  match l, p with
  | 0, (t, s) => rfl
  | ⟨_ + 1, h⟩, _ => exact absurd h (Nat.not_lt.2 (Nat.le_add_left _ _))

theorem defs_eq : Cert.Kernel4.defs (F := F) = Cert.Kernel4Ideal.defs (F := F) := by
  unfold Cert.Kernel4.defs Cert.Kernel4Ideal.defs
  rw [calls_eq]
  rfl

end

theorem frame_kernel : Cert.quiescent_Kernel4 (hKernel4 := Cert.Kernel4.Gen.facts) := fun m ρ _ => by
  rw [defs_eq]
  exact (θ_run Cert.Kernel4Ideal.defs _ _).mono (fun _ h => h) (frame_all (F := Bits) m ρ)

theorem frame_ideal : Cert.quiescent_Kernel4Ideal (hKernel4Ideal := Cert.Kernel4Ideal.Gen.facts) := fun m ρ _ => frame_all m ρ

theorem frame_reference : Cert.quiescent_Reference4Ideal (hReference4Ideal := Cert.Reference4Ideal.Gen.facts) := fun m ρ _ =>
  (θ_run Cert.Reference4Ideal.defs _ _).mono (fun r h => ⟨fun c => (h c).2.2, sem_eq_zero_of_no_sems (by decide) _⟩)
    (Cert.Reference4Ideal.Value.run m ρ)

/-! ## The value -/

theorem equal : Cert.algebraic_Kernel4Ideal_Reference4Ideal
    (hKernel4Ideal := Cert.Kernel4Ideal.Gen.facts) (hReference4Ideal := Cert.Reference4Ideal.Gen.facts) := by
  intro m ρ m' ρ' _ hagree
  refine ⟨fun c => product (input m c) (gains m c) (mods m c) (weights m c), fun c => rows (input m c) (gains m c) (mods m c), ?_, ?_⟩
  · exact (θ_run Cert.Kernel4Ideal.defs _ _).mono
      (fun r h c => ⟨((h.2 c).1 5).trans (arr_product m c), ((h.2 c).1 6).trans (arr_rows m c), h.1 c⟩)
      (θ_run_and (unchanged m ρ) (run_main m ρ))
  · refine (θ_run Cert.Reference4Ideal.defs _ _).mono
      (fun r h c => ⟨((h c).1).trans ?_, ((h c).2.1).trans ?_, (h c).2.2⟩)
      (Cert.Reference4Ideal.Value.run m' ρ')
    all_goals obtain ⟨h0, h1, h2, h3⟩ := hagree c
    · rw [Cert.Reference4Ideal.Read.val_main_v27_eq, h0, h1, h2, h3]
      exact ref_product _ _ _ _
    · rw [Cert.Reference4Ideal.Read.val_main_v29_eq, h0, h1, h2]
      exact ref_rows _ _ _

end Cert.Proof.Query

end
-- ==== Proof.FinalReference.lean ====
/-
  The final norm: what kernel and reference compute, and that the reference computes it.
-/
module

public import proofs.«01_k».proof.Proof.NormSpec
public import proofs.«01_k».proof.Proof.Gen.Reference5Ideal.Read

@[expose] public section

noncomputable section

namespace Cert.Proof.Final

open Cert.Reference5Ideal Cert.Reference5Ideal.Gen Cert.Reference5Ideal.Read
open Idealize.ShloMosaic Idealize.ShloMosaic.ValueIdx
open Cert.Proof.Norm (Input Gains invRms width tiny)
open scoped BigOperators

/-- One entry: the layers' output over the root of its row's mean square, times the feature's gain. -/
def entry (x : Input) (g : Gains) (b : Fin 4) (p : Fin 2048) (d : Fin 4096) : EReal :=
  x (ix3 b p d) * invRms x b p * g (ix1 d)

/-- The whole array, the positions of all batch elements one below the other. -/
def rows (x : Input) (g : Gains) : (⟨2, ![8192, 4096]⟩ : Shape).Idx → EReal :=
  fun j => entry x g ⟨(j 0).val / 2048, by have : (j 0).val < 8192 := (j 0).isLt; omega⟩ ⟨(j 0).val % 2048, by omega⟩ (j 1)

theorem rows_apply (x : Input) (g : Gains) (b : Fin 4) (p : Fin 2048) (d : Fin 4096) (j)
    (h0 : (j 0).val = 2048 * b.val + p.val) (h1 : (j 1).val = d.val) : rows x g j = entry x g b p d := by
  unfold rows
  rw [show j 1 = d from Fin.ext h1]
  refine congrArg₂ (fun b p => entry x g b p d) (Fin.ext ?_) (Fin.ext ?_)
  · show (j 0).val / 2048 = b.val; omega
  · show (j 0).val % 2048 = p.val; omega

variable (x : (⟨S4x2048x4096, .f32⟩ : BufTy).Contents (Elt Ideal)) (g : (⟨S4096, .f32⟩ : BufTy).Contents (Elt Ideal))

theorem ref_invRms (b : Fin 4) (p : Fin 2048) : val_main_v7 (F := Ideal) x (ix3 b p 0) = invRms x b p := by
  rw [val_main_v7_apply, val_main_v6_apply, val_main_v4_apply, val_main_v2_apply, val_main_v1_apply, val_main_v3_apply,
    val_main_v5_apply, val_main_cst_apply, val_main_cst_0_apply, val_main_cst_1_apply]
  show Ideal.rsqrt (Ideal.div (Ideal.ofBits .f32 0x00000000#32 + ∑ k : Fin 4096, _) (Ideal.ofBits .f32 _) + Ideal.ofBits .f32 _) = _
  rw [Ideal.ofBits_zero_f32, zero_add]
  unfold invRms width tiny
  refine congrArg (fun z => Ideal.rsqrt (Ideal.div z _ + _)) (Finset.sum_congr rfl fun k _ => ?_)
  rw [val_main_v0_apply]
  have e : idx_main_v1 (idx_main_v2 (ix3 b p 0)) k = ix3 b p k :=
    funext fun a => match a with | ⟨0, _⟩ => rfl | ⟨1, _⟩ => rfl | ⟨2, _⟩ => rfl
  rw [e]
  rfl

theorem ref_entry (b : Fin 4) (p : Fin 2048) (d : Fin 4096) : val_main_v12 (F := Ideal) x g (ix3 b p d) = entry x g b p d := by
  rw [val_main_v12_apply, val_main_v9_apply, val_main_v8_apply, val_main_v11_apply, val_main_v10_apply]
  have e1 : idx_main_v8 (ix3 b p d) = ix3 b p 0 := funext fun a => match a with | ⟨0, _⟩ => rfl | ⟨1, _⟩ => rfl | ⟨2, _⟩ => rfl
  have e2 : idx_main_v10 (idx_main_v11 (ix3 b p d)) = ix1 d := funext fun a => match a with | ⟨0, _⟩ => rfl
  rw [e1, e2, ref_invRms]
  rfl

theorem ref_rows : val_main_v13 (F := Ideal) x g = rows x g := by
  funext i
  rw [val_main_v13_apply]
  have h0 : (i 0).val < 8192 := (i 0).isLt
  have h1 : (i 1).val < 4096 := (i 1).isLt
  refine Eq.trans (congrArg _ (funext fun a => Fin.ext ?_))
    (ref_entry x g ⟨(i 0).val / 2048, by omega⟩ ⟨(i 0).val % 2048, by omega⟩ ⟨(i 1).val, h1⟩)
  match a with
  | ⟨0, _⟩ => show ((i 0).val * 4096 + (i 1).val) / 8388608 = (i 0).val / 2048; omega
  | ⟨1, _⟩ => show ((i 0).val * 4096 + (i 1).val) / 4096 % 2048 = (i 0).val % 2048; omega
  | ⟨2, _⟩ => show ((i 0).val * 4096 + (i 1).val) % 4096 = (i 1).val; omega

end Cert.Proof.Final
-- ==== Proof.FinalValue.lean ====
/-
  The final norm's kernel: the array its launch leaves, as one function of the arrays it is given.
-/
module

public import proofs.«01_k».proof.Proof.Gen.Kernel5Ideal.Value
public import proofs.«01_k».proof.Proof.FinalReference
public import Idealize.ShloMosaic.Lib.ValueLayoutCasts
public import Idealize.ShloMosaic.Lib.IdealHost
public import Idealize.ShloMosaic.Lib.Pipeline.ValueKit

@[expose] public section

set_option maxHeartbeats 1000000

noncomputable section

namespace Cert.Proof.Final

open Cert.Kernel5Ideal Cert.Kernel5Ideal.Gen
open Idealize.ShloMosaic hiding ix1 ix2 ix3 ix4
open Idealize.ShloMosaic.TcCoe Idealize.ShloMosaic.ValueIdx Idealize.SL.Sem
open Cert.Proof.Norm (Input Gains invRms width tiny)
open scoped BigOperators

variable (m : (ℓ : Loc nD τ sig) → Buf (Elt Ideal) ℓ)

abbrev input (c : Dev nD) : Input := m ((c.tc : Thread nD τ).loc main_arg0)
abbrev gains (c : Dev nD) : Gains := m ((c.tc : Thread nD τ).loc main_arg1)

theorem V_0 (c : Dev nD) : V m c main_v0 = shapeCast S8192x4096 (m ((c : Thread nD τ).loc main_arg0)) shapeCasts_S4x2048x4096_S8192x4096 := by
  show StableHlo.after hostOps0 (fun b => m (c, b)) main_v0 = _
  after_results
  rfl
theorem V_1 (c : Dev nD) : V m c main_v1 = shapeCast S1x4096 (m ((c : Thread nD τ).loc main_arg1)) shapeCasts_S4096_S1x4096 := by
  show StableHlo.after hostOps0 (fun b => m (c, b)) main_v1 = _
  after_results
  rfl

theorem V_0_apply (c : Dev nD) (j) (b : Fin 4) (p : Fin 2048) (d : Fin 4096) (h0 : (j 0).val = 2048 * b.val + p.val) (h1 : (j 1).val = d.val) :
    V m c main_v0 j = input m c (ix3 b p d) := by
  rw [V_0]
  refine shapeCast_apply _ _ _ _ ?_
  refine (Shape.rowMajor_val_three (d := ![4, 2048, 4096]) _).trans (Eq.trans ?_ (Shape.rowMajor_val_two (d := ![8192, 4096]) _).symm)
  show (b.val * 2048 + p.val) * 4096 + d.val = (j 0).val * 4096 + (j 1).val
  omega
theorem V_1_apply (c : Dev nD) (j) (d : Fin 4096) (h0 : (j 0).val = 0) (h1 : (j 1).val = d.val) :
    V m c main_v1 j = gains m c (ix1 d) := by
  rw [V_1]
  refine shapeCast_apply _ _ _ _ ?_
  refine (Shape.rowMajor_val_one (d := ![4096]) _).trans (Eq.trans ?_ (Shape.rowMajor_val_two (d := ![1, 4096]) _).symm)
  show d.val = (j 0).val * 4096 + (j 1).val
  omega

theorem idx_0 : ∀ t : Fin cfg0.N, win0_0.index t 0 = t.val ∧ win0_0.index t 1 = 0 := by decide +kernel
theorem idx_1 : ∀ t : Fin cfg0.N, win0_1.index t 0 = 0 ∧ win0_1.index t 1 = 0 := by decide +kernel
theorem idx_2 : ∀ t : Fin cfg0.N, win0_2.index t 0 = t.val ∧ win0_2.index t 1 = 0 := by decide +kernel

theorem lt16 (t : Fin cfg0.N) : t.val < 16 := Nat.lt_of_lt_of_eq t.isLt N_0

/-- The batch element of a grid point, and the position of a row of its block. -/
def bat (t : Fin cfg0.N) : Fin 4 := ⟨t.val / 4, by have := lt16 t; omega⟩
def pos (t : Fin cfg0.N) (r : Fin 512) : Fin 2048 := ⟨512 * (t.val % 4) + r.val, by omega⟩

theorem iblk_0 (c : Dev nD) (t : Fin cfg0.N) (r : Fin 512) (d : Fin 4096) :
    iblk m c 0 t (ix2 r d) = input m c (ix3 (bat t) (pos t r) d) := by
  unfold iblk
  rw [View.read_apply]
  obtain ⟨h0, h1⟩ := idx_0 t
  refine V_0_apply m c _ _ _ _ ?_ ?_
  · blk_simp; rw [h0]; show t.val * 512 + r.val = 2048 * (t.val / 4) + (512 * (t.val % 4) + r.val); omega
  · blk_simp; rw [h1]; show 0 * 4096 + d.val = d.val; omega
theorem iblk_1 (c : Dev nD) (t : Fin cfg0.N) (d : Fin 4096) : iblk m c 1 t (ix2 (0 : Fin 1) d) = gains m c (ix1 d) := by
  unfold iblk
  rw [View.read_apply]
  obtain ⟨h0, h1⟩ := idx_1 t
  refine V_1_apply m c _ _ ?_ ?_
  · blk_simp; rw [h0]
  · blk_simp; rw [h1]; show 0 * 4096 + d.val = d.val; omega

theorem rowSum_apply (y : FVec Ideal S512x4096 .f32) (r : Fin 512) :
    multiReduction .add [1] S512 y 0x00000000#32 reduces_S512x4096_S512 (.inl rfl) rfl (ix1 r) = ∑ k : Fin 4096, y (ix2 r k) := by
  refine (Ideal.multiReduction_add_single y _ _ _ _ (ix1 r)).trans ?_
  refine Finset.sum_congr rfl fun k _ => congrArg y (funext fun a => Fin.ext ?_)
  match a with
  | ⟨0, _⟩ => rfl
  | ⟨1, _⟩ => rfl

theorem col_apply (y : FVec Ideal S512x1 .f32) (r : Fin 512) (d : Fin 4096) :
    broadcastTo S512x4096 y broadcasts_S512x1_S512x4096 (ix2 r d) = y (ix2 r 0) :=
  broadcastTo_apply y _ _ _ fun a => by
    match a with
    | ⟨0, _⟩ => rfl
    | ⟨1, _⟩ => rfl

theorem row_apply (y : FVec Ideal S1x4096 .f32) (r : Fin 512) (d : Fin 4096) :
    broadcastTo S512x4096 y broadcasts_S1x4096_S512x4096 (ix2 r d) = y (ix2 0 d) :=
  broadcastTo_1b_ab_apply y _ r d

theorem pay1_apply (x : Vec Ideal S512x4096 .f32) (g : Vec Ideal S1x4096 .f32) (r : Fin 512) (d : Fin 4096) :
    k0_pay1 (F := Ideal) x g (ix2 r d)
      = x (ix2 r d) * Ideal.rsqrt (Ideal.div (∑ k : Fin 4096, x (ix2 r k) * x (ix2 r k)) width + tiny) * g (ix2 0 d) := by
  unfold k0_pay1
  rw [shapeCast_self, shapeCast_self]
  show x (ix2 r d) * broadcastTo S512x4096 _ broadcasts_S512x1_S512x4096 (ix2 r d)
      * broadcastTo S512x4096 g broadcasts_S1x4096_S512x4096 (ix2 r d) = _
  rw [col_apply, row_apply]
  show x (ix2 r d) * Ideal.rsqrt (Ideal.div (shapeCast S512x1 _ shapeCasts_S512_S512x1 (ix2 r 0)) width + tiny) * g (ix2 0 d) = _
  rw [shapeCast_a_a1_apply, rowSum_apply]
  rfl

theorem out_eq (x : Vec Ideal S512x4096 .f32) (g : Vec Ideal S1x4096 .f32) : out0_2 (F := Ideal) x g = k0_pay1 x g := by
  unfold out0_2
  rw [View.canon_cons_unit_lit _ _ _ (by decide), View.ld_unit_lit _ _ (by decide), View.ld_unit_lit _ _ (by decide)]

/-- The array the call leaves. -/
theorem arr_rows (c : Dev nD) : (dats m 0 c).arrAt 2 cfg0.N = rows (input m c) (gains m c) := by
  refine (dats m 0 c).arrAt_eq_of_covers 2 (rows (input m c) (gains m c)) (by decide +kernel) fun t hf y => ?_
  blk_simp
  rw [after0_2, out_eq]
  obtain ⟨r, d, rfl⟩ : ∃ (r : Fin 512) (d : Fin 4096), y = ix2 r d := ⟨y 0, y 1, ValueIdx.eq_ix2 y⟩
  obtain ⟨h0, h1⟩ := idx_2 t
  rw [pay1_apply, iblk_1]
  simp only [iblk_0]
  refine (rows_apply _ _ (bat t) (pos t r) d _ ?_ ?_).symm
  · blk_simp; rw [h0]; show t.val * 512 + r.val = 2048 * (t.val / 4) + (512 * (t.val % 4) + r.val); omega
  · blk_simp; rw [h1]; show 0 * 4096 + d.val = d.val; omega

end Cert.Proof.Final
-- ==== Proof.FinalClaims.lean ====
module

public import proofs.«01_k».proof.Defs
public import proofs.«01_k».proof.Proof.Gen.Kernel5
public import proofs.«01_k».proof.Proof.Gen.Reference5Ideal.Run
public import proofs.«01_k».proof.Proof.FinalValue
public import proofs.«01_k».proof.Proof.FinalReference
public import Idealize.ShloMosaic.Lib.Quiescent

@[expose] public section

set_option maxHeartbeats 1000000

noncomputable section

/-! The claims of the final norm: its frames, and that kernel and reference give the same array. -/

namespace Cert.Proof.Final

open Idealize.ShloMosaic hiding ix1 ix2 ix3 ix4
open Idealize.ShloMosaic.TcCoe Idealize.ShloMosaic.ValueIdx Idealize.SL.Sem

/-! ## The frames -/

/-! The two programs have one text, so one run serves for both. -/

section

variable {F : FTy → Type} [FloatOps F]
attribute [local instance] Cert.Kernel5.Gen.facts Cert.Kernel5Ideal.Gen.facts
set_option maxRecDepth 16384

theorem body_eq : @Cert.Kernel5.cc0_final_norm F _ _ = @Cert.Kernel5Ideal.cc0_final_norm F _ _ := rfl

theorem calls_eq : Cert.Kernel5.defs₀ (F := F) = Cert.Kernel5Ideal.defs₀ (F := F) := by
  unfold Cert.Kernel5.defs₀ Cert.Kernel5Ideal.defs₀
  rw [body_eq]
  refine congrArg Defs.onTc (funext fun l => funext fun p => ?_)
  match l, p with
  | 0, (t, s) => rfl
  | ⟨_ + 1, h⟩, _ => exact absurd h (Nat.not_lt.2 (Nat.le_add_left _ _))

theorem defs_eq : Cert.Kernel5.defs (F := F) = Cert.Kernel5Ideal.defs (F := F) := by
  unfold Cert.Kernel5.defs Cert.Kernel5Ideal.defs
  rw [calls_eq]
  rfl

end

theorem frame_kernel : Cert.quiescent_Kernel5 (hKernel5 := Cert.Kernel5.Gen.facts) := fun m ρ _ => by
  rw [defs_eq]
  exact (θ_run Cert.Kernel5Ideal.defs _ _).mono (fun _ h => h) (Cert.Kernel5Ideal.Gen.frame (F := Bits) m ρ)

theorem frame_ideal : Cert.quiescent_Kernel5Ideal (hKernel5Ideal := Cert.Kernel5Ideal.Gen.facts) := fun m ρ _ =>
  Cert.Kernel5Ideal.Gen.frame m ρ

theorem frame_reference : Cert.quiescent_Reference5Ideal (hReference5Ideal := Cert.Reference5Ideal.Gen.facts) := fun m ρ _ =>
  (θ_run Cert.Reference5Ideal.defs _ _).mono (fun r h => ⟨fun c => (h c).2, sem_eq_zero_of_no_sems (by decide) _⟩)
    (Cert.Reference5Ideal.Value.run m ρ)

/-! ## The value -/

theorem equal : Cert.algebraic_Kernel5Ideal_Reference5Ideal
    (hKernel5Ideal := Cert.Kernel5Ideal.Gen.facts) (hReference5Ideal := Cert.Reference5Ideal.Gen.facts) := by
  intro m ρ m' ρ' _ hagree
  refine ⟨fun c => rows (input m c) (gains m c), ?_, ?_⟩
  · exact (θ_run Cert.Kernel5Ideal.defs _ _).mono (fun r h c => ⟨((h c).1).trans (arr_rows m c), (h c).2⟩)
      (Cert.Kernel5Ideal.Value.run_blocks m ρ)
  · refine (θ_run Cert.Reference5Ideal.defs _ _).mono (fun r h c => ⟨((h c).1).trans ?_, (h c).2⟩)
      (Cert.Reference5Ideal.Value.run m' ρ')
    obtain ⟨h0, h1⟩ := hagree c
    rw [Cert.Reference5Ideal.Read.val_main_v13_eq, h0, h1]
    exact ref_rows _ _

end Cert.Proof.Final

end
-- ==== Proof.SampleSpec.lean ====
module

public import proofs.«01_k».proof.Proof.NormSpec

@[expose] public section

noncomputable section

namespace Cert.Proof.Sample

open Idealize.ShloMosaic Idealize.ShloMosaic.ValueIdx
open Cert.Proof.Norm (Gains Weights width tiny one)
open scoped BigOperators

/-! ## What the calls on the samples compute -/

/-- The samples' rows, by sample, position and feature. -/
abbrev Input : Type := (⟨3, ![8, 4, 4096]⟩ : Shape).Idx → EReal
/-- The modulation rows: six stretches of 4096 for each sample, of which the first shifts and the second scales. -/
abbrev Mods : Type := (⟨2, ![8, 24576]⟩ : Shape).Idx → EReal
/-- The keys, or the values, of one layer. -/
abbrev Layer : Type := (⟨3, ![8, 4, 2048]⟩ : Shape).Idx → EReal

/-- The inverse root of the mean square of a row. -/
def invRms (x : Input) (b : Fin 8) (p : Fin 4) : EReal :=
  Ideal.rsqrt (Ideal.div (∑ k : Fin 4096, x (ix3 b p k) * x (ix3 b p k)) width + tiny)

/-- One entry of the normalised row with the feature's gain. -/
def gained (x : Input) (g : Gains) (b : Fin 8) (p : Fin 4) (d : Fin 4096) : EReal :=
  x (ix3 b p d) * invRms x b p * g (ix1 d)

/-- An array of 32 rows, those of the samples one below the other. -/
def stacked {n : ℕ} (f : Fin 8 → Fin 4 → Fin n → EReal) : (⟨2, ![32, n]⟩ : Shape).Idx → EReal :=
  fun j => f ⟨(j 0).val / 4, by have : (j 0).val < 32 := (j 0).isLt; omega⟩ ⟨(j 0).val % 4, by omega⟩ (j 1)

theorem stacked_apply {n : ℕ} (f : Fin 8 → Fin 4 → Fin n → EReal) (b : Fin 8) (p : Fin 4) (d : Fin n) (j)
    (h0 : (j 0).val = 4 * b.val + p.val) (h1 : (j 1).val = d.val) : stacked f j = f b p d := by
  unfold stacked
  rw [show j 1 = d from Fin.ext h1]
  refine congrArg₂ (fun b p => f b p d) (Fin.ext ?_) (Fin.ext ?_)
  · show (j 0).val / 4 = b.val; omega
  · show (j 0).val % 4 = p.val; omega

/-- The normalised row, scaled and shifted. -/
def normed (x : Input) (g : Gains) (s : Mods) (b : Fin 8) (p : Fin 4) (d : Fin 4096) : EReal :=
  gained x g b p d * (one + s (ix2 b ⟨4096 + d.val, by omega⟩)) + s (ix2 b ⟨d.val, by omega⟩)

/-- One entry of its product with the weights. -/
def entry (x : Input) (g : Gains) (s : Mods) (w : Weights) (b : Fin 8) (p : Fin 4) (q : Fin 9216) : EReal :=
  ∑ k : Fin 4096, normed x g s b p k * w (ix2 k q)

/-- The 2048 columns of the product that start at `o`: the samples' keys, or their values, in this layer. -/
def columns (o : ℕ) (ho : o ≤ 7168) (x : Input) (g : Gains) (s : Mods) (w : Weights) : Layer :=
  fun j => entry x g s w (j 0) (j 1) ⟨o + (j 2).val, by have : (j 2).val < 2048 := (j 2).isLt; omega⟩

end Cert.Proof.Sample
-- ==== Proof.SampleValue.lean ====
/-
  The kernel of the samples' final norm: the array its launch leaves, as one function of the arrays it is given.
-/
module

public import proofs.«01_k».proof.Proof.Gen.Kernel6Ideal.Value
public import proofs.«01_k».proof.Proof.SampleSpec
public import Idealize.ShloMosaic.Lib.ValueLayoutCasts
public import Idealize.ShloMosaic.Lib.IdealHost
public import Idealize.ShloMosaic.Lib.Pipeline.ValueKit

@[expose] public section

set_option maxHeartbeats 1000000

noncomputable section

namespace Cert.Proof.Sample

open Cert.Kernel6Ideal Cert.Kernel6Ideal.Gen
open Idealize.ShloMosaic hiding ix1 ix2 ix3 ix4
open Idealize.ShloMosaic.TcCoe Idealize.ShloMosaic.ValueIdx Idealize.SL.Sem
open Cert.Proof.Norm (Gains width tiny)
open scoped BigOperators

variable (m : (ℓ : Loc nD τ sig) → Buf (Elt Ideal) ℓ)

abbrev input (c : Dev nD) : Input := m ((c.tc : Thread nD τ).loc main_arg0)
abbrev gains (c : Dev nD) : Gains := m ((c.tc : Thread nD τ).loc main_arg1)

theorem V_0 (c : Dev nD) : V m c main_v0 = shapeCast S32x4096 (m ((c : Thread nD τ).loc main_arg0)) shapeCasts_S8x4x4096_S32x4096 := by
  show StableHlo.after hostOps0 (fun b => m (c, b)) main_v0 = _
  after_results
  rfl
theorem V_1 (c : Dev nD) : V m c main_v1 = shapeCast S1x4096 (m ((c : Thread nD τ).loc main_arg1)) shapeCasts_S4096_S1x4096 := by
  show StableHlo.after hostOps0 (fun b => m (c, b)) main_v1 = _
  after_results
  rfl

theorem V_0_apply (c : Dev nD) (j) (b : Fin 8) (p : Fin 4) (d : Fin 4096) (h0 : (j 0).val = 4 * b.val + p.val) (h1 : (j 1).val = d.val) :
    V m c main_v0 j = input m c (ix3 b p d) := by
  rw [V_0]
  refine shapeCast_apply _ _ _ _ ?_
  refine (Shape.rowMajor_val_three (d := ![8, 4, 4096]) _).trans (Eq.trans ?_ (Shape.rowMajor_val_two (d := ![32, 4096]) _).symm)
  show (b.val * 4 + p.val) * 4096 + d.val = (j 0).val * 4096 + (j 1).val
  omega
theorem V_1_apply (c : Dev nD) (j) (d : Fin 4096) (h0 : (j 0).val = 0) (h1 : (j 1).val = d.val) :
    V m c main_v1 j = gains m c (ix1 d) := by
  rw [V_1]
  refine shapeCast_apply _ _ _ _ ?_
  refine (Shape.rowMajor_val_one (d := ![4096]) _).trans (Eq.trans ?_ (Shape.rowMajor_val_two (d := ![1, 4096]) _).symm)
  show d.val = (j 0).val * 4096 + (j 1).val
  omega

theorem idx_0 : ∀ t : Fin cfg0.N, win0_0.index t 0 = 0 ∧ win0_0.index t 1 = 0 := by decide +kernel
theorem idx_1 : ∀ t : Fin cfg0.N, win0_1.index t 0 = 0 ∧ win0_1.index t 1 = 0 := by decide +kernel
theorem idx_2 : ∀ t : Fin cfg0.N, win0_2.index t 0 = 0 ∧ win0_2.index t 1 = 0 := by decide +kernel

/-- The sample of a row, and its position. -/
def smp (r : Fin 32) : Fin 8 := ⟨r.val / 4, by omega⟩
def pos (r : Fin 32) : Fin 4 := ⟨r.val % 4, by omega⟩

theorem iblk_0 (c : Dev nD) (t : Fin cfg0.N) (r : Fin 32) (d : Fin 4096) :
    iblk m c 0 t (ix2 r d) = input m c (ix3 (smp r) (pos r) d) := by
  unfold iblk
  rw [View.read_apply]
  obtain ⟨h0, h1⟩ := idx_0 t
  refine V_0_apply m c _ _ _ _ ?_ ?_
  · blk_simp; rw [h0]; show 0 * 32 + r.val = 4 * (r.val / 4) + r.val % 4; omega
  · blk_simp; rw [h1]; show 0 * 4096 + d.val = d.val; omega
theorem iblk_1 (c : Dev nD) (t : Fin cfg0.N) (d : Fin 4096) : iblk m c 1 t (ix2 (0 : Fin 1) d) = gains m c (ix1 d) := by
  unfold iblk
  rw [View.read_apply]
  obtain ⟨h0, h1⟩ := idx_1 t
  refine V_1_apply m c _ _ ?_ ?_
  · blk_simp; rw [h0]
  · blk_simp; rw [h1]; show 0 * 4096 + d.val = d.val; omega

theorem rowSum_apply (y : FVec Ideal S32x4096 .f32) (r : Fin 32) :
    multiReduction .add [1] S32 y 0x00000000#32 reduces_S32x4096_S32 (.inl rfl) rfl (ix1 r) = ∑ k : Fin 4096, y (ix2 r k) := by
  refine (Ideal.multiReduction_add_single y _ _ _ _ (ix1 r)).trans ?_
  refine Finset.sum_congr rfl fun k _ => congrArg y (funext fun a => Fin.ext ?_)
  match a with
  | ⟨0, _⟩ => rfl
  | ⟨1, _⟩ => rfl

theorem col_apply (y : FVec Ideal S32x1 .f32) (r : Fin 32) (d : Fin 4096) :
    broadcastTo S32x4096 y broadcasts_S32x1_S32x4096 (ix2 r d) = y (ix2 r 0) :=
  broadcastTo_apply y _ _ _ fun a => by
    match a with
    | ⟨0, _⟩ => rfl
    | ⟨1, _⟩ => rfl

theorem row_apply (y : FVec Ideal S1x4096 .f32) (r : Fin 32) (d : Fin 4096) :
    broadcastTo S32x4096 y broadcasts_S1x4096_S32x4096 (ix2 r d) = y (ix2 0 d) :=
  broadcastTo_1b_ab_apply y _ r d

theorem pay1_apply (x : Vec Ideal S32x4096 .f32) (g : Vec Ideal S1x4096 .f32) (r : Fin 32) (d : Fin 4096) :
    k0_pay1 (F := Ideal) x g (ix2 r d)
      = x (ix2 r d) * Ideal.rsqrt (Ideal.div (∑ k : Fin 4096, x (ix2 r k) * x (ix2 r k)) width + tiny) * g (ix2 0 d) := by
  unfold k0_pay1
  rw [shapeCast_self, shapeCast_self]
  show x (ix2 r d) * broadcastTo S32x4096 _ broadcasts_S32x1_S32x4096 (ix2 r d)
      * broadcastTo S32x4096 g broadcasts_S1x4096_S32x4096 (ix2 r d) = _
  rw [col_apply, row_apply]
  show x (ix2 r d) * Ideal.rsqrt (Ideal.div (shapeCast S32x1 _ shapeCasts_S32_S32x1 (ix2 r 0)) width + tiny) * g (ix2 0 d) = _
  rw [shapeCast_a_a1_apply, rowSum_apply]
  rfl

theorem out_eq (x : Vec Ideal S32x4096 .f32) (g : Vec Ideal S1x4096 .f32) : out0_2 (F := Ideal) x g = k0_pay1 x g := by
  unfold out0_2
  rw [View.canon_cons_unit_lit _ _ _ (by decide), View.ld_unit_lit _ _ (by decide), View.ld_unit_lit _ _ (by decide)]

/-- The array the call leaves. -/
theorem arr_rows (c : Dev nD) : (dats m 0 c).arrAt 2 cfg0.N = stacked (gained (input m c) (gains m c)) := by
  refine (dats m 0 c).arrAt_eq_of_covers 2 (stacked (gained (input m c) (gains m c))) (by decide +kernel) fun t hf y => ?_
  blk_simp
  rw [after0_2, out_eq]
  obtain ⟨r, d, rfl⟩ : ∃ (r : Fin 32) (d : Fin 4096), y = ix2 r d := ⟨y 0, y 1, ValueIdx.eq_ix2 y⟩
  obtain ⟨h0, h1⟩ := idx_2 t
  rw [pay1_apply, iblk_1]
  simp only [iblk_0]
  show gained (input m c) (gains m c) (smp r) (pos r) d = _
  refine (stacked_apply (gained (input m c) (gains m c)) (smp r) (pos r) d _ ?_ ?_).symm
  · blk_simp; rw [h0]; show 0 * 32 + r.val = 4 * (r.val / 4) + r.val % 4; omega
  · blk_simp; rw [h1]; show 0 * 4096 + d.val = d.val; omega

end Cert.Proof.Sample
-- ==== Proof.SampleReference.lean ====
/-
  The final norm of the samples: that the reference computes what SampleSpec writes down.
-/
module

public import proofs.«01_k».proof.Proof.SampleSpec
public import proofs.«01_k».proof.Proof.Gen.Reference6Ideal.Read

@[expose] public section

noncomputable section

namespace Cert.Proof.Sample

open Cert.Reference6Ideal Cert.Reference6Ideal.Gen Cert.Reference6Ideal.Read
open Idealize.ShloMosaic Idealize.ShloMosaic.ValueIdx
open Cert.Proof.Norm (Gains width tiny)
open scoped BigOperators

variable (x : (⟨S8x4x4096, .f32⟩ : BufTy).Contents (Elt Ideal)) (g : (⟨S4096, .f32⟩ : BufTy).Contents (Elt Ideal))

theorem ref_invRms (b : Fin 8) (p : Fin 4) : val_main_v7 (F := Ideal) x (ix3 b p 0) = invRms x b p := by
  rw [val_main_v7_apply, val_main_v6_apply, val_main_v4_apply, val_main_v2_apply, val_main_v1_apply, val_main_v3_apply,
    val_main_v5_apply, val_main_cst_apply, val_main_cst_0_apply, val_main_cst_1_apply]
  show Ideal.rsqrt (Ideal.div (Ideal.ofBits .f32 0x00000000#32 + ∑ k : Fin 4096, _) (Ideal.ofBits .f32 _) + Ideal.ofBits .f32 _) = _
  rw [Ideal.ofBits_zero_f32, zero_add]
  unfold invRms width tiny
  refine congrArg (fun z => Ideal.rsqrt (Ideal.div z _ + _)) (Finset.sum_congr rfl fun k _ => ?_)
  rw [val_main_v0_apply]
  have e : idx_main_v1 (idx_main_v2 (ix3 b p 0)) k = ix3 b p k :=
    funext fun a => match a with | ⟨0, _⟩ => rfl | ⟨1, _⟩ => rfl | ⟨2, _⟩ => rfl
  rw [e]
  rfl

theorem ref_gained (b : Fin 8) (p : Fin 4) (d : Fin 4096) : val_main_v12 (F := Ideal) x g (ix3 b p d) = gained x g b p d := by
  rw [val_main_v12_apply, val_main_v9_apply, val_main_v8_apply, val_main_v11_apply, val_main_v10_apply]
  have e1 : idx_main_v8 (ix3 b p d) = ix3 b p 0 := funext fun a => match a with | ⟨0, _⟩ => rfl | ⟨1, _⟩ => rfl | ⟨2, _⟩ => rfl
  have e2 : idx_main_v10 (idx_main_v11 (ix3 b p d)) = ix1 d := funext fun a => match a with | ⟨0, _⟩ => rfl
  rw [e1, e2, ref_invRms]
  rfl

theorem ref_rows : val_main_v13 (F := Ideal) x g = stacked (gained x g) := by
  funext i
  rw [val_main_v13_apply]
  have h0 : (i 0).val < 32 := (i 0).isLt
  have h1 : (i 1).val < 4096 := (i 1).isLt
  refine Eq.trans (congrArg _ (funext fun a => Fin.ext ?_))
    (ref_gained x g ⟨(i 0).val / 4, by omega⟩ ⟨(i 0).val % 4, by omega⟩ ⟨(i 1).val, h1⟩)
  match a with
  | ⟨0, _⟩ => show ((i 0).val * 4096 + (i 1).val) / 16384 = (i 0).val / 4; omega
  | ⟨1, _⟩ => show ((i 0).val * 4096 + (i 1).val) / 4096 % 4 = (i 0).val % 4; omega
  | ⟨2, _⟩ => show ((i 0).val * 4096 + (i 1).val) % 4096 = (i 1).val; omega

end Cert.Proof.Sample
-- ==== Proof.SampleClaims.lean ====
module

public import proofs.«01_k».proof.Defs
public import proofs.«01_k».proof.Proof.Gen.Kernel6
public import proofs.«01_k».proof.Proof.Gen.Reference6Ideal.Run
public import proofs.«01_k».proof.Proof.SampleValue
public import proofs.«01_k».proof.Proof.SampleReference
public import Idealize.ShloMosaic.Lib.Quiescent

@[expose] public section

set_option maxHeartbeats 1000000

noncomputable section

/-! The claims of the final norm of the samples: its frames, and that kernel and reference give the same array. -/

namespace Cert.Proof.Sample

open Idealize.ShloMosaic hiding ix1 ix2 ix3 ix4
open Idealize.ShloMosaic.TcCoe Idealize.ShloMosaic.ValueIdx Idealize.SL.Sem

/-! ## The frames -/

/-! The two programs have one text, so one run serves for both. -/

section

variable {F : FTy → Type} [FloatOps F]
attribute [local instance] Cert.Kernel6.Gen.facts Cert.Kernel6Ideal.Gen.facts
set_option maxRecDepth 16384

theorem body_eq : @Cert.Kernel6.cc0_final_norm F _ _ = @Cert.Kernel6Ideal.cc0_final_norm F _ _ := rfl

theorem calls_eq : Cert.Kernel6.defs₀ (F := F) = Cert.Kernel6Ideal.defs₀ (F := F) := by
  unfold Cert.Kernel6.defs₀ Cert.Kernel6Ideal.defs₀
  rw [body_eq]
  refine congrArg Defs.onTc (funext fun l => funext fun p => ?_)
  match l, p with
  | 0, (t, s) => rfl
  | ⟨_ + 1, h⟩, _ => exact absurd h (Nat.not_lt.2 (Nat.le_add_left _ _))

theorem defs_eq : Cert.Kernel6.defs (F := F) = Cert.Kernel6Ideal.defs (F := F) := by
  unfold Cert.Kernel6.defs Cert.Kernel6Ideal.defs
  rw [calls_eq]
  rfl

end

theorem frame_kernel : Cert.quiescent_Kernel6 (hKernel6 := Cert.Kernel6.Gen.facts) := fun m ρ _ => by
  rw [defs_eq]
  exact (θ_run Cert.Kernel6Ideal.defs _ _).mono (fun _ h => h) (Cert.Kernel6Ideal.Gen.frame (F := Bits) m ρ)

theorem frame_ideal : Cert.quiescent_Kernel6Ideal (hKernel6Ideal := Cert.Kernel6Ideal.Gen.facts) := fun m ρ _ =>
  Cert.Kernel6Ideal.Gen.frame m ρ

theorem frame_reference : Cert.quiescent_Reference6Ideal (hReference6Ideal := Cert.Reference6Ideal.Gen.facts) := fun m ρ _ =>
  (θ_run Cert.Reference6Ideal.defs _ _).mono (fun r h => ⟨fun c => (h c).2, sem_eq_zero_of_no_sems (by decide) _⟩)
    (Cert.Reference6Ideal.Value.run m ρ)

/-! ## The value -/

theorem equal : Cert.algebraic_Kernel6Ideal_Reference6Ideal
    (hKernel6Ideal := Cert.Kernel6Ideal.Gen.facts) (hReference6Ideal := Cert.Reference6Ideal.Gen.facts) := by
  intro m ρ m' ρ' _ hagree
  refine ⟨fun c => stacked (gained (input m c) (gains m c)), ?_, ?_⟩
  · exact (θ_run Cert.Kernel6Ideal.defs _ _).mono (fun r h c => ⟨((h c).1).trans (arr_rows m c), (h c).2⟩)
      (Cert.Kernel6Ideal.Value.run_blocks m ρ)
  · refine (θ_run Cert.Reference6Ideal.defs _ _).mono (fun r h c => ⟨((h c).1).trans ?_, (h c).2⟩)
      (Cert.Reference6Ideal.Value.run m' ρ')
    obtain ⟨h0, h1⟩ := hagree c
    rw [Cert.Reference6Ideal.Read.val_main_v13_eq, h0, h1]
    exact ref_rows _ _

end Cert.Proof.Sample

end
-- ==== Proof.ModulationSpec.lean ====
module

public import proofs.«01_k».proof.Proof.NormSpec

@[expose] public section

noncomputable section

namespace Cert.Proof.Modulation

open Idealize.ShloMosaic Idealize.ShloMosaic.ValueIdx
open Cert.Proof.Norm (one)
open scoped BigOperators

/-! ## What the modulation computes -/

/-- Rows of the conditioning, by batch element and feature. -/
abbrev Rows (n : ℕ) : Type := (⟨2, ![n, 4096]⟩ : Shape).Idx → EReal
/-- The weights of all layers, and their biases. -/
abbrev Weights : Type := (⟨3, ![4, 4096, 24576]⟩ : Shape).Idx → EReal
abbrev Bias : Type := (⟨2, ![4, 24576]⟩ : Shape).Idx → EReal
/-- The modulation rows, by layer, batch element and feature. -/
abbrev Mods (n : ℕ) : Type := (⟨3, ![4, n, 24576]⟩ : Shape).Idx → EReal

/-- A number times its logistic function. -/
def silu (c : EReal) : EReal := c * Ideal.div one (one + Ideal.exp (-c))

/-- The modulation rows of all layers. -/
def modulated {n : ℕ} (c : Rows n) (w : Weights) (b : Bias) : Mods n :=
  fun i => (∑ k : Fin 4096, silu (c (ix2 (i 1) k)) * w (ix3 (i 0) k (i 2))) + b (ix2 (i 0) (i 2))

theorem modulated_apply {n : ℕ} (c : Rows n) (w : Weights) (b : Bias) (l : Fin 4) (r : Fin n) (q : Fin 24576) (i)
    (h0 : (i 0).val = l.val) (h1 : (i 1).val = r.val) (h2 : (i 2).val = q.val) :
    modulated c w b i = (∑ k : Fin 4096, silu (c (ix2 r k)) * w (ix3 l k q)) + b (ix2 l q) := by
  unfold modulated
  rw [show i 0 = l from Fin.ext h0, show i 1 = r from Fin.ext h1, show i 2 = q from Fin.ext h2]

end Cert.Proof.Modulation
-- ==== Proof.ModulationValue.lean ====
/-
  The modulation's kernel: the arrays its launch and the host operations after it leave, as functions of the arrays it is given.
-/
module

public import proofs.«01_k».proof.Proof.ModulationSpec
public import proofs.«01_k».proof.Proof.Gen.Kernel7Ideal.Frame
public import Idealize.ShloMosaic.Lib.ValueLayoutCasts
public import Idealize.ShloMosaic.Lib.MatmulPlain
public import Idealize.ShloMosaic.Lib.IdealHost
public import Idealize.ShloMosaic.Lib.KernelVsHost
public import Idealize.ShloMosaic.Lib.Pipeline.ValueKit

@[expose] public section

set_option maxHeartbeats 1000000

noncomputable section

namespace Cert.Proof.Modulation

open Cert.Kernel7Ideal Cert.Kernel7Ideal.Gen
open Idealize.ShloMosaic hiding ix1 ix2 ix3 ix4
open Idealize.ShloMosaic.TcCoe Idealize.ShloMosaic.ValueIdx Idealize.SL.Sem
open Cert.Proof.Norm (one)
open scoped BigOperators

variable (m : (ℓ : Loc nD τ sig) → Buf (Elt Ideal) ℓ)

/-! ## The arrays the call is given -/

abbrev prompts (c : Dev nD) : Rows 4 := m ((c.tc : Thread nD τ).loc main_arg0)
abbrev samples (c : Dev nD) : Rows 8 := m ((c.tc : Thread nD τ).loc main_arg1)
abbrev weights (c : Dev nD) : Weights := m ((c.tc : Thread nD τ).loc main_arg2)
abbrev bias (c : Dev nD) : Bias := m ((c.tc : Thread nD τ).loc main_arg3)

/-- The sixteen rows the launch is given: the prompts', the samples' and four more. -/
abbrev rows (c : Dev nD) : Rows 16 := V m c main_v1

theorem V_1 (c : Dev nD) : ∃ v : (⟨S_, .f32⟩ : BufTy).Contents (Elt Ideal), V m c main_v1 = pad S16x4096 ![0, 0] ![4, 0] ![0, 0]
    (concatenate S12x4096 0 [⟨S4x4096, m ((c.tc : Thread nD τ).loc main_arg0)⟩, ⟨S8x4096, m ((c.tc : Thread nD τ).loc main_arg1)⟩]
      concatenates_S4x4096_S8x4096_S12x4096_d0) v pads_S12x4096_S16x4096_040_000 h_S_ := by
  refine ⟨(sitofp (F := Ideal) .f32 (constantI S_ 32 0#32) : FVec Ideal S_ .f32), ?_⟩
  show StableHlo.after (List.flatten [hostOps0, hostOps0_1, hostOps0_2]) (fun b => m (c, b)) main_v1 = _
  simp only [List.flatten_cons, List.flatten_nil, List.append_nil, List.cons_append, List.nil_append]
  after_results
  rfl
theorem V_2 (c : Dev nD) : V m c main_v2 = shapeCast S4x1x24576 (m ((c : Thread nD τ).loc main_arg3)) shapeCasts_S4x24576_S4x1x24576 := by
  show StableHlo.after (List.flatten [hostOps0, hostOps0_1, hostOps0_2]) (fun b => m (c, b)) main_v2 = _
  simp only [List.flatten_cons, List.flatten_nil, List.append_nil, List.cons_append, List.nil_append]
  after_results
  rfl

theorem rows_prompt (c : Dev nD) (r : Fin 4) (k : Fin 4096) : rows m c (ix2 (⟨r.val, by omega⟩ : Fin 16) k) = prompts m c (ix2 r k) := by
  obtain ⟨v, e⟩ := V_1 m c
  show V m c main_v1 _ = _
  rw [e]
  refine (pad_apply_of_inside _ _ _ _ _ _ _ _ (ix2 (⟨r.val, by omega⟩ : Fin 12) k) ?_).trans
    (concatenate_pair_apply_left (t := S12x4096) (s₁ := S4x4096) (s₂ := S8x4096) 0 _ _ _ _ rfl (ix2 r k) ?_)
  · intro a
    match a with
    | ⟨0, _⟩ => show r.val = 0 + r.val * (0 + 1); omega
    | ⟨1, _⟩ => show k.val = 0 + k.val * (0 + 1); omega
  · intro a
    match a with
    | ⟨0, _⟩ => rfl
    | ⟨1, _⟩ => rfl

theorem rows_sample (c : Dev nD) (r : Fin 8) (k : Fin 4096) :
    rows m c (ix2 (⟨4 + r.val, by omega⟩ : Fin 16) k) = samples m c (ix2 r k) := by
  obtain ⟨v, e⟩ := V_1 m c
  show V m c main_v1 _ = _
  rw [e]
  refine (pad_apply_of_inside _ _ _ _ _ _ _ _ (ix2 (⟨4 + r.val, by omega⟩ : Fin 12) k) ?_).trans
    (concatenate_pair_apply_right (t := S12x4096) (s₁ := S4x4096) (s₂ := S8x4096) 0 _ _ _ _ rfl rfl (ix2 r k) ?_ ?_)
  · intro a
    match a with
    | ⟨0, _⟩ => show 4 + r.val = 0 + (4 + r.val) * (0 + 1); omega
    | ⟨1, _⟩ => show k.val = 0 + k.val * (0 + 1); omega
  · intro a h
    match a with
    | ⟨0, _⟩ => exact absurd rfl h
    | ⟨1, _⟩ => rfl
  · show r.val + 4 = 4 + r.val; omega

/-! ## The blocks of a grid point -/

theorem idx_0 : ∀ t : Fin cfg0.N, win0_0.index t 0 = 0 ∧ win0_0.index t 1 = 0 := by decide +kernel
theorem idx_1 : ∀ t : Fin cfg0.N, win0_1.index t 0 = t.val / 48 ∧ win0_1.index t 1 = 0 ∧ win0_1.index t 2 = t.val % 48 := by decide +kernel
theorem idx_2 : ∀ t : Fin cfg0.N, win0_2.index t 0 = t.val / 48 ∧ win0_2.index t 1 = 0 ∧ win0_2.index t 2 = t.val % 48 := by decide +kernel
theorem idx_3 : ∀ t : Fin cfg0.N, win0_3.index t 0 = t.val / 48 ∧ win0_3.index t 1 = 0 ∧ win0_3.index t 2 = t.val % 48 := by decide +kernel

theorem lt192 (t : Fin cfg0.N) : t.val < 192 := Nat.lt_of_lt_of_eq t.isLt N_0

/-- The layer of a grid point, and the feature of a column of its blocks. -/
def lay (t : Fin cfg0.N) : Fin 4 := ⟨t.val / 48, by have := lt192 t; omega⟩
def col (t : Fin cfg0.N) (q : Fin 512) : Fin 24576 := ⟨512 * (t.val % 48) + q.val, by omega⟩

theorem iblk_0 (c : Dev nD) (t : Fin cfg0.N) (r : Fin 16) (k : Fin 4096) : iblk m c 0 t (ix2 r k) = rows m c (ix2 r k) := by
  unfold iblk
  rw [View.read_apply]
  obtain ⟨h0, h1⟩ := idx_0 t
  refine congrArg (V m c main_v1) (funext fun a => Fin.ext ?_)
  match a with
  | ⟨0, _⟩ => blk_simp; rw [h0]; show 0 * 16 + r.val = r.val; omega
  | ⟨1, _⟩ => blk_simp; rw [h1]; show 0 * 4096 + k.val = k.val; omega
theorem iblk_1 (c : Dev nD) (t : Fin cfg0.N) (k : Fin 4096) (q : Fin 512) :
    iblk m c 1 t (ix3 (0 : Fin 1) k q) = weights m c (ix3 (lay t) k (col t q)) := by
  unfold iblk
  rw [View.read_apply]
  obtain ⟨h0, h1, h2⟩ := idx_1 t
  refine (congrFun (V_main_arg2 m c) _).trans (congrArg (m ((c.tc : Thread nD τ).loc main_arg2)) (funext fun a => Fin.ext ?_))
  match a with
  | ⟨0, _⟩ => blk_simp; rw [h0]; rfl
  | ⟨1, _⟩ => blk_simp; rw [h1]; show 0 * 4096 + k.val = k.val; omega
  | ⟨2, _⟩ => blk_simp; rw [h2]; show t.val % 48 * 512 + q.val = 512 * (t.val % 48) + q.val; omega
theorem V_2_apply (c : Dev nD) (j) (l : Fin 4) (q : Fin 24576) (h0 : (j 0).val = l.val) (h1 : (j 1).val = 0) (h2 : (j 2).val = q.val) :
    V m c main_v2 j = bias m c (ix2 l q) := by
  rw [V_2]
  refine shapeCast_apply _ _ _ _ ?_
  refine (Shape.rowMajor_val_two (d := ![4, 24576]) _).trans (Eq.trans ?_ (Shape.rowMajor_val_three (d := ![4, 1, 24576]) _).symm)
  show l.val * 24576 + q.val = ((j 0).val * 1 + (j 1).val) * 24576 + (j 2).val
  omega
theorem iblk_2 (c : Dev nD) (t : Fin cfg0.N) (q : Fin 512) :
    iblk m c 2 t (ix3 (0 : Fin 1) (0 : Fin 1) q) = bias m c (ix2 (lay t) (col t q)) := by
  unfold iblk
  rw [View.read_apply]
  obtain ⟨h0, h1, h2⟩ := idx_2 t
  refine V_2_apply m c _ _ _ ?_ ?_ ?_
  · blk_simp; rw [h0]; rfl
  · blk_simp; rw [h1]
  · blk_simp; rw [h2]; show t.val % 48 * 512 + q.val = 512 * (t.val % 48) + q.val; omega

/-! ## What a point stores, at an index -/

theorem silu_eq (x : EReal) : x * Ideal.logistic x = silu x := by
  unfold silu
  rw [show one = 1 from Ideal.ofBits_one_f32]
  rfl

theorem pay1_apply (x : Vec Ideal S16x4096 .f32) (w : Vec Ideal S1x4096x512 .f32) (b : Vec Ideal S1x1x512 .f32) (r : Fin 16) (q : Fin 512) :
    k0_pay1 (F := Ideal) x w b (ix3 (0 : Fin 1) r q) = (∑ k : Fin 4096, silu (x (ix2 r k)) * w (ix3 0 k q)) + b (ix3 0 0 q) := by
  unfold k0_pay1
  rw [shapeCast_self]
  refine (shapeCast_ab_1ab_apply _ _ 0 r q).trans ?_
  refine congrArg₂ (fun u v : Ideal .f32 => u + v) ?_ ((broadcastTo_1b_ab_apply _ _ r q).trans (shapeCast_1ab_ab_apply _ _ 0 q))
  refine (Ideal.matmul_plain_apply (M := 16) (K := 4096) (N := 512) none _ _ _ r q).trans ?_
  rw [ValueIdx.constant_apply, Ideal.ofBits_zero_f32, zero_add]
  refine Finset.sum_congr rfl fun k _ => congrArg₂ (fun u v : EReal => u * v) (silu_eq _) ?_
  exact shapeCast_1ab_ab_apply w _ k q

theorem out_eq (x : Vec Ideal S16x4096 .f32) (w : Vec Ideal S1x4096x512 .f32) (b : Vec Ideal S1x1x512 .f32) :
    out0_3 (F := Ideal) x w b = k0_pay1 x w b := by
  unfold out0_3
  rw [View.canon_cons_unit_lit _ _ _ (by decide), View.ld_unit_lit _ _ (by decide), View.ld_unit_lit _ _ (by decide),
    View.ld_unit_lit _ _ (by decide)]

/-! ## The array the launch leaves -/

theorem arr_mods (c : Dev nD) : (dats m 0 c).arrAt 3 cfg0.N = modulated (rows m c) (weights m c) (bias m c) := by
  refine (dats m 0 c).arrAt_eq_of_covers 3 (modulated (rows m c) (weights m c) (bias m c)) (by decide +kernel) fun t hf y => ?_
  blk_simp
  rw [after0_3, out_eq]
  obtain ⟨u, r, q, rfl⟩ : ∃ (u : Fin 1) (r : Fin 16) (q : Fin 512), y = ix3 u r q := ⟨y 0, y 1, y 2, ValueIdx.eq_ix3 y⟩
  obtain rfl : u = 0 := Subsingleton.elim _ _
  obtain ⟨h0, h1, h2⟩ := idx_3 t
  refine (pay1_apply _ _ _ r q).trans ?_
  simp only [iblk_0, iblk_1, iblk_2]
  refine (modulated_apply (rows m c) (weights m c) (bias m c) (lay t) r (col t q) _ ?_ ?_ ?_).symm
  · blk_simp; rw [h0]; rfl
  · blk_simp; rw [h1]; show 0 * 16 + r.val = r.val; omega
  · blk_simp; rw [h2]; show t.val % 48 * 512 + q.val = 512 * (t.val % 48) + q.val; omega

/-! ## What the host operations after the launch leave -/

theorem left_mods (c : Dev nD) : Pipeline.withArrays spec0 c (V0 m c) (fun w => (dats m 0 c).arrAt w cfg0.N) (Proc.devRef .tc main_v3)
    = modulated (rows m c) (weights m c) (bias m c) :=
  (Pipeline.withArrays_arr spec0 (by decide) c (V0 m c) (fun w => (dats m 0 c).arrAt w cfg0.N) 3).trans (arr_mods m c)

theorem cut_prompt (c : Dev nD) : extractStridedSlice S4x4x24576 ![0, 0, 0] (modulated (rows m c) (weights m c) (bias m c))
    slices_S4x16x24576_S4x4x24576_0_0_0 = modulated (prompts m c) (weights m c) (bias m c) := by
  funext i
  obtain ⟨l, r, q, rfl⟩ : ∃ (l : Fin 4) (r : Fin 4) (q : Fin 24576), i = ix3 l r q := ⟨i 0, i 1, i 2, ValueIdx.eq_ix3 i⟩
  refine (extractStridedSlice_apply _ _ _ _ (ix3 l (⟨r.val, by omega⟩ : Fin 16) q) ?_).trans ?_
  · intro a
    match a with
    | ⟨0, _⟩ => exact (Nat.zero_add _).symm
    | ⟨1, _⟩ => exact (Nat.zero_add _).symm
    | ⟨2, _⟩ => exact (Nat.zero_add _).symm
  · rw [modulated_apply (prompts m c) _ _ l r q _ rfl rfl rfl, modulated_apply (rows m c) _ _ l ⟨r.val, by omega⟩ q _ rfl rfl rfl]
    exact congrArg (fun u : EReal => u + bias m c (ix2 l q)) (Finset.sum_congr rfl fun k _ =>
      congrArg (fun u : EReal => silu u * weights m c (ix3 l k q)) (rows_prompt m c r k))

theorem cut_sample (c : Dev nD) : extractStridedSlice S4x8x24576 ![0, 4, 0] (modulated (rows m c) (weights m c) (bias m c))
    slices_S4x16x24576_S4x8x24576_0_4_0 = modulated (samples m c) (weights m c) (bias m c) := by
  funext i
  obtain ⟨l, r, q, rfl⟩ : ∃ (l : Fin 4) (r : Fin 8) (q : Fin 24576), i = ix3 l r q := ⟨i 0, i 1, i 2, ValueIdx.eq_ix3 i⟩
  refine (extractStridedSlice_apply _ _ _ _ (ix3 l (⟨4 + r.val, by omega⟩ : Fin 16) q) ?_).trans ?_
  · intro a
    match a with
    | ⟨0, _⟩ => exact (Nat.zero_add _).symm
    | ⟨1, _⟩ => rfl
    | ⟨2, _⟩ => exact (Nat.zero_add _).symm
  · rw [modulated_apply (samples m c) _ _ l r q _ rfl rfl rfl, modulated_apply (rows m c) _ _ l ⟨4 + r.val, by omega⟩ q _ rfl rfl rfl]
    exact congrArg (fun u : EReal => u + bias m c (ix2 l q)) (Finset.sum_congr rfl fun k _ =>
      congrArg (fun u : EReal => silu u * weights m c (ix3 l k q)) (rows_sample m c r k))

theorem mods_prompt (c : Dev nD) : Pipeline.afterTail₀ cfgs (dats m) 0 (V0 m) [hostOps1] c main_v4
    = modulated (prompts m c) (weights m c) (bias m c) := by
  show StableHlo.after hostOps1 (Pipeline.withArrays spec0 c (V0 m c) fun w => (dats m 0 c).arrAt w cfg0.N) (Proc.devRef .tc main_v4) = _
  after_results
  rw [left_mods]
  exact cut_prompt m c

theorem mods_sample (c : Dev nD) : Pipeline.afterTail₀ cfgs (dats m) 0 (V0 m) [hostOps1] c main_v5
    = modulated (samples m c) (weights m c) (bias m c) := by
  show StableHlo.after hostOps1 (Pipeline.withArrays spec0 c (V0 m c) fun w => (dats m 0 c).arrAt w cfg0.N) (Proc.devRef .tc main_v5) = _
  after_results
  rw [left_mods]
  exact cut_sample m c

end Cert.Proof.Modulation
-- ==== Proof.ModulationReference.lean ====
/-
  The modulation: that the reference computes what ModulationSpec writes down.
-/
module

public import proofs.«01_k».proof.Proof.ModulationSpec
public import proofs.«01_k».proof.Proof.Gen.Reference7Ideal.Read

@[expose] public section

noncomputable section

namespace Cert.Proof.Modulation

open Cert.Reference7Ideal Cert.Reference7Ideal.Gen Cert.Reference7Ideal.Read
open Idealize.ShloMosaic Idealize.ShloMosaic.ValueIdx
open Cert.Proof.Norm (one)
open scoped BigOperators

variable (x : (⟨S4x4096, .f32⟩ : BufTy).Contents (Elt Ideal)) (y : (⟨S8x4096, .f32⟩ : BufTy).Contents (Elt Ideal))
  (w : (⟨S4x4096x24576, .f32⟩ : BufTy).Contents (Elt Ideal)) (b : (⟨S4x24576, .f32⟩ : BufTy).Contents (Elt Ideal))

theorem ref_silu_prompt (i : S4x4096.Idx) : val_main_v0 (F := Ideal) x i = silu (x i) := by
  rw [val_main_v0_apply, val_main_call0_v5_apply, val_main_call0_v4_apply, val_main_call0_cst_0_apply, val_main_call0_v3_apply,
    val_main_call0_v2_apply, val_main_call0_cst_apply, val_main_call0_v1_apply, val_main_call0_v0_apply]
  rfl

theorem ref_silu_sample (i : S8x4096.Idx) : val_main_v6 (F := Ideal) y i = silu (y i) := by
  rw [val_main_v6_apply, val_main_call1_v5_apply, val_main_call1_v4_apply, val_main_call1_cst_0_apply, val_main_call1_v3_apply,
    val_main_call1_v2_apply, val_main_call1_cst_apply, val_main_call1_v1_apply, val_main_call1_v0_apply]
  rfl

theorem ref_prompt : val_main_v5 (F := Ideal) x w b = modulated x w b := by
  funext i
  obtain ⟨l, r, q, rfl⟩ : ∃ (l : Fin 4) (r : Fin 4) (q : Fin 24576), i = ix3 l r q := ⟨i 0, i 1, i 2, eq_ix3 i⟩
  rw [modulated_apply x w b l r q _ rfl rfl rfl, val_main_v5_apply, val_main_v2_apply, val_main_v1_apply, val_main_v4_apply,
    val_main_v3_apply]
  refine congrArg₂ (fun u v : EReal => u + v) (Finset.sum_congr rfl fun k _ => ?_) (congrArg b ?_)
  · rw [ref_silu_prompt]
    refine congrArg₂ (fun u v : EReal => silu u * v) (congrArg x ?_) (congrArg w ?_)
    · exact funext fun a => match a with | ⟨0, _⟩ => rfl | ⟨1, _⟩ => rfl
    · exact funext fun a => match a with | ⟨0, _⟩ => rfl | ⟨1, _⟩ => rfl | ⟨2, _⟩ => rfl
  · exact funext fun a => match a with | ⟨0, _⟩ => rfl | ⟨1, _⟩ => rfl

theorem ref_sample : val_main_v11 (F := Ideal) y w b = modulated y w b := by
  funext i
  obtain ⟨l, r, q, rfl⟩ : ∃ (l : Fin 4) (r : Fin 8) (q : Fin 24576), i = ix3 l r q := ⟨i 0, i 1, i 2, eq_ix3 i⟩
  rw [modulated_apply y w b l r q _ rfl rfl rfl, val_main_v11_apply, val_main_v8_apply, val_main_v7_apply, val_main_v10_apply,
    val_main_v9_apply]
  refine congrArg₂ (fun u v : EReal => u + v) (Finset.sum_congr rfl fun k _ => ?_) (congrArg b ?_)
  · rw [ref_silu_sample]
    refine congrArg₂ (fun u v : EReal => silu u * v) (congrArg y ?_) (congrArg w ?_)
    · exact funext fun a => match a with | ⟨0, _⟩ => rfl | ⟨1, _⟩ => rfl
    · exact funext fun a => match a with | ⟨0, _⟩ => rfl | ⟨1, _⟩ => rfl | ⟨2, _⟩ => rfl
  · exact funext fun a => match a with | ⟨0, _⟩ => rfl | ⟨1, _⟩ => rfl

end Cert.Proof.Modulation
-- ==== Proof.ModulationClaims.lean ====
module

public import proofs.«01_k».proof.Defs
public import proofs.«01_k».proof.Proof.Gen.Kernel7
public import proofs.«01_k».proof.Proof.Gen.Reference7Ideal.Run
public import proofs.«01_k».proof.Proof.ModulationValue
public import proofs.«01_k».proof.Proof.ModulationReference
public import Idealize.ShloMosaic.Lib.Quiescent

@[expose] public section

set_option maxHeartbeats 1000000

noncomputable section

/-! The claims of the modulation: its frames, and that kernel and reference give the same arrays. -/

namespace Cert.Proof.Modulation

open Idealize.ShloMosaic hiding ix1 ix2 ix3 ix4
open Idealize.ShloMosaic.TcCoe Idealize.ShloMosaic.ValueIdx Idealize.SL.Sem

/-! ## The frames -/

/-! The two programs have one text, so one run serves for both. -/

section

variable {F : FTy → Type} [FloatOps F]
attribute [local instance] Cert.Kernel7.Gen.facts Cert.Kernel7Ideal.Gen.facts
set_option maxRecDepth 16384

theorem body_eq : @Cert.Kernel7.cc0_modulation F _ _ = @Cert.Kernel7Ideal.cc0_modulation F _ _ := rfl

theorem calls_eq : Cert.Kernel7.defs₀ (F := F) = Cert.Kernel7Ideal.defs₀ (F := F) := by
  unfold Cert.Kernel7.defs₀ Cert.Kernel7Ideal.defs₀
  rw [body_eq]
  refine congrArg Defs.onTc (funext fun l => funext fun p => ?_)
  match l, p with
  | 0, (t, s) => rfl
  | ⟨_ + 1, h⟩, _ => exact absurd h (Nat.not_lt.2 (Nat.le_add_left _ _))

theorem defs_eq : Cert.Kernel7.defs (F := F) = Cert.Kernel7Ideal.defs (F := F) := by
  unfold Cert.Kernel7.defs Cert.Kernel7Ideal.defs
  rw [calls_eq]
  rfl

end

theorem frame_kernel : Cert.quiescent_Kernel7 (hKernel7 := Cert.Kernel7.Gen.facts) := fun m ρ _ => by
  rw [defs_eq]
  exact (θ_run Cert.Kernel7Ideal.defs _ _).mono (fun _ h => h) (Cert.Kernel7Ideal.Gen.frame (F := Bits) m ρ)

theorem frame_ideal : Cert.quiescent_Kernel7Ideal (hKernel7Ideal := Cert.Kernel7Ideal.Gen.facts) := fun m ρ _ =>
  Cert.Kernel7Ideal.Gen.frame m ρ

theorem frame_reference : Cert.quiescent_Reference7Ideal (hReference7Ideal := Cert.Reference7Ideal.Gen.facts) := fun m ρ _ =>
  (θ_run Cert.Reference7Ideal.defs _ _).mono (fun r h => ⟨fun c => (h c).2.2, sem_eq_zero_of_no_sems (by decide) _⟩)
    (Cert.Reference7Ideal.Value.run m ρ)

/-! ## The value -/

theorem equal : Cert.algebraic_Kernel7Ideal_Reference7Ideal
    (hKernel7Ideal := Cert.Kernel7Ideal.Gen.facts) (hReference7Ideal := Cert.Reference7Ideal.Gen.facts) := by
  intro m ρ m' ρ' _ hagree
  refine ⟨fun c => modulated (prompts m c) (weights m c) (bias m c), fun c => modulated (samples m c) (weights m c) (bias m c), ?_, ?_⟩
  · exact (θ_run Cert.Kernel7Ideal.defs _ _).mono (fun r h c =>
      ⟨((h.1 c).2 Cert.Kernel7Ideal.main_v4 (Pipeline.mem_restRefs_of Cert.Kernel7Ideal.main_v4 (by decide) (by decide))).trans (mods_prompt m c),
        ((h.1 c).2 Cert.Kernel7Ideal.main_v5 (Pipeline.mem_restRefs_of Cert.Kernel7Ideal.main_v5 (by decide) (by decide))).trans (mods_sample m c),
        h.2 c⟩)
      (θ_run_and (Cert.Kernel7Ideal.Gen.run_main m ρ) (Cert.Kernel7Ideal.Gen.unchanged m ρ))
  · refine (θ_run Cert.Reference7Ideal.defs _ _).mono (fun r h c => ⟨((h c).1).trans ?_, ((h c).2.1).trans ?_, (h c).2.2⟩)
      (Cert.Reference7Ideal.Value.run m' ρ')
    all_goals obtain ⟨h0, h1, h2, h3⟩ := hagree c
    · rw [Cert.Reference7Ideal.Read.val_main_v5_eq, h0, h2, h3]
      exact ref_prompt _ _ _
    · rw [Cert.Reference7Ideal.Read.val_main_v11_eq, h1, h2, h3]
      exact ref_sample _ _ _

end Cert.Proof.Modulation

end
-- ==== Proof.SampleProjBody.lean ====
/-
  The samples' rows times the layer's weights: what the kernel's body leaves at one grid point, in the block of normalised
  rows that all points share and in the point's output block.
-/
module

public import proofs.«01_k».proof.Proof.Gen.Kernel8Ideal.Frame
public import Idealize.ShloMosaic.Lib.Pipeline.ValueKit

@[expose] public section

noncomputable section

namespace Cert.Proof.SampleProj

open Cert.Kernel8Ideal Cert.Kernel8Ideal.Gen
open Idealize.ShloMosaic Idealize.ShloMosaic.TcCoe Idealize.SL.Sem

variable {F : FTy → Type} [FloatOps F]
variable (m : (ℓ : Loc nD τ sig) → Buf (Elt F) ℓ)

/-- A load of the whole block of normalised rows reads it as the stores left it. -/
theorem load_rows (v : View sig .tc .vmem S32x4096 .bf16) (L : List (View.Piece (Elt F) S32x4096 .bf16)) (hin) :
    v.readCov L (Rect.unit (s := S32x4096) ![0, 0] S32x4096.size hin).toLoadRect = View.canon L := by
  rw [View.readCov_eq_canon']
  funext y
  refine congrArg _ (funext fun a => Fin.ext ?_)
  match a with
  | ⟨0, _⟩ => show 0 + 1 * (y 0).val = (y 0).val; omega
  | ⟨1, _⟩ => show 0 + 1 * (y 1).val = (y 1).val; omega

/-- At the first point the rows are normalised and used, -/
theorem point_first (c : Dev nD) (t : Fin cfg0.N) (h0 : t.val % 18 = 0) :
    outsAt0 m c t.val t.isLt = (k0_pay2 (k0_pay1 (iblk m c 0 t) (iblk m c 1 t) (iblk m c 2 t) (iblk m c 3 t)) (iblk m c 4 t),
      k0_pay1 (iblk m c 0 t) (iblk m c 1 t) (iblk m c 2 t) (iblk m c 3 t)) := by
  rw [outsAt0_A m c t h0]
  unfold out0_A_5 sout0_A_0
  rw [View.read_writes_junk_eq_canon, View.read_writes_junk_eq_canon]
  unfold kernelRun0_A
  dsimp only
  unfold kernelRun0_A.sl.v3
  unfold kernelRun0_A.sl.HS0_1
  rw [load_rows, View.canon_cons_unit_lit _ _ _ (by decide), View.canon_cons_unit_lit _ _ _ (by decide)]
  simp only [View.readAt_eq_ld, Memref.IsWhole.read_unread]
  repeat rw [View.ld_unit_lit _ _ (by decide)]

/-- and at the others they are used as found. -/
theorem point_later (c : Dev nD) (t : Fin cfg0.N) (h0 : ¬ t.val % 18 = 0) (Y : Vec F S32x4096 .bf16)
    (hY : ∀ h, (outsAt0 m c (t.val - 1) h).2 = Y) :
    outsAt0 m c t.val t.isLt = (k0_pay2 Y (iblk m c 4 t), Y) := by
  rw [outsAt0_B m c t h0]
  unfold out0_B_5 sout0_B_0
  rw [View.read_writes_junk_eq_canon]
  unfold kernelRun0_B
  dsimp only
  rw [View.canon_cons_unit_lit _ _ _ (by decide)]
  simp only [View.readAt_eq_ld, Memref.IsWhole.read_unread]
  rw [hY]
  repeat rw [View.ld_unit_lit _ _ (by decide)]
  exact congrArg (fun Z => (k0_pay2 Z (iblk m c 4 t), Y)) ((Memref.isWhole_whole cc0_scratch0).read_unread Y)

end Cert.Proof.SampleProj
-- ==== Proof.SampleProjReference.lean ====
/-
  The samples' rows times the layer's weights: that the reference computes what SampleSpec writes down.
-/
module

public import proofs.«01_k».proof.Proof.SampleSpec
public import proofs.«01_k».proof.Proof.Gen.Reference8Ideal.Read

@[expose] public section

noncomputable section

namespace Cert.Proof.SampleProj

open Cert.Reference8Ideal Cert.Reference8Ideal.Gen Cert.Reference8Ideal.Read
open Idealize.ShloMosaic Idealize.ShloMosaic.ValueIdx
open Cert.Proof.Norm (Gains Weights width tiny one)
open Cert.Proof.Sample (Input Mods Layer invRms gained stacked normed entry columns)
open scoped BigOperators

/-- Four layers side by side, as both programs put them there. -/
def sideBySide (l0 l1 l2 l3 : (⟨S8x4x2048, .f32⟩ : BufTy).Contents (Elt Ideal)) : (⟨S8x4x4x2048, .f32⟩ : BufTy).Contents (Elt Ideal) :=
  concatenate S8x4x4x2048 1
    [⟨S8x1x4x2048, broadcastInDim S8x1x4x2048 ![0, 2, 3] bcast_S8x4x2048_S8x1x4x2048_0_2_3 l0⟩,
      ⟨S8x1x4x2048, broadcastInDim S8x1x4x2048 ![0, 2, 3] bcast_S8x4x2048_S8x1x4x2048_0_2_3 l1⟩,
      ⟨S8x1x4x2048, broadcastInDim S8x1x4x2048 ![0, 2, 3] bcast_S8x4x2048_S8x1x4x2048_0_2_3 l2⟩,
      ⟨S8x1x4x2048, broadcastInDim S8x1x4x2048 ![0, 2, 3] bcast_S8x4x2048_S8x1x4x2048_0_2_3 l3⟩]
    concatenates_S8x1x4x2048_S8x1x4x2048_S8x1x4x2048_S8x1x4x2048_S8x4x4x2048_d1

variable (x : (⟨S8x4x4096, .f32⟩ : BufTy).Contents (Elt Ideal)) (g : (⟨S4096, .f32⟩ : BufTy).Contents (Elt Ideal))
  (s : (⟨S8x24576, .f32⟩ : BufTy).Contents (Elt Ideal)) (w : (⟨S4096x9216, .f32⟩ : BufTy).Contents (Elt Ideal))
  (l0 l1 l2 : (⟨S8x4x2048, .f32⟩ : BufTy).Contents (Elt Ideal))

theorem ref_invRms (b : Fin 8) (p : Fin 4) : val_main_v14 (F := Ideal) x (ix3 b p 0) = invRms x b p := by
  rw [val_main_v14_apply, val_main_v13_apply, val_main_v11_apply, val_main_v9_apply, val_main_v8_apply, val_main_v10_apply,
    val_main_v12_apply, val_main_cst_apply, val_main_cst_0_apply, val_main_cst_1_apply]
  show Ideal.rsqrt (Ideal.div (Ideal.ofBits .f32 0x00000000#32 + ∑ k : Fin 4096, _) (Ideal.ofBits .f32 _) + Ideal.ofBits .f32 _) = _
  rw [Ideal.ofBits_zero_f32, zero_add]
  unfold invRms width tiny
  refine congrArg (fun z => Ideal.rsqrt (Ideal.div z _ + _)) (Finset.sum_congr rfl fun k _ => ?_)
  rw [val_main_v7_apply]
  have e : idx_main_v8 (idx_main_v9 (ix3 b p 0)) k = ix3 b p k :=
    funext fun a => match a with | ⟨0, _⟩ => rfl | ⟨1, _⟩ => rfl | ⟨2, _⟩ => rfl
  rw [e]
  rfl

theorem ref_normed (b : Fin 8) (p : Fin 4) (d : Fin 4096) :
    val_main_v25 (F := Ideal) x g s (ix3 b p d) = normed x g s b p d := by
  rw [val_main_v25_apply, val_main_v23_apply, val_main_v19_apply, val_main_v16_apply, val_main_v15_apply, val_main_v18_apply,
    val_main_v17_apply, val_main_v22_apply, val_main_v21_apply, val_main_v20_apply, val_main_cst_2_apply, val_main_v2_apply,
    val_main_v24_apply, val_main_v1_apply, val_main_v0_apply, val_main_v0_apply]
  have e1 : idx_main_v15 (ix3 b p d) = ix3 b p 0 := funext fun a => match a with | ⟨0, _⟩ => rfl | ⟨1, _⟩ => rfl | ⟨2, _⟩ => rfl
  have e2 : idx_main_v17 (idx_main_v18 (ix3 b p d)) = ix1 d := funext fun a => match a with | ⟨0, _⟩ => rfl
  have e3 : idx_main_v0 (idx_main_v2 (idx_main_v22 (ix3 b p d))) = ix2 b ⟨4096 + d.val, by omega⟩ :=
    funext fun a => match a with | ⟨0, _⟩ => rfl | ⟨1, _⟩ => rfl
  have e4 : idx_main_v0 (idx_main_v1 (idx_main_v24 (ix3 b p d))) = ix2 b ⟨d.val, by omega⟩ :=
    funext fun a => match a with | ⟨0, _⟩ => rfl | ⟨1, _⟩ => rfl
  rw [e1, e2, e3, e4, ref_invRms]
  rfl

theorem ref_entry (b : Fin 8) (p : Fin 4) (q : Fin 9216) :
    val_main_v26 (F := Ideal) x g s w (ix3 b p q) = entry x g s w b p q := by
  rw [val_main_v26_apply]
  refine Finset.sum_congr rfl fun k _ => ?_
  have e1 : lidx_main_v26 (ix3 b p q) k = ix3 b p k := funext fun a => match a with | ⟨0, _⟩ => rfl | ⟨1, _⟩ => rfl | ⟨2, _⟩ => rfl
  have e2 : ridx_main_v26 (ix3 b p q) k = ix2 k q := funext fun a => match a with | ⟨0, _⟩ => rfl | ⟨1, _⟩ => rfl
  rw [e1, e2, ref_normed]

theorem ref_entry_of (i : S8x4x9216.Idx) (b : Fin 8) (p : Fin 4) (q : Fin 9216) (h0 : (i 0).val = b.val)
    (h1 : (i 1).val = p.val) (h2 : (i 2).val = q.val) : val_main_v26 (F := Ideal) x g s w i = entry x g s w b p q := by
  rw [← ref_entry x g s w]
  refine congrArg _ (funext fun a => Fin.ext ?_)
  match a with
  | ⟨0, _⟩ => exact h0
  | ⟨1, _⟩ => exact h1
  | ⟨2, _⟩ => exact h2

theorem ref_product : val_main_v32 (F := Ideal) x g s w = stacked (entry x g s w) := by
  funext i
  rw [val_main_v32_apply]
  have h0 : (i 0).val < 32 := (i 0).isLt
  have h1 : (i 1).val < 9216 := (i 1).isLt
  refine ref_entry_of x g s w _ _ _ _ ?_ ?_ ?_
  all_goals (simp only [idx_main_v32]; omega)

theorem ref_columns_k : val_main_v30 (F := Ideal) x g s w = columns 5120 (by omega) x g s w := by
  funext i
  rw [val_main_v30_apply]
  exact ref_entry_of x g s w _ _ _ _ rfl rfl rfl

theorem ref_columns_v : val_main_v31 (F := Ideal) x g s w = columns 7168 (by omega) x g s w := by
  funext i
  rw [val_main_v31_apply]
  exact ref_entry_of x g s w _ _ _ _ rfl rfl rfl

theorem ref_keys : val_main_v37 (F := Ideal) x g s w l0 l1 l2 = sideBySide l0 l1 l2 (columns 5120 (by omega) x g s w) := by
  rw [← ref_columns_k]
  rfl

theorem ref_values : val_main_v42 (F := Ideal) x g s w l0 l1 l2 = sideBySide l0 l1 l2 (columns 7168 (by omega) x g s w) := by
  rw [← ref_columns_v]
  rfl

end Cert.Proof.SampleProj
-- ==== Proof.SampleProjValue.lean ====
/-
  The kernel of the samples' rows times the layer's weights: the arrays its launch and the host operations after it leave, as
  functions of the arrays it is given.
-/
module

public import proofs.«01_k».proof.Proof.SampleProjBody
public import proofs.«01_k».proof.Proof.SampleProjReference
public import Idealize.ShloMosaic.Lib.ValueLayoutCasts
public import Idealize.ShloMosaic.Lib.MatmulPlain
public import Idealize.ShloMosaic.Lib.IdealHost
public import Idealize.ShloMosaic.Lib.Pipeline.ValueKit

@[expose] public section

set_option maxHeartbeats 1000000

noncomputable section

namespace Cert.Proof.SampleProj

open Cert.Kernel8Ideal Cert.Kernel8Ideal.Gen
open Idealize.ShloMosaic hiding ix1 ix2 ix3 ix4
open Idealize.ShloMosaic.TcCoe Idealize.ShloMosaic.ValueIdx Idealize.SL.Sem
open Cert.Proof.Norm (Gains Weights width tiny one)
open Cert.Proof.Sample (Input Mods Layer invRms gained stacked stacked_apply normed entry columns)
open scoped BigOperators

variable (m : (ℓ : Loc nD τ sig) → Buf (Elt Ideal) ℓ)

/-! ## The arrays the call is given -/

abbrev input (c : Dev nD) : Input := m ((c.tc : Thread nD τ).loc main_arg0)
abbrev gains (c : Dev nD) : Gains := m ((c.tc : Thread nD τ).loc main_arg1)
abbrev mods (c : Dev nD) : Mods := m ((c.tc : Thread nD τ).loc main_arg2)
abbrev weights (c : Dev nD) : Weights := m ((c.tc : Thread nD τ).loc main_arg3)

theorem V_0 (c : Dev nD) : V m c main_v0 = shapeCast S32x4096 (m ((c : Thread nD τ).loc main_arg0)) shapeCasts_S8x4x4096_S32x4096 := by
  show StableHlo.after hostOps0 (fun b => m (c, b)) main_v0 = _
  after_results
  rfl
theorem V_3 (c : Dev nD) : V m c main_v3 = shapeCast S1x32x24576 (shapeCast S32x24576
    (broadcastInDim S8x4x24576 ![0, 2] bcast_S8x24576_S8x4x24576_0_2 (m ((c : Thread nD τ).loc main_arg2)))
    shapeCasts_S8x4x24576_S32x24576) shapeCasts_S32x24576_S1x32x24576 := by
  show StableHlo.after hostOps0 (fun b => m (c, b)) main_v3 = _
  after_results
  rfl
theorem V_4 (c : Dev nD) : V m c main_v4 = m ((c : Thread nD τ).loc main_arg3) := by
  show StableHlo.after hostOps0 (fun b => m (c, b)) main_v4 = _
  after_results
  rfl
theorem V_5 (c : Dev nD) : V m c main_v5 = shapeCast S1x4096 (m ((c : Thread nD τ).loc main_arg1)) shapeCasts_S4096_S1x4096 := by
  show StableHlo.after hostOps0 (fun b => m (c, b)) main_v5 = _
  after_results
  rfl

theorem V_0_apply (c : Dev nD) (j) (b : Fin 8) (p : Fin 4) (d : Fin 4096) (h0 : (j 0).val = 4 * b.val + p.val) (h1 : (j 1).val = d.val) :
    V m c main_v0 j = input m c (ix3 b p d) := by
  rw [V_0]
  refine shapeCast_apply _ _ _ _ ?_
  refine (Shape.rowMajor_val_three (d := ![8, 4, 4096]) _).trans (Eq.trans ?_ (Shape.rowMajor_val_two (d := ![32, 4096]) _).symm)
  show (b.val * 4 + p.val) * 4096 + d.val = (j 0).val * 4096 + (j 1).val
  omega
theorem V_3_apply (c : Dev nD) (j) (b : Fin 8) (p : Fin 4) (d : Fin 24576) (h0 : (j 0).val = 0) (h1 : (j 1).val = 4 * b.val + p.val)
    (h2 : (j 2).val = d.val) : V m c main_v3 j = mods m c (ix2 b d) := by
  rw [V_3]
  refine (shapeCast_apply _ _ j (ix2 (⟨4 * b.val + p.val, by omega⟩ : Fin 32) d) ?_).trans
    ((shapeCast_apply _ _ _ (ix3 b p d) ?_).trans ?_)
  · refine (Shape.rowMajor_val_two (d := ![32, 24576]) _).trans (Eq.trans ?_ (Shape.rowMajor_val_three (d := ![1, 32, 24576]) _).symm)
    show (4 * b.val + p.val) * 24576 + d.val = ((j 0).val * 32 + (j 1).val) * 24576 + (j 2).val
    omega
  · refine (Shape.rowMajor_val_three (d := ![8, 4, 24576]) _).trans (Eq.trans ?_ (Shape.rowMajor_val_two (d := ![32, 24576]) _).symm)
    show (b.val * 4 + p.val) * 24576 + d.val = (4 * b.val + p.val) * 24576 + d.val
    omega
  · refine broadcastInDim_apply _ _ _ _ _ fun a => ?_
    match a with
    | ⟨0, _⟩ => rfl
    | ⟨1, _⟩ => rfl
theorem V_5_apply (c : Dev nD) (j) (d : Fin 4096) (h0 : (j 0).val = 0) (h1 : (j 1).val = d.val) :
    V m c main_v5 j = gains m c (ix1 d) := by
  rw [V_5]
  refine shapeCast_apply _ _ _ _ ?_
  refine (Shape.rowMajor_val_one (d := ![4096]) _).trans (Eq.trans ?_ (Shape.rowMajor_val_two (d := ![1, 4096]) _).symm)
  show d.val = (j 0).val * 4096 + (j 1).val
  omega

/-! ## The blocks of a grid point -/

theorem idx_0 : ∀ t : Fin cfg0.N, win0_0.index t 0 = 0 ∧ win0_0.index t 1 = 0 := by decide +kernel
theorem idx_1 : ∀ t : Fin cfg0.N, win0_1.index t 0 = 0 ∧ win0_1.index t 1 = 0 := by decide +kernel
theorem idx_2 : ∀ t : Fin cfg0.N, win0_2.index t 0 = 0 ∧ win0_2.index t 1 = 0 ∧ win0_2.index t 2 = 1 := by decide +kernel
theorem idx_3 : ∀ t : Fin cfg0.N, win0_3.index t 0 = 0 ∧ win0_3.index t 1 = 0 ∧ win0_3.index t 2 = 0 := by decide +kernel
theorem idx_4 : ∀ t : Fin cfg0.N, win0_4.index t 0 = 0 ∧ win0_4.index t 1 = t.val := by decide +kernel
theorem idx_5 : ∀ t : Fin cfg0.N, win0_5.index t 0 = 0 ∧ win0_5.index t 1 = t.val := by decide +kernel

theorem lt18 (t : Fin cfg0.N) : t.val < 18 := Nat.lt_of_lt_of_eq t.isLt N_0

/-- The sample of a row, its position, and the feature of a column of a grid point's block. -/
def smp (r : Fin 32) : Fin 8 := ⟨r.val / 4, by omega⟩
def pos (r : Fin 32) : Fin 4 := ⟨r.val % 4, by omega⟩
def col (t : Fin cfg0.N) (q : Fin 512) : Fin 9216 := ⟨512 * t.val + q.val, by have := lt18 t; omega⟩

theorem iblk_0 (c : Dev nD) (t : Fin cfg0.N) (r : Fin 32) (d : Fin 4096) :
    iblk m c 0 t (ix2 r d) = input m c (ix3 (smp r) (pos r) d) := by
  unfold iblk
  rw [View.read_apply]
  obtain ⟨h0, h1⟩ := idx_0 t
  refine V_0_apply m c _ _ _ _ ?_ ?_
  · blk_simp; rw [h0]; show 0 * 32 + r.val = 4 * (r.val / 4) + r.val % 4; omega
  · blk_simp; rw [h1]; show 0 * 4096 + d.val = d.val; omega
theorem iblk_1 (c : Dev nD) (t : Fin cfg0.N) (d : Fin 4096) : iblk m c 1 t (ix2 (0 : Fin 1) d) = gains m c (ix1 d) := by
  unfold iblk
  rw [View.read_apply]
  obtain ⟨h0, h1⟩ := idx_1 t
  refine V_5_apply m c _ _ ?_ ?_
  · blk_simp; rw [h0]
  · blk_simp; rw [h1]; show 0 * 4096 + d.val = d.val; omega
theorem iblk_2 (c : Dev nD) (t : Fin cfg0.N) (r : Fin 32) (d : Fin 4096) :
    iblk m c 2 t (ix3 (0 : Fin 1) r d) = mods m c (ix2 (smp r) ⟨4096 + d.val, by omega⟩) := by
  unfold iblk
  rw [View.read_apply]
  obtain ⟨h0, h1, h2⟩ := idx_2 t
  refine V_3_apply m c _ _ (pos r) _ ?_ ?_ ?_
  · blk_simp; rw [h0]
  · blk_simp; rw [h1]; show 0 * 32 + r.val = 4 * (r.val / 4) + r.val % 4; omega
  · blk_simp; rw [h2]; show 1 * 4096 + d.val = 4096 + d.val; omega
theorem iblk_3 (c : Dev nD) (t : Fin cfg0.N) (r : Fin 32) (d : Fin 4096) :
    iblk m c 3 t (ix3 (0 : Fin 1) r d) = mods m c (ix2 (smp r) ⟨d.val, by omega⟩) := by
  unfold iblk
  rw [View.read_apply]
  obtain ⟨h0, h1, h2⟩ := idx_3 t
  refine V_3_apply m c _ _ (pos r) _ ?_ ?_ ?_
  · blk_simp; rw [h0]
  · blk_simp; rw [h1]; show 0 * 32 + r.val = 4 * (r.val / 4) + r.val % 4; omega
  · blk_simp; rw [h2]; show 0 * 4096 + d.val = d.val; omega
theorem iblk_4 (c : Dev nD) (t : Fin cfg0.N) (k : Fin 4096) (q : Fin 512) :
    iblk m c 4 t (ix2 k q) = weights m c (ix2 k (col t q)) := by
  unfold iblk
  rw [View.read_apply]
  obtain ⟨h0, h1⟩ := idx_4 t
  refine (congrFun (V_4 m c) _).trans (congrArg (m ((c.tc : Thread nD τ).loc main_arg3)) (funext fun a => Fin.ext ?_))
  match a with
  | ⟨0, _⟩ => blk_simp; rw [h0]; show 0 * 4096 + k.val = k.val; omega
  | ⟨1, _⟩ => blk_simp; rw [h1]; show t.val * 512 + q.val = 512 * t.val + q.val; omega

/-! ## What a point stores, at an index -/

theorem rowSum_apply (y : FVec Ideal S32x4096 .f32) (r : Fin 32) :
    multiReduction .add [1] S32 y 0x00000000#32 reduces_S32x4096_S32 (.inl rfl) rfl (ix1 r) = ∑ k : Fin 4096, y (ix2 r k) := by
  refine (Ideal.multiReduction_add_single y _ _ _ _ (ix1 r)).trans ?_
  refine Finset.sum_congr rfl fun k _ => congrArg y (funext fun a => Fin.ext ?_)
  match a with
  | ⟨0, _⟩ => rfl
  | ⟨1, _⟩ => rfl

theorem col_apply (y : FVec Ideal S32x1 .f32) (r : Fin 32) (d : Fin 4096) :
    broadcastTo S32x4096 y broadcasts_S32x1_S32x4096 (ix2 r d) = y (ix2 r 0) :=
  broadcastTo_apply y _ _ _ fun a => by
    match a with
    | ⟨0, _⟩ => rfl
    | ⟨1, _⟩ => rfl

theorem row_apply (y : FVec Ideal S1x4096 .f32) (r : Fin 32) (d : Fin 4096) :
    broadcastTo S32x4096 y broadcasts_S1x4096_S32x4096 (ix2 r d) = y (ix2 0 d) :=
  broadcastTo_1b_ab_apply y _ r d

theorem pay1_apply (x : Vec Ideal S32x4096 .f32) (g : Vec Ideal S1x4096 .f32) (sc sh : Vec Ideal S1x32x4096 .f32) (r : Fin 32) (d : Fin 4096) :
    k0_pay1 (F := Ideal) x g sc sh (ix2 r d)
      = x (ix2 r d) * Ideal.rsqrt (Ideal.div (∑ k : Fin 4096, x (ix2 r k) * x (ix2 r k)) width + tiny) * g (ix2 0 d)
          * (one + sc (ix3 0 r d)) + sh (ix3 0 r d) := by
  unfold k0_pay1
  rw [shapeCast_self, shapeCast_self, shapeCast_self]
  show x (ix2 r d) * broadcastTo S32x4096 _ broadcasts_S32x1_S32x4096 (ix2 r d)
      * broadcastTo S32x4096 g broadcasts_S1x4096_S32x4096 (ix2 r d)
      * (one + shapeCast S32x4096 sc shapeCasts_S1x32x4096_S32x4096 (ix2 r d))
      + shapeCast S32x4096 sh shapeCasts_S1x32x4096_S32x4096 (ix2 r d) = _
  rw [col_apply, row_apply, shapeCast_1ab_ab_apply sc, shapeCast_1ab_ab_apply sh]
  show x (ix2 r d) * Ideal.rsqrt (Ideal.div (shapeCast S32x1 _ shapeCasts_S32_S32x1 (ix2 r 0)) width + tiny) * g (ix2 0 d)
      * (one + sc (ix3 0 r d)) + sh (ix3 0 r d) = _
  rw [shapeCast_a_a1_apply, rowSum_apply]
  rfl

theorem pay2_apply (h : Vec Ideal S32x4096 .bf16) (w : Vec Ideal S4096x512 .bf16) (r : Fin 32) (q : Fin 512) :
    k0_pay2 (F := Ideal) h w (ix2 r q) = ∑ k : Fin 4096, h (ix2 r k) * w (ix2 k q) := by
  unfold k0_pay2
  rw [shapeCast_self]
  refine (Ideal.matmul_plain_apply (M := 32) (K := 4096) (N := 512) none h w _ r q).trans ?_
  rw [ValueIdx.constant_apply, Ideal.ofBits_zero_f32, zero_add]

/-! ## The array the launch leaves -/

/-- The normalised rows that all points share: those of the first. -/
def shared (c : Dev nD) : Vec Ideal S32x4096 .bf16 :=
  k0_pay1 (iblk m c 0 ⟨0, by decide⟩) (iblk m c 1 ⟨0, by decide⟩) (iblk m c 2 ⟨0, by decide⟩) (iblk m c 3 ⟨0, by decide⟩)

theorem shared_apply (c : Dev nD) (r : Fin 32) (d : Fin 4096) :
    shared m c (ix2 r d) = normed (input m c) (gains m c) (mods m c) (smp r) (pos r) d := by
  unfold shared
  rw [pay1_apply, iblk_1, iblk_2, iblk_3]
  simp only [iblk_0]
  rfl

/-- What each point leaves: its output block, and the normalised rows. -/
theorem point (c : Dev nD) : ∀ (n : ℕ) (h : n < cfg0.N),
    outsAt0 m c n h = (k0_pay2 (shared m c) (iblk m c 4 ⟨n, h⟩), shared m c) := by
  intro n
  induction n with
  | zero => exact fun h => point_first m c ⟨0, h⟩ rfl
  | succ n ih =>
    intro h
    have hn : n + 1 < 18 := Nat.lt_of_lt_of_eq h N_0
    have h0 : ¬ (n + 1) % 18 = 0 := by omega
    have key : ∀ k, k = n → ∀ h', (outsAt0 m c k h').2 = shared m c := by
      rintro k rfl h'
      rw [ih]
    exact point_later m c ⟨n + 1, h⟩ h0 (shared m c) (key _ (Nat.add_sub_cancel n 1))

/-- The product, as the samples' rows one below the other. -/
abbrev product (c : Dev nD) : (⟨2, ![32, 9216]⟩ : Shape).Idx → EReal :=
  stacked (entry (input m c) (gains m c) (mods m c) (weights m c))

theorem arr_rows (c : Dev nD) : (dats m 0 c).arrAt 5 cfg0.N = product m c := by
  refine (dats m 0 c).arrAt_eq_of_covers 5 (product m c) (by decide +kernel) fun t hf y => ?_
  blk_simp
  rw [after0_5, point]
  obtain ⟨r, q, rfl⟩ : ∃ (r : Fin 32) (q : Fin 512), y = ix2 r q := ⟨y 0, y 1, ValueIdx.eq_ix2 y⟩
  obtain ⟨h0, h1⟩ := idx_5 t
  refine Eq.trans (pay2_apply _ _ r q) ?_
  simp only [iblk_4, shared_apply]
  show entry (input m c) (gains m c) (mods m c) (weights m c) (smp r) (pos r) (col t q) = _
  refine (stacked_apply (entry (input m c) (gains m c) (mods m c) (weights m c)) (smp r) (pos r) (col t q) _ ?_ ?_).symm
  · blk_simp; rw [h0]; show 0 * 32 + r.val = 4 * (r.val / 4) + r.val % 4; omega
  · blk_simp; rw [h1]; show t.val * 512 + q.val = 512 * t.val + q.val; omega

end Cert.Proof.SampleProj
-- ==== Proof.SampleProjHost.lean ====
/-
  The samples' rows times the layer's weights: what the host operations after the launch make of the product.
-/
module

public import proofs.«01_k».proof.Proof.SampleProjValue
public import Idealize.ShloMosaic.Lib.ValueLayoutCasts
public import Idealize.ShloMosaic.Lib.MatmulPlain
public import Idealize.ShloMosaic.Lib.IdealHost
public import Idealize.ShloMosaic.Lib.Pipeline.ValueKit

@[expose] public section

set_option maxHeartbeats 1000000

noncomputable section

namespace Cert.Proof.SampleProj

open Cert.Kernel8Ideal Cert.Kernel8Ideal.Gen
open Idealize.ShloMosaic hiding ix1 ix2 ix3 ix4
open Idealize.ShloMosaic.TcCoe Idealize.ShloMosaic.ValueIdx Idealize.SL.Sem
open Cert.Proof.Norm (Gains Weights width tiny one)
open Cert.Proof.Sample (Input Mods Layer invRms gained stacked stacked_apply normed entry columns)
open scoped BigOperators

variable (m : (ℓ : Loc nD τ sig) → Buf (Elt Ideal) ℓ)

/-! ## What the host operations after the launch leave -/

/-- The columns of the product that start at `o`, as the samples' rows. -/
theorem columns_apply (c : Dev nD) (o : ℕ) (ho : o ≤ 7168) (hs) :
    shapeCast S8x4x2048 (extractStridedSlice S32x2048 ![0, o] (product m c) hs) shapeCasts_S32x2048_S8x4x2048
      = columns o ho (input m c) (gains m c) (mods m c) (weights m c) := by
  funext i
  obtain ⟨b, p, d, rfl⟩ : ∃ (b : Fin 8) (p : Fin 4) (d : Fin 2048), i = ix3 b p d := ⟨i 0, i 1, i 2, ValueIdx.eq_ix3 i⟩
  refine (shapeCast_apply _ _ _ (ix2 (⟨4 * b.val + p.val, by omega⟩ : Fin 32) d) ?_).trans ?_
  · refine (Shape.rowMajor_val_two (d := ![32, 2048]) _).trans (Eq.trans ?_ (Shape.rowMajor_val_three (d := ![8, 4, 2048]) _).symm)
    show (4 * b.val + p.val) * 2048 + d.val = (b.val * 4 + p.val) * 2048 + d.val
    omega
  · refine (extractStridedSlice_apply _ _ _ _ (ix2 (⟨4 * b.val + p.val, by omega⟩ : Fin 32) (⟨o + d.val, by omega⟩ : Fin 9216)) ?_).trans ?_
    · intro a
      match a with
      | ⟨0, _⟩ => exact (Nat.zero_add _).symm
      | ⟨1, _⟩ => rfl
    · exact stacked_apply (entry (input m c) (gains m c) (mods m c) (weights m c)) b p ⟨o + d.val, by omega⟩ _ rfl rfl

/-- After the launch the arrays are what they were, but for the product. -/
theorem left_product (c : Dev nD) :
    Pipeline.withArrays spec0 c (V0 m c) (fun w => (dats m 0 c).arrAt w cfg0.N) (Proc.devRef .tc main_v6) = product m c := by
  refine (Pipeline.withArrays_arr_shared spec0 c (V0 m c) (fun w => (dats m 0 c).arrAt w cfg0.N) ?_ 5).trans (arr_rows m c)
  intro w w' hw e
  have hi : (cfg0.win w).isOut = false := (by decide : ∀ w w' : Fin 6, w ≠ w' → Pipeline.arrRef spec0 w = Pipeline.arrRef spec0 w' →
    (cfg0.win w).isOut = false) w w' hw e
  exact ((dats m 0 c).arrAt_in w hi _).trans (A_eq m c w)

theorem left_arg4 (c : Dev nD) : Pipeline.withArrays spec0 c (V0 m c) (fun w => (dats m 0 c).arrAt w cfg0.N) (Proc.devRef .tc main_arg4)
    = m ((c.tc : Thread nD τ).loc main_arg4) :=
  (Pipeline.withArrays_of_ne _ c (V0 m c) _ main_arg4 (by exact (by decide : ∀ w, Pipeline.arrRef spec0 w ≠ main_arg4))).trans (V_main_arg4 m c)
theorem left_arg5 (c : Dev nD) : Pipeline.withArrays spec0 c (V0 m c) (fun w => (dats m 0 c).arrAt w cfg0.N) (Proc.devRef .tc main_arg5)
    = m ((c.tc : Thread nD τ).loc main_arg5) :=
  (Pipeline.withArrays_of_ne _ c (V0 m c) _ main_arg5 (by exact (by decide : ∀ w, Pipeline.arrRef spec0 w ≠ main_arg5))).trans (V_main_arg5 m c)
theorem left_arg6 (c : Dev nD) : Pipeline.withArrays spec0 c (V0 m c) (fun w => (dats m 0 c).arrAt w cfg0.N) (Proc.devRef .tc main_arg6)
    = m ((c.tc : Thread nD τ).loc main_arg6) :=
  (Pipeline.withArrays_of_ne _ c (V0 m c) _ main_arg6 (by exact (by decide : ∀ w, Pipeline.arrRef spec0 w ≠ main_arg6))).trans (V_main_arg6 m c)
theorem left_arg7 (c : Dev nD) : Pipeline.withArrays spec0 c (V0 m c) (fun w => (dats m 0 c).arrAt w cfg0.N) (Proc.devRef .tc main_arg7)
    = m ((c.tc : Thread nD τ).loc main_arg7) :=
  (Pipeline.withArrays_of_ne _ c (V0 m c) _ main_arg7 (by exact (by decide : ∀ w, Pipeline.arrRef spec0 w ≠ main_arg7))).trans (V_main_arg7 m c)
theorem left_arg8 (c : Dev nD) : Pipeline.withArrays spec0 c (V0 m c) (fun w => (dats m 0 c).arrAt w cfg0.N) (Proc.devRef .tc main_arg8)
    = m ((c.tc : Thread nD τ).loc main_arg8) :=
  (Pipeline.withArrays_of_ne _ c (V0 m c) _ main_arg8 (by exact (by decide : ∀ w, Pipeline.arrRef spec0 w ≠ main_arg8))).trans (V_main_arg8 m c)
theorem left_arg9 (c : Dev nD) : Pipeline.withArrays spec0 c (V0 m c) (fun w => (dats m 0 c).arrAt w cfg0.N) (Proc.devRef .tc main_arg9)
    = m ((c.tc : Thread nD τ).loc main_arg9) :=
  (Pipeline.withArrays_of_ne _ c (V0 m c) _ main_arg9 (by exact (by decide : ∀ w, Pipeline.arrRef spec0 w ≠ main_arg9))).trans (V_main_arg9 m c)

/-- Four arrays side by side are those of four layers, if each is its layer with an axis of length one. -/
theorem sideBySide_of (p0 p1 p2 p3 : (⟨S8x1x4x2048, .f32⟩ : BufTy).Contents (Elt Ideal))
    (l0 l1 l2 l3 : (⟨S8x4x2048, .f32⟩ : BufTy).Contents (Elt Ideal)) (h)
    (h0 : p0 = broadcastInDim S8x1x4x2048 ![0, 2, 3] bcast_S8x4x2048_S8x1x4x2048_0_2_3 l0)
    (h1 : p1 = broadcastInDim S8x1x4x2048 ![0, 2, 3] bcast_S8x4x2048_S8x1x4x2048_0_2_3 l1)
    (h2 : p2 = broadcastInDim S8x1x4x2048 ![0, 2, 3] bcast_S8x4x2048_S8x1x4x2048_0_2_3 l2)
    (h3 : p3 = broadcastInDim S8x1x4x2048 ![0, 2, 3] bcast_S8x4x2048_S8x1x4x2048_0_2_3 l3) :
    concatenate S8x4x4x2048 1 [⟨S8x1x4x2048, p0⟩, ⟨S8x1x4x2048, p1⟩, ⟨S8x1x4x2048, p2⟩, ⟨S8x1x4x2048, p3⟩] h
      = sideBySide l0 l1 l2 l3 := by
  subst h0 h1 h2 h3
  rfl

theorem keys (c : Dev nD) : Pipeline.afterTail₀ cfgs (dats m) 0 (V0 m) [hostOps1] c main_v15
    = sideBySide (m ((c.tc : Thread nD τ).loc main_arg4)) (m ((c.tc : Thread nD τ).loc main_arg5)) (m ((c.tc : Thread nD τ).loc main_arg6))
        (columns 5120 (by omega) (input m c) (gains m c) (mods m c) (weights m c)) := by
  show StableHlo.after hostOps1 (Pipeline.withArrays spec0 c (V0 m c) fun w => (dats m 0 c).arrAt w cfg0.N) (Proc.devRef .tc main_v15) = _
  after_results
  refine sideBySide_of _ _ _ _ _ _ _ _ _ ?_ ?_ ?_ ?_
  · beta_reduce
    show (?W : Valuation τ sig (Elt Ideal)) (Proc.devRef .tc main_v11) = _
    after_results
    rw [left_arg4]
  · beta_reduce
    show (?W : Valuation τ sig (Elt Ideal)) (Proc.devRef .tc main_v12) = _
    after_results
    rw [left_arg5]
  · beta_reduce
    show (?W : Valuation τ sig (Elt Ideal)) (Proc.devRef .tc main_v13) = _
    after_results
    rw [left_arg6]
  · beta_reduce
    show (?W : Valuation τ sig (Elt Ideal)) (Proc.devRef .tc main_v14) = _
    after_results
    rw [left_product, ← columns_apply m c 5120 (by omega) slices_S32x9216_S32x2048_0_5120]
    rfl

theorem values (c : Dev nD) : Pipeline.afterTail₀ cfgs (dats m) 0 (V0 m) [hostOps1] c main_v20
    = sideBySide (m ((c.tc : Thread nD τ).loc main_arg7)) (m ((c.tc : Thread nD τ).loc main_arg8)) (m ((c.tc : Thread nD τ).loc main_arg9))
        (columns 7168 (by omega) (input m c) (gains m c) (mods m c) (weights m c)) := by
  show StableHlo.after hostOps1 (Pipeline.withArrays spec0 c (V0 m c) fun w => (dats m 0 c).arrAt w cfg0.N) (Proc.devRef .tc main_v20) = _
  after_results
  refine sideBySide_of _ _ _ _ _ _ _ _ _ ?_ ?_ ?_ ?_
  · beta_reduce
    show (?W : Valuation τ sig (Elt Ideal)) (Proc.devRef .tc main_v16) = _
    after_results
    rw [left_arg7]
  · beta_reduce
    show (?W : Valuation τ sig (Elt Ideal)) (Proc.devRef .tc main_v17) = _
    after_results
    rw [left_arg8]
  · beta_reduce
    show (?W : Valuation τ sig (Elt Ideal)) (Proc.devRef .tc main_v18) = _
    after_results
    rw [left_arg9]
  · beta_reduce
    show (?W : Valuation τ sig (Elt Ideal)) (Proc.devRef .tc main_v19) = _
    after_results
    rw [left_product, ← columns_apply m c 7168 (by omega) slices_S32x9216_S32x2048_0_7168]
    rfl

end Cert.Proof.SampleProj
-- ==== Proof.SampleProjClaims.lean ====
module

public import proofs.«01_k».proof.Defs
public import proofs.«01_k».proof.Proof.Gen.Kernel8
public import proofs.«01_k».proof.Proof.Gen.Reference8Ideal.Run
public import proofs.«01_k».proof.Proof.SampleProjHost
public import proofs.«01_k».proof.Proof.SampleProjReference
public import Idealize.ShloMosaic.Lib.Quiescent

@[expose] public section

set_option maxHeartbeats 1000000

noncomputable section

/-! The claims of the samples' rows times the layer's weights: its frames, and that kernel and reference give the same arrays. -/

namespace Cert.Proof.SampleProj

open Idealize.ShloMosaic hiding ix1 ix2 ix3 ix4
open Idealize.ShloMosaic.TcCoe Idealize.ShloMosaic.ValueIdx Idealize.SL.Sem
open Cert.Proof.Sample (columns)

/-! ## The frames -/

/-! The two programs have one text, so one run serves for both. -/

section

variable {F : FTy → Type} [FloatOps F]
attribute [local instance] Cert.Kernel8.Gen.facts Cert.Kernel8Ideal.Gen.facts
set_option maxRecDepth 16384

theorem body_eq : @Cert.Kernel8.cc0_normproj F _ _ = @Cert.Kernel8Ideal.cc0_normproj F _ _ := rfl

theorem calls_eq : Cert.Kernel8.defs₀ (F := F) = Cert.Kernel8Ideal.defs₀ (F := F) := by
  unfold Cert.Kernel8.defs₀ Cert.Kernel8Ideal.defs₀
  rw [body_eq]
  refine congrArg Defs.onTc (funext fun l => funext fun p => ?_)
  match l, p with
  | 0, (t, s) => rfl
  | ⟨_ + 1, h⟩, _ => exact absurd h (Nat.not_lt.2 (Nat.le_add_left _ _))

theorem defs_eq : Cert.Kernel8.defs (F := F) = Cert.Kernel8Ideal.defs (F := F) := by
  unfold Cert.Kernel8.defs Cert.Kernel8Ideal.defs
  rw [calls_eq]
  rfl

end

theorem frame_kernel : Cert.quiescent_Kernel8 (hKernel8 := Cert.Kernel8.Gen.facts) := fun m ρ _ => by
  rw [defs_eq]
  exact (θ_run Cert.Kernel8Ideal.defs _ _).mono (fun _ h => h) (Cert.Kernel8Ideal.Gen.frame (F := Bits) m ρ)

theorem frame_ideal : Cert.quiescent_Kernel8Ideal (hKernel8Ideal := Cert.Kernel8Ideal.Gen.facts) := fun m ρ _ =>
  Cert.Kernel8Ideal.Gen.frame m ρ

theorem frame_reference : Cert.quiescent_Reference8Ideal (hReference8Ideal := Cert.Reference8Ideal.Gen.facts) := fun m ρ _ =>
  (θ_run Cert.Reference8Ideal.defs _ _).mono (fun r h => ⟨fun c => (h c).2.2.2, sem_eq_zero_of_no_sems (by decide) _⟩)
    (Cert.Reference8Ideal.Value.run m ρ)

/-! ## The value -/

theorem equal : Cert.algebraic_Kernel8Ideal_Reference8Ideal
    (hKernel8Ideal := Cert.Kernel8Ideal.Gen.facts) (hReference8Ideal := Cert.Reference8Ideal.Gen.facts) := by
  intro m ρ m' ρ' _ hagree
  refine ⟨fun c => product m c,
    fun c => sideBySide (m ((c.tc : Thread _ _).loc Cert.Kernel8Ideal.main_arg4)) (m ((c.tc : Thread _ _).loc Cert.Kernel8Ideal.main_arg5))
      (m ((c.tc : Thread _ _).loc Cert.Kernel8Ideal.main_arg6)) (columns 5120 (by omega) (input m c) (gains m c) (mods m c) (weights m c)),
    fun c => sideBySide (m ((c.tc : Thread _ _).loc Cert.Kernel8Ideal.main_arg7)) (m ((c.tc : Thread _ _).loc Cert.Kernel8Ideal.main_arg8))
      (m ((c.tc : Thread _ _).loc Cert.Kernel8Ideal.main_arg9)) (columns 7168 (by omega) (input m c) (gains m c) (mods m c) (weights m c)), ?_, ?_⟩
  · exact (θ_run Cert.Kernel8Ideal.defs _ _).mono (fun r h c =>
      ⟨((h.1 c).1 5).trans (arr_rows m c),
        ((h.1 c).2 Cert.Kernel8Ideal.main_v15 (Pipeline.mem_restRefs_of Cert.Kernel8Ideal.main_v15 (by decide) (by decide))).trans (keys m c),
        ((h.1 c).2 Cert.Kernel8Ideal.main_v20 (Pipeline.mem_restRefs_of Cert.Kernel8Ideal.main_v20 (by decide) (by decide))).trans (values m c),
        h.2 c⟩)
      (θ_run_and (Cert.Kernel8Ideal.Gen.run_main m ρ) (Cert.Kernel8Ideal.Gen.unchanged m ρ))
  · refine (θ_run Cert.Reference8Ideal.defs _ _).mono (fun r h c => ⟨((h c).1).trans ?_, ((h c).2.1).trans ?_, ((h c).2.2.1).trans ?_, (h c).2.2.2⟩)
      (Cert.Reference8Ideal.Value.run m' ρ')
    all_goals obtain ⟨h0, h1, h2, h3, h4, h5, h6, h7, h8, h9⟩ := hagree c
    · rw [Cert.Reference8Ideal.Read.val_main_v32_eq, h0, h1, h2, h3]
      exact ref_product _ _ _ _
    · rw [Cert.Reference8Ideal.Read.val_main_v37_eq, h0, h1, h2, h3, h4, h5, h6]
      exact ref_keys _ _ _ _ _ _ _
    · rw [Cert.Reference8Ideal.Read.val_main_v42_eq, h0, h1, h2, h3, h7, h8, h9]
      exact ref_values _ _ _ _ _ _ _

end Cert.Proof.SampleProj

end
-- ==== Proof.lean ====
/- The claims of the certificate, put together from the modules under Proof/. -/
module

public import proofs.«01_k».proof.Defs
public import proofs.«01_k».proof.Proof.Claims
public import proofs.«01_k».proof.Proof.NormClaims
public import proofs.«01_k».proof.Proof.OutClaims
public import proofs.«01_k».proof.Proof.QueryClaims
public import proofs.«01_k».proof.Proof.FinalClaims
public import proofs.«01_k».proof.Proof.SampleClaims
public import proofs.«01_k».proof.Proof.ModulationClaims
public import proofs.«01_k».proof.Proof.SampleProjClaims

@[expose] public section

noncomputable section

namespace Cert.Proof

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Attn.frame_kernel, Attn.frame_ideal, Attn.frame_reference,
    Norm.frame_kernel, Norm.frame_ideal, Norm.frame_reference,
    Out.frame_kernel, Out.frame_ideal, Out.frame_reference,
    Query.frame_kernel, Query.frame_ideal, Query.frame_reference,
    Final.frame_kernel, Final.frame_ideal, Final.frame_reference,
    Sample.frame_kernel, Sample.frame_ideal, Sample.frame_reference,
    Modulation.frame_kernel, Modulation.frame_ideal, Modulation.frame_reference,
    SampleProj.frame_kernel, SampleProj.frame_ideal, SampleProj.frame_reference,
    trivial, Attn.equal, trivial, Norm.equal, trivial, Out.equal, trivial, Query.equal, trivial, Final.equal,
    trivial, Sample.equal, trivial, Modulation.equal, trivial, SampleProj.equal⟩

end Cert.Proof

end
